-- ==== Defs.lean ====
def Pre_Kernel [hPre_blocks_of_experts : Cert.Pre_blocks_of_experts.Facts] (m : (ℓ : Loc Cert.Kernel.nD Cert.Kernel.τ Cert.Kernel.sig) → Buf (Elt Bits) ℓ) : Prop :=
  ∀ c : Dev Cert.Kernel.nD,
    (Cert.Pre_blocks_of_experts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_blocks_of_experts : Cert.Pre_blocks_of_experts.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_of_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_blocks_of_experts : Cert.Pre_blocks_of_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_blocks_of_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_EvenInCtx (m : (ℓ : Loc Cert.EvenInCtx.nD Cert.EvenInCtx.τ Cert.EvenInCtx.sig) → Buf (Elt Bits) ℓ) : Prop :=
  True

def Pre_EvenInCtxIdeal (m : (ℓ : Loc Cert.EvenInCtxIdeal.nD Cert.EvenInCtxIdeal.τ Cert.EvenInCtxIdeal.sig) → Buf (Elt Ideal) ℓ) : Prop :=
  True

def Pre_EvenInCtxRefIdeal (m : (ℓ : Loc Cert.EvenInCtxRefIdeal.nD Cert.EvenInCtxRefIdeal.τ Cert.EvenInCtxRefIdeal.sig) → Buf (Elt Ideal) ℓ) : Prop :=
  True

def Pre_OddInCtx (m : (ℓ : Loc Cert.OddInCtx.nD Cert.OddInCtx.τ Cert.OddInCtx.sig) → Buf (Elt Bits) ℓ) : Prop :=
  True

def Pre_OddInCtxIdeal (m : (ℓ : Loc Cert.OddInCtxIdeal.nD Cert.OddInCtxIdeal.τ Cert.OddInCtxIdeal.sig) → Buf (Elt Ideal) ℓ) : Prop :=
  True

def Pre_OddInCtxRefIdeal (m : (ℓ : Loc Cert.OddInCtxRefIdeal.nD Cert.OddInCtxRefIdeal.τ Cert.OddInCtxRefIdeal.sig) → Buf (Elt Ideal) ℓ) : Prop :=
  True

def Pre_OutProjCtx (m : (ℓ : Loc Cert.OutProjCtx.nD Cert.OutProjCtx.τ Cert.OutProjCtx.sig) → Buf (Elt Bits) ℓ) : Prop :=
  True

def Pre_OutProjCtxIdeal (m : (ℓ : Loc Cert.OutProjCtxIdeal.nD Cert.OutProjCtxIdeal.τ Cert.OutProjCtxIdeal.sig) → Buf (Elt Ideal) ℓ) : Prop :=
  True

def Pre_OutProjCtxRefIdeal (m : (ℓ : Loc Cert.OutProjCtxRefIdeal.nD Cert.OutProjCtxRefIdeal.τ Cert.OutProjCtxRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite_arguments [hPre_finite_arguments : Cert.Pre_finite_arguments.Facts] (m : (ℓ : Loc Cert.RouteIdeal.nD Cert.RouteIdeal.τ Cert.RouteIdeal.sig) → Buf (Elt Ideal) ℓ) : Prop :=
  ∀ c : Dev Cert.RouteIdeal.nD,
    (Cert.Pre_finite_arguments.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_finite_arguments [hPre_finite_arguments : Cert.Pre_finite_arguments.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_finite_arguments.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishRefIdeal (m : (ℓ : Loc Cert.FinishRefIdeal.nD Cert.FinishRefIdeal.τ Cert.FinishRefIdeal.sig) → Buf (Elt Ideal) ℓ) : Prop :=
  True

def quiescent_Kernel [hKernel : Cert.Kernel.Facts] [hPre_blocks_of_experts : Cert.Pre_blocks_of_experts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_blocks_of_experts : Cert.Pre_blocks_of_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_blocks_of_experts : Cert.Pre_blocks_of_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_EvenInCtx [hEvenInCtx : Cert.EvenInCtx.Facts] : Prop :=
  ∀ (m : (ℓ : Loc Cert.EvenInCtx.nD Cert.EvenInCtx.τ Cert.EvenInCtx.sig) → Buf (Elt Bits) ℓ) (g : Dev Cert.EvenInCtx.nD → PrngReg), Pre_EvenInCtx m →
    θ_run (Cert.EvenInCtx.defs (F := Bits)) (onTc (τ := Cert.EvenInCtx.τ) (Cert.EvenInCtx.main (F := Bits))) ⟨m, fun _ => 0, g⟩ (fun r => (∀ c : Dev Cert.EvenInCtx.nD,
      r.2.mem ((c.tc : Thread Cert.EvenInCtx.nD Cert.EvenInCtx.τ).loc Cert.EvenInCtx.main_arg0) = m ((c.tc : Thread Cert.EvenInCtx.nD Cert.EvenInCtx.τ).loc Cert.EvenInCtx.main_arg0)
      ∧ r.2.mem ((c.tc : Thread Cert.EvenInCtx.nD Cert.EvenInCtx.τ).loc Cert.EvenInCtx.main_arg1) = m ((c.tc : Thread Cert.EvenInCtx.nD Cert.EvenInCtx.τ).loc Cert.EvenInCtx.main_arg1))
      ∧ r.2.sem = fun _ => 0)

def quiescent_EvenInCtxIdeal [hEvenInCtxIdeal : Cert.EvenInCtxIdeal.Facts] : Prop :=
  ∀ (m : (ℓ : Loc Cert.EvenInCtxIdeal.nD Cert.EvenInCtxIdeal.τ Cert.EvenInCtxIdeal.sig) → Buf (Elt Ideal) ℓ) (g : Dev Cert.EvenInCtxIdeal.nD → PrngReg), Pre_EvenInCtxIdeal m →
    θ_run (Cert.EvenInCtxIdeal.defs (F := Ideal)) (onTc (τ := Cert.EvenInCtxIdeal.τ) (Cert.EvenInCtxIdeal.main (F := Ideal))) ⟨m, fun _ => 0, g⟩ (fun r => (∀ c : Dev Cert.EvenInCtxIdeal.nD,
      r.2.mem ((c.tc : Thread Cert.EvenInCtxIdeal.nD Cert.EvenInCtxIdeal.τ).loc Cert.EvenInCtxIdeal.main_arg0) = m ((c.tc : Thread Cert.EvenInCtxIdeal.nD Cert.EvenInCtxIdeal.τ).loc Cert.EvenInCtxIdeal.main_arg0)
      ∧ r.2.mem ((c.tc : Thread Cert.EvenInCtxIdeal.nD Cert.EvenInCtxIdeal.τ).loc Cert.EvenInCtxIdeal.main_arg1) = m ((c.tc : Thread Cert.EvenInCtxIdeal.nD Cert.EvenInCtxIdeal.τ).loc Cert.EvenInCtxIdeal.main_arg1))
      ∧ r.2.sem = fun _ => 0)

def quiescent_EvenInCtxRefIdeal [hEvenInCtxRefIdeal : Cert.EvenInCtxRefIdeal.Facts] : Prop :=
  ∀ (m : (ℓ : Loc Cert.EvenInCtxRefIdeal.nD Cert.EvenInCtxRefIdeal.τ Cert.EvenInCtxRefIdeal.sig) → Buf (Elt Ideal) ℓ) (g : Dev Cert.EvenInCtxRefIdeal.nD → PrngReg), Pre_EvenInCtxRefIdeal m →
    θ_run (Cert.EvenInCtxRefIdeal.defs (F := Ideal)) (onTc (τ := Cert.EvenInCtxRefIdeal.τ) (Cert.EvenInCtxRefIdeal.main (F := Ideal))) ⟨m, fun _ => 0, g⟩ (fun r => (∀ c : Dev Cert.EvenInCtxRefIdeal.nD,
      r.2.mem ((c.tc : Thread Cert.EvenInCtxRefIdeal.nD Cert.EvenInCtxRefIdeal.τ).loc Cert.EvenInCtxRefIdeal.main_arg0) = m ((c.tc : Thread Cert.EvenInCtxRefIdeal.nD Cert.EvenInCtxRefIdeal.τ).loc Cert.EvenInCtxRefIdeal.main_arg0)
      ∧ r.2.mem ((c.tc : Thread Cert.EvenInCtxRefIdeal.nD Cert.EvenInCtxRefIdeal.τ).loc Cert.EvenInCtxRefIdeal.main_arg1) = m ((c.tc : Thread Cert.EvenInCtxRefIdeal.nD Cert.EvenInCtxRefIdeal.τ).loc Cert.EvenInCtxRefIdeal.main_arg1))
      ∧ r.2.sem = fun _ => 0)

def quiescent_OddInCtx [hOddInCtx : Cert.OddInCtx.Facts] : Prop :=
  ∀ (m : (ℓ : Loc Cert.OddInCtx.nD Cert.OddInCtx.τ Cert.OddInCtx.sig) → Buf (Elt Bits) ℓ) (g : Dev Cert.OddInCtx.nD → PrngReg), Pre_OddInCtx m →
    θ_run (Cert.OddInCtx.defs (F := Bits)) (onTc (τ := Cert.OddInCtx.τ) (Cert.OddInCtx.main (F := Bits))) ⟨m, fun _ => 0, g⟩ (fun r => (∀ c : Dev Cert.OddInCtx.nD,
      r.2.mem ((c.tc : Thread Cert.OddInCtx.nD Cert.OddInCtx.τ).loc Cert.OddInCtx.main_arg0) = m ((c.tc : Thread Cert.OddInCtx.nD Cert.OddInCtx.τ).loc Cert.OddInCtx.main_arg0)
      ∧ r.2.mem ((c.tc : Thread Cert.OddInCtx.nD Cert.OddInCtx.τ).loc Cert.OddInCtx.main_arg1) = m ((c.tc : Thread Cert.OddInCtx.nD Cert.OddInCtx.τ).loc Cert.OddInCtx.main_arg1))
      ∧ r.2.sem = fun _ => 0)

def quiescent_OddInCtxIdeal [hOddInCtxIdeal : Cert.OddInCtxIdeal.Facts] : Prop :=
  ∀ (m : (ℓ : Loc Cert.OddInCtxIdeal.nD Cert.OddInCtxIdeal.τ Cert.OddInCtxIdeal.sig) → Buf (Elt Ideal) ℓ) (g : Dev Cert.OddInCtxIdeal.nD → PrngReg), Pre_OddInCtxIdeal m →
    θ_run (Cert.OddInCtxIdeal.defs (F := Ideal)) (onTc (τ := Cert.OddInCtxIdeal.τ) (Cert.OddInCtxIdeal.main (F := Ideal))) ⟨m, fun _ => 0, g⟩ (fun r => (∀ c : Dev Cert.OddInCtxIdeal.nD,
      r.2.mem ((c.tc : Thread Cert.OddInCtxIdeal.nD Cert.OddInCtxIdeal.τ).loc Cert.OddInCtxIdeal.main_arg0) = m ((c.tc : Thread Cert.OddInCtxIdeal.nD Cert.OddInCtxIdeal.τ).loc Cert.OddInCtxIdeal.main_arg0)
      ∧ r.2.mem ((c.tc : Thread Cert.OddInCtxIdeal.nD Cert.OddInCtxIdeal.τ).loc Cert.OddInCtxIdeal.main_arg1) = m ((c.tc : Thread Cert.OddInCtxIdeal.nD Cert.OddInCtxIdeal.τ).loc Cert.OddInCtxIdeal.main_arg1))
      ∧ r.2.sem = fun _ => 0)

def quiescent_OddInCtxRefIdeal [hOddInCtxRefIdeal : Cert.OddInCtxRefIdeal.Facts] : Prop :=
  ∀ (m : (ℓ : Loc Cert.OddInCtxRefIdeal.nD Cert.OddInCtxRefIdeal.τ Cert.OddInCtxRefIdeal.sig) → Buf (Elt Ideal) ℓ) (g : Dev Cert.OddInCtxRefIdeal.nD → PrngReg), Pre_OddInCtxRefIdeal m →
    θ_run (Cert.OddInCtxRefIdeal.defs (F := Ideal)) (onTc (τ := Cert.OddInCtxRefIdeal.τ) (Cert.OddInCtxRefIdeal.main (F := Ideal))) ⟨m, fun _ => 0, g⟩ (fun r => (∀ c : Dev Cert.OddInCtxRefIdeal.nD,
      r.2.mem ((c.tc : Thread Cert.OddInCtxRefIdeal.nD Cert.OddInCtxRefIdeal.τ).loc Cert.OddInCtxRefIdeal.main_arg0) = m ((c.tc : Thread Cert.OddInCtxRefIdeal.nD Cert.OddInCtxRefIdeal.τ).loc Cert.OddInCtxRefIdeal.main_arg0)
      ∧ r.2.mem ((c.tc : Thread Cert.OddInCtxRefIdeal.nD Cert.OddInCtxRefIdeal.τ).loc Cert.OddInCtxRefIdeal.main_arg1) = m ((c.tc : Thread Cert.OddInCtxRefIdeal.nD Cert.OddInCtxRefIdeal.τ).loc Cert.OddInCtxRefIdeal.main_arg1))
      ∧ r.2.sem = fun _ => 0)

def quiescent_OutProjCtx [hOutProjCtx : Cert.OutProjCtx.Facts] : Prop :=
  ∀ (m : (ℓ : Loc Cert.OutProjCtx.nD Cert.OutProjCtx.τ Cert.OutProjCtx.sig) → Buf (Elt Bits) ℓ) (g : Dev Cert.OutProjCtx.nD → PrngReg), Pre_OutProjCtx m →
    θ_run (Cert.OutProjCtx.defs (F := Bits)) (onTc (τ := Cert.OutProjCtx.τ) (Cert.OutProjCtx.main (F := Bits))) ⟨m, fun _ => 0, g⟩ (fun r => (∀ c : Dev Cert.OutProjCtx.nD,
      r.2.mem ((c.tc : Thread Cert.OutProjCtx.nD Cert.OutProjCtx.τ).loc Cert.OutProjCtx.main_arg0) = m ((c.tc : Thread Cert.OutProjCtx.nD Cert.OutProjCtx.τ).loc Cert.OutProjCtx.main_arg0)
      ∧ r.2.mem ((c.tc : Thread Cert.OutProjCtx.nD Cert.OutProjCtx.τ).loc Cert.OutProjCtx.main_arg1) = m ((c.tc : Thread Cert.OutProjCtx.nD Cert.OutProjCtx.τ).loc Cert.OutProjCtx.main_arg1))
      ∧ r.2.sem = fun _ => 0)

def quiescent_OutProjCtxIdeal [hOutProjCtxIdeal : Cert.OutProjCtxIdeal.Facts] : Prop :=
  ∀ (m : (ℓ : Loc Cert.OutProjCtxIdeal.nD Cert.OutProjCtxIdeal.τ Cert.OutProjCtxIdeal.sig) → Buf (Elt Ideal) ℓ) (g : Dev Cert.OutProjCtxIdeal.nD → PrngReg), Pre_OutProjCtxIdeal m →
    θ_run (Cert.OutProjCtxIdeal.defs (F := Ideal)) (onTc (τ := Cert.OutProjCtxIdeal.τ) (Cert.OutProjCtxIdeal.main (F := Ideal))) ⟨m, fun _ => 0, g⟩ (fun r => (∀ c : Dev Cert.OutProjCtxIdeal.nD,
      r.2.mem ((c.tc : Thread Cert.OutProjCtxIdeal.nD Cert.OutProjCtxIdeal.τ).loc Cert.OutProjCtxIdeal.main_arg0) = m ((c.tc : Thread Cert.OutProjCtxIdeal.nD Cert.OutProjCtxIdeal.τ).loc Cert.OutProjCtxIdeal.main_arg0)
      ∧ r.2.mem ((c.tc : Thread Cert.OutProjCtxIdeal.nD Cert.OutProjCtxIdeal.τ).loc Cert.OutProjCtxIdeal.main_arg1) = m ((c.tc : Thread Cert.OutProjCtxIdeal.nD Cert.OutProjCtxIdeal.τ).loc Cert.OutProjCtxIdeal.main_arg1))
      ∧ r.2.sem = fun _ => 0)

def quiescent_OutProjCtxRefIdeal [hOutProjCtxRefIdeal : Cert.OutProjCtxRefIdeal.Facts] : Prop :=
  ∀ (m : (ℓ : Loc Cert.OutProjCtxRefIdeal.nD Cert.OutProjCtxRefIdeal.τ Cert.OutProjCtxRefIdeal.sig) → Buf (Elt Ideal) ℓ) (g : Dev Cert.OutProjCtxRefIdeal.nD → PrngReg), Pre_OutProjCtxRefIdeal m →
    θ_run (Cert.OutProjCtxRefIdeal.defs (F := Ideal)) (onTc (τ := Cert.OutProjCtxRefIdeal.τ) (Cert.OutProjCtxRefIdeal.main (F := Ideal))) ⟨m, fun _ => 0, g⟩ (fun r => (∀ c : Dev Cert.OutProjCtxRefIdeal.nD,
      r.2.mem ((c.tc : Thread Cert.OutProjCtxRefIdeal.nD Cert.OutProjCtxRefIdeal.τ).loc Cert.OutProjCtxRefIdeal.main_arg0) = m ((c.tc : Thread Cert.OutProjCtxRefIdeal.nD Cert.OutProjCtxRefIdeal.τ).loc Cert.OutProjCtxRefIdeal.main_arg0)
      ∧ r.2.mem ((c.tc : Thread Cert.OutProjCtxRefIdeal.nD Cert.OutProjCtxRefIdeal.τ).loc Cert.OutProjCtxRefIdeal.main_arg1) = m ((c.tc : Thread Cert.OutProjCtxRefIdeal.nD Cert.OutProjCtxRefIdeal.τ).loc Cert.OutProjCtxRefIdeal.main_arg1))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteIdeal_pre_finite_arguments [hRouteIdeal : Cert.RouteIdeal.Facts] [hPre_finite_arguments : Cert.Pre_finite_arguments.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite_arguments m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def quiescent_RouteRefIdeal_pre_finite_arguments [hRouteRefIdeal : Cert.RouteRefIdeal.Facts] [hPre_finite_arguments : Cert.Pre_finite_arguments.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_finite_arguments m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8)
      ∧ r.2.mem ((c.tc : Thread Cert.Finish.nD Cert.Finish.τ).loc Cert.Finish.main_arg9) = m ((c.tc : Thread Cert.Finish.nD Cert.Finish.τ).loc Cert.Finish.main_arg9)
      ∧ r.2.mem ((c.tc : Thread Cert.Finish.nD Cert.Finish.τ).loc Cert.Finish.main_arg10) = m ((c.tc : Thread Cert.Finish.nD Cert.Finish.τ).loc Cert.Finish.main_arg10)
      ∧ r.2.mem ((c.tc : Thread Cert.Finish.nD Cert.Finish.τ).loc Cert.Finish.main_arg11) = m ((c.tc : Thread Cert.Finish.nD Cert.Finish.τ).loc Cert.Finish.main_arg11))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
      ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10)
      ∧ r.2.mem ((c.tc : Thread Cert.FinishIdeal.nD Cert.FinishIdeal.τ).loc Cert.FinishIdeal.main_arg11) = m ((c.tc : Thread Cert.FinishIdeal.nD Cert.FinishIdeal.τ).loc Cert.FinishIdeal.main_arg11))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4)
      ∧ r.2.mem ((c.tc : Thread Cert.FinishRefIdeal.nD Cert.FinishRefIdeal.τ).loc Cert.FinishRefIdeal.main_arg5) = m ((c.tc : Thread Cert.FinishRefIdeal.nD Cert.FinishRefIdeal.τ).loc Cert.FinishRefIdeal.main_arg5)
      ∧ r.2.mem ((c.tc : Thread Cert.FinishRefIdeal.nD Cert.FinishRefIdeal.τ).loc Cert.FinishRefIdeal.main_arg6) = m ((c.tc : Thread Cert.FinishRefIdeal.nD Cert.FinishRefIdeal.τ).loc Cert.FinishRefIdeal.main_arg6)
      ∧ r.2.mem ((c.tc : Thread Cert.FinishRefIdeal.nD Cert.FinishRefIdeal.τ).loc Cert.FinishRefIdeal.main_arg7) = m ((c.tc : Thread Cert.FinishRefIdeal.nD Cert.FinishRefIdeal.τ).loc Cert.FinishRefIdeal.main_arg7)
      ∧ r.2.mem ((c.tc : Thread Cert.FinishRefIdeal.nD Cert.FinishRefIdeal.τ).loc Cert.FinishRefIdeal.main_arg8) = m ((c.tc : Thread Cert.FinishRefIdeal.nD Cert.FinishRefIdeal.τ).loc Cert.FinishRefIdeal.main_arg8)
      ∧ r.2.mem ((c.tc : Thread Cert.FinishRefIdeal.nD Cert.FinishRefIdeal.τ).loc Cert.FinishRefIdeal.main_arg9) = m ((c.tc : Thread Cert.FinishRefIdeal.nD Cert.FinishRefIdeal.τ).loc Cert.FinishRefIdeal.main_arg9)
      ∧ r.2.mem ((c.tc : Thread Cert.FinishRefIdeal.nD Cert.FinishRefIdeal.τ).loc Cert.FinishRefIdeal.main_arg10) = m ((c.tc : Thread Cert.FinishRefIdeal.nD Cert.FinishRefIdeal.τ).loc Cert.FinishRefIdeal.main_arg10)
      ∧ r.2.mem ((c.tc : Thread Cert.FinishRefIdeal.nD Cert.FinishRefIdeal.τ).loc Cert.FinishRefIdeal.main_arg11) = m ((c.tc : Thread Cert.FinishRefIdeal.nD Cert.FinishRefIdeal.τ).loc Cert.FinishRefIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_blocks_of_experts : Cert.Pre_blocks_of_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v2)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v2) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v0) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v0)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v0) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v0) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_EvenInCtx_EvenInCtxIdeal : Prop :=
  True

def algebraic_EvenInCtxIdeal_EvenInCtxRefIdeal [hEvenInCtxIdeal : Cert.EvenInCtxIdeal.Facts] [hEvenInCtxRefIdeal : Cert.EvenInCtxRefIdeal.Facts] : Prop :=
  ∀ (m : (ℓ : Loc Cert.EvenInCtxIdeal.nD Cert.EvenInCtxIdeal.τ Cert.EvenInCtxIdeal.sig) → Buf (Elt Ideal) ℓ) (g : Dev Cert.EvenInCtxIdeal.nD → PrngReg)
    (m' : (ℓ : Loc Cert.EvenInCtxRefIdeal.nD Cert.EvenInCtxRefIdeal.τ Cert.EvenInCtxRefIdeal.sig) → Buf (Elt Ideal) ℓ) (g' : Dev Cert.EvenInCtxRefIdeal.nD → PrngReg), Pre_EvenInCtxIdeal m →
    (∀ c : Dev Cert.EvenInCtxIdeal.nD,
      m' ((c.tc : Thread Cert.EvenInCtxRefIdeal.nD Cert.EvenInCtxRefIdeal.τ).loc Cert.EvenInCtxRefIdeal.main_arg0) = m ((c.tc : Thread Cert.EvenInCtxIdeal.nD Cert.EvenInCtxIdeal.τ).loc Cert.EvenInCtxIdeal.main_arg0)
      ∧ m' ((c.tc : Thread Cert.EvenInCtxRefIdeal.nD Cert.EvenInCtxRefIdeal.τ).loc Cert.EvenInCtxRefIdeal.main_arg1) = m ((c.tc : Thread Cert.EvenInCtxIdeal.nD Cert.EvenInCtxIdeal.τ).loc Cert.EvenInCtxIdeal.main_arg1)) →
    ∃ (v0 : (c : Dev Cert.EvenInCtxIdeal.nD) → Buf (Elt Ideal) ((c.tc : Thread Cert.EvenInCtxIdeal.nD Cert.EvenInCtxIdeal.τ).loc Cert.EvenInCtxIdeal.main_v2)),
      θ_run (Cert.EvenInCtxIdeal.defs (F := Ideal)) (onTc (τ := Cert.EvenInCtxIdeal.τ) (Cert.EvenInCtxIdeal.main (F := Ideal))) ⟨m, fun _ => 0, g⟩ (fun r => ∀ c : Dev Cert.EvenInCtxIdeal.nD,
          r.2.mem ((c.tc : Thread Cert.EvenInCtxIdeal.nD Cert.EvenInCtxIdeal.τ).loc Cert.EvenInCtxIdeal.main_v2) = v0 c
          ∧ r.2.mem ((c.tc : Thread Cert.EvenInCtxIdeal.nD Cert.EvenInCtxIdeal.τ).loc Cert.EvenInCtxIdeal.main_arg0) = m ((c.tc : Thread Cert.EvenInCtxIdeal.nD Cert.EvenInCtxIdeal.τ).loc Cert.EvenInCtxIdeal.main_arg0)
          ∧ r.2.mem ((c.tc : Thread Cert.EvenInCtxIdeal.nD Cert.EvenInCtxIdeal.τ).loc Cert.EvenInCtxIdeal.main_arg1) = m ((c.tc : Thread Cert.EvenInCtxIdeal.nD Cert.EvenInCtxIdeal.τ).loc Cert.EvenInCtxIdeal.main_arg1))
      ∧ θ_run (Cert.EvenInCtxRefIdeal.defs (F := Ideal)) (onTc (τ := Cert.EvenInCtxRefIdeal.τ) (Cert.EvenInCtxRefIdeal.main (F := Ideal))) ⟨m', fun _ => 0, g'⟩ (fun r => ∀ c : Dev Cert.EvenInCtxRefIdeal.nD,
          r.2.mem ((c.tc : Thread Cert.EvenInCtxRefIdeal.nD Cert.EvenInCtxRefIdeal.τ).loc Cert.EvenInCtxRefIdeal.main_v0) = v0 c
          ∧ r.2.mem ((c.tc : Thread Cert.EvenInCtxRefIdeal.nD Cert.EvenInCtxRefIdeal.τ).loc Cert.EvenInCtxRefIdeal.main_arg0) = m' ((c.tc : Thread Cert.EvenInCtxRefIdeal.nD Cert.EvenInCtxRefIdeal.τ).loc Cert.EvenInCtxRefIdeal.main_arg0)
          ∧ r.2.mem ((c.tc : Thread Cert.EvenInCtxRefIdeal.nD Cert.EvenInCtxRefIdeal.τ).loc Cert.EvenInCtxRefIdeal.main_arg1) = m' ((c.tc : Thread Cert.EvenInCtxRefIdeal.nD Cert.EvenInCtxRefIdeal.τ).loc Cert.EvenInCtxRefIdeal.main_arg1))

def preserves_OddInCtx_OddInCtxIdeal : Prop :=
  True

def algebraic_OddInCtxIdeal_OddInCtxRefIdeal [hOddInCtxIdeal : Cert.OddInCtxIdeal.Facts] [hOddInCtxRefIdeal : Cert.OddInCtxRefIdeal.Facts] : Prop :=
  ∀ (m : (ℓ : Loc Cert.OddInCtxIdeal.nD Cert.OddInCtxIdeal.τ Cert.OddInCtxIdeal.sig) → Buf (Elt Ideal) ℓ) (g : Dev Cert.OddInCtxIdeal.nD → PrngReg)
    (m' : (ℓ : Loc Cert.OddInCtxRefIdeal.nD Cert.OddInCtxRefIdeal.τ Cert.OddInCtxRefIdeal.sig) → Buf (Elt Ideal) ℓ) (g' : Dev Cert.OddInCtxRefIdeal.nD → PrngReg), Pre_OddInCtxIdeal m →
    (∀ c : Dev Cert.OddInCtxIdeal.nD,
      m' ((c.tc : Thread Cert.OddInCtxRefIdeal.nD Cert.OddInCtxRefIdeal.τ).loc Cert.OddInCtxRefIdeal.main_arg0) = m ((c.tc : Thread Cert.OddInCtxIdeal.nD Cert.OddInCtxIdeal.τ).loc Cert.OddInCtxIdeal.main_arg0)
      ∧ m' ((c.tc : Thread Cert.OddInCtxRefIdeal.nD Cert.OddInCtxRefIdeal.τ).loc Cert.OddInCtxRefIdeal.main_arg1) = m ((c.tc : Thread Cert.OddInCtxIdeal.nD Cert.OddInCtxIdeal.τ).loc Cert.OddInCtxIdeal.main_arg1)) →
    ∃ (v0 : (c : Dev Cert.OddInCtxIdeal.nD) → Buf (Elt Ideal) ((c.tc : Thread Cert.OddInCtxIdeal.nD Cert.OddInCtxIdeal.τ).loc Cert.OddInCtxIdeal.main_v0)),
      θ_run (Cert.OddInCtxIdeal.defs (F := Ideal)) (onTc (τ := Cert.OddInCtxIdeal.τ) (Cert.OddInCtxIdeal.main (F := Ideal))) ⟨m, fun _ => 0, g⟩ (fun r => ∀ c : Dev Cert.OddInCtxIdeal.nD,
          r.2.mem ((c.tc : Thread Cert.OddInCtxIdeal.nD Cert.OddInCtxIdeal.τ).loc Cert.OddInCtxIdeal.main_v0) = v0 c
          ∧ r.2.mem ((c.tc : Thread Cert.OddInCtxIdeal.nD Cert.OddInCtxIdeal.τ).loc Cert.OddInCtxIdeal.main_arg0) = m ((c.tc : Thread Cert.OddInCtxIdeal.nD Cert.OddInCtxIdeal.τ).loc Cert.OddInCtxIdeal.main_arg0)
          ∧ r.2.mem ((c.tc : Thread Cert.OddInCtxIdeal.nD Cert.OddInCtxIdeal.τ).loc Cert.OddInCtxIdeal.main_arg1) = m ((c.tc : Thread Cert.OddInCtxIdeal.nD Cert.OddInCtxIdeal.τ).loc Cert.OddInCtxIdeal.main_arg1))
      ∧ θ_run (Cert.OddInCtxRefIdeal.defs (F := Ideal)) (onTc (τ := Cert.OddInCtxRefIdeal.τ) (Cert.OddInCtxRefIdeal.main (F := Ideal))) ⟨m', fun _ => 0, g'⟩ (fun r => ∀ c : Dev Cert.OddInCtxRefIdeal.nD,
          r.2.mem ((c.tc : Thread Cert.OddInCtxRefIdeal.nD Cert.OddInCtxRefIdeal.τ).loc Cert.OddInCtxRefIdeal.main_v0) = v0 c
          ∧ r.2.mem ((c.tc : Thread Cert.OddInCtxRefIdeal.nD Cert.OddInCtxRefIdeal.τ).loc Cert.OddInCtxRefIdeal.main_arg0) = m' ((c.tc : Thread Cert.OddInCtxRefIdeal.nD Cert.OddInCtxRefIdeal.τ).loc Cert.OddInCtxRefIdeal.main_arg0)
          ∧ r.2.mem ((c.tc : Thread Cert.OddInCtxRefIdeal.nD Cert.OddInCtxRefIdeal.τ).loc Cert.OddInCtxRefIdeal.main_arg1) = m' ((c.tc : Thread Cert.OddInCtxRefIdeal.nD Cert.OddInCtxRefIdeal.τ).loc Cert.OddInCtxRefIdeal.main_arg1))

def preserves_OutProjCtx_OutProjCtxIdeal : Prop :=
  True

def algebraic_OutProjCtxIdeal_OutProjCtxRefIdeal [hOutProjCtxIdeal : Cert.OutProjCtxIdeal.Facts] [hOutProjCtxRefIdeal : Cert.OutProjCtxRefIdeal.Facts] : Prop :=
  ∀ (m : (ℓ : Loc Cert.OutProjCtxIdeal.nD Cert.OutProjCtxIdeal.τ Cert.OutProjCtxIdeal.sig) → Buf (Elt Ideal) ℓ) (g : Dev Cert.OutProjCtxIdeal.nD → PrngReg)
    (m' : (ℓ : Loc Cert.OutProjCtxRefIdeal.nD Cert.OutProjCtxRefIdeal.τ Cert.OutProjCtxRefIdeal.sig) → Buf (Elt Ideal) ℓ) (g' : Dev Cert.OutProjCtxRefIdeal.nD → PrngReg), Pre_OutProjCtxIdeal m →
    (∀ c : Dev Cert.OutProjCtxIdeal.nD,
      m' ((c.tc : Thread Cert.OutProjCtxRefIdeal.nD Cert.OutProjCtxRefIdeal.τ).loc Cert.OutProjCtxRefIdeal.main_arg0) = m ((c.tc : Thread Cert.OutProjCtxIdeal.nD Cert.OutProjCtxIdeal.τ).loc Cert.OutProjCtxIdeal.main_arg0)
      ∧ m' ((c.tc : Thread Cert.OutProjCtxRefIdeal.nD Cert.OutProjCtxRefIdeal.τ).loc Cert.OutProjCtxRefIdeal.main_arg1) = m ((c.tc : Thread Cert.OutProjCtxIdeal.nD Cert.OutProjCtxIdeal.τ).loc Cert.OutProjCtxIdeal.main_arg1)) →
    ∃ (v0 : (c : Dev Cert.OutProjCtxIdeal.nD) → Buf (Elt Ideal) ((c.tc : Thread Cert.OutProjCtxIdeal.nD Cert.OutProjCtxIdeal.τ).loc Cert.OutProjCtxIdeal.main_v0)),
      θ_run (Cert.OutProjCtxIdeal.defs (F := Ideal)) (onTc (τ := Cert.OutProjCtxIdeal.τ) (Cert.OutProjCtxIdeal.main (F := Ideal))) ⟨m, fun _ => 0, g⟩ (fun r => ∀ c : Dev Cert.OutProjCtxIdeal.nD,
          r.2.mem ((c.tc : Thread Cert.OutProjCtxIdeal.nD Cert.OutProjCtxIdeal.τ).loc Cert.OutProjCtxIdeal.main_v0) = v0 c
          ∧ r.2.mem ((c.tc : Thread Cert.OutProjCtxIdeal.nD Cert.OutProjCtxIdeal.τ).loc Cert.OutProjCtxIdeal.main_arg0) = m ((c.tc : Thread Cert.OutProjCtxIdeal.nD Cert.OutProjCtxIdeal.τ).loc Cert.OutProjCtxIdeal.main_arg0)
          ∧ r.2.mem ((c.tc : Thread Cert.OutProjCtxIdeal.nD Cert.OutProjCtxIdeal.τ).loc Cert.OutProjCtxIdeal.main_arg1) = m ((c.tc : Thread Cert.OutProjCtxIdeal.nD Cert.OutProjCtxIdeal.τ).loc Cert.OutProjCtxIdeal.main_arg1))
      ∧ θ_run (Cert.OutProjCtxRefIdeal.defs (F := Ideal)) (onTc (τ := Cert.OutProjCtxRefIdeal.τ) (Cert.OutProjCtxRefIdeal.main (F := Ideal))) ⟨m', fun _ => 0, g'⟩ (fun r => ∀ c : Dev Cert.OutProjCtxRefIdeal.nD,
          r.2.mem ((c.tc : Thread Cert.OutProjCtxRefIdeal.nD Cert.OutProjCtxRefIdeal.τ).loc Cert.OutProjCtxRefIdeal.main_v0) = v0 c
          ∧ r.2.mem ((c.tc : Thread Cert.OutProjCtxRefIdeal.nD Cert.OutProjCtxRefIdeal.τ).loc Cert.OutProjCtxRefIdeal.main_arg0) = m' ((c.tc : Thread Cert.OutProjCtxRefIdeal.nD Cert.OutProjCtxRefIdeal.τ).loc Cert.OutProjCtxRefIdeal.main_arg0)
          ∧ r.2.mem ((c.tc : Thread Cert.OutProjCtxRefIdeal.nD Cert.OutProjCtxRefIdeal.τ).loc Cert.OutProjCtxRefIdeal.main_arg1) = m' ((c.tc : Thread Cert.OutProjCtxRefIdeal.nD Cert.OutProjCtxRefIdeal.τ).loc Cert.OutProjCtxRefIdeal.main_arg1))

def preserves_Route_RouteIdeal : Prop :=
  True

def algebraic_RouteIdeal_RouteRefIdeal_pre_finite_arguments [hRouteIdeal : Cert.RouteIdeal.Facts] [hRouteRefIdeal : Cert.RouteRefIdeal.Facts] [hPre_finite_arguments : Cert.Pre_finite_arguments.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_finite_arguments m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v1_0)) (v1 : (c : Dev Cert.RouteIdeal.nD) → Buf (Elt Ideal) ((c.tc : Thread Cert.RouteIdeal.nD Cert.RouteIdeal.τ).loc Cert.RouteIdeal.main_v1_1)) (v2 : (c : Dev Cert.RouteIdeal.nD) → Buf (Elt Ideal) ((c.tc : Thread Cert.RouteIdeal.nD Cert.RouteIdeal.τ).loc Cert.RouteIdeal.main_v1_2)) (v3 : (c : Dev Cert.RouteIdeal.nD) → Buf (Elt Ideal) ((c.tc : Thread Cert.RouteIdeal.nD Cert.RouteIdeal.τ).loc Cert.RouteIdeal.main_v1_3)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v1_0) = v0 c
          ∧ r.2.mem ((c.tc : Thread Cert.RouteIdeal.nD Cert.RouteIdeal.τ).loc Cert.RouteIdeal.main_v1_1) = v1 c
          ∧ r.2.mem ((c.tc : Thread Cert.RouteIdeal.nD Cert.RouteIdeal.τ).loc Cert.RouteIdeal.main_v1_2) = v2 c
          ∧ r.2.mem ((c.tc : Thread Cert.RouteIdeal.nD Cert.RouteIdeal.τ).loc Cert.RouteIdeal.main_v1_3) = v3 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_indices) = v0 c
          ∧ r.2.mem ((c.tc : Thread Cert.RouteRefIdeal.nD Cert.RouteRefIdeal.τ).loc Cert.RouteRefIdeal.main_v21) = v1 c
          ∧ r.2.mem ((c.tc : Thread Cert.RouteRefIdeal.nD Cert.RouteRefIdeal.τ).loc Cert.RouteRefIdeal.main_v16) = v2 c
          ∧ r.2.mem ((c.tc : Thread Cert.RouteRefIdeal.nD Cert.RouteRefIdeal.τ).loc Cert.RouteRefIdeal.main_v24) = v3 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)) →
    ∃ (v0 : (c : Dev Cert.CombineIdeal.nD) → Buf (Elt Ideal) ((c.tc : Thread Cert.CombineIdeal.nD Cert.CombineIdeal.τ).loc Cert.CombineIdeal.main_v8)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v8) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v21) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6))

def preserves_Finish_FinishIdeal : Prop :=
  True

def algebraic_FinishIdeal_FinishRefIdeal [hFinishIdeal : Cert.FinishIdeal.Facts] [hFinishRefIdeal : Cert.FinishRefIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)
      ∧ m' ((c.tc : Thread Cert.FinishRefIdeal.nD Cert.FinishRefIdeal.τ).loc Cert.FinishRefIdeal.main_arg4) = m ((c.tc : Thread Cert.FinishIdeal.nD Cert.FinishIdeal.τ).loc Cert.FinishIdeal.main_arg4)
      ∧ m' ((c.tc : Thread Cert.FinishRefIdeal.nD Cert.FinishRefIdeal.τ).loc Cert.FinishRefIdeal.main_arg5) = m ((c.tc : Thread Cert.FinishIdeal.nD Cert.FinishIdeal.τ).loc Cert.FinishIdeal.main_arg5)
      ∧ m' ((c.tc : Thread Cert.FinishRefIdeal.nD Cert.FinishRefIdeal.τ).loc Cert.FinishRefIdeal.main_arg6) = m ((c.tc : Thread Cert.FinishIdeal.nD Cert.FinishIdeal.τ).loc Cert.FinishIdeal.main_arg6)
      ∧ m' ((c.tc : Thread Cert.FinishRefIdeal.nD Cert.FinishRefIdeal.τ).loc Cert.FinishRefIdeal.main_arg7) = m ((c.tc : Thread Cert.FinishIdeal.nD Cert.FinishIdeal.τ).loc Cert.FinishIdeal.main_arg7)
      ∧ m' ((c.tc : Thread Cert.FinishRefIdeal.nD Cert.FinishRefIdeal.τ).loc Cert.FinishRefIdeal.main_arg8) = m ((c.tc : Thread Cert.FinishIdeal.nD Cert.FinishIdeal.τ).loc Cert.FinishIdeal.main_arg8)
      ∧ m' ((c.tc : Thread Cert.FinishRefIdeal.nD Cert.FinishRefIdeal.τ).loc Cert.FinishRefIdeal.main_arg9) = m ((c.tc : Thread Cert.FinishIdeal.nD Cert.FinishIdeal.τ).loc Cert.FinishIdeal.main_arg9)
      ∧ m' ((c.tc : Thread Cert.FinishRefIdeal.nD Cert.FinishRefIdeal.τ).loc Cert.FinishRefIdeal.main_arg10) = m ((c.tc : Thread Cert.FinishIdeal.nD Cert.FinishIdeal.τ).loc Cert.FinishIdeal.main_arg10)
      ∧ m' ((c.tc : Thread Cert.FinishRefIdeal.nD Cert.FinishRefIdeal.τ).loc Cert.FinishRefIdeal.main_arg11) = m ((c.tc : Thread Cert.FinishIdeal.nD Cert.FinishIdeal.τ).loc Cert.FinishIdeal.main_arg11)) →
    ∃ (v0 : (c : Dev Cert.FinishIdeal.nD) → Buf (Elt Ideal) ((c.tc : Thread Cert.FinishIdeal.nD Cert.FinishIdeal.τ).loc Cert.FinishIdeal.main_v45)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v45) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
          ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
          ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10)
          ∧ r.2.mem ((c.tc : Thread Cert.FinishIdeal.nD Cert.FinishIdeal.τ).loc Cert.FinishIdeal.main_arg11) = m ((c.tc : Thread Cert.FinishIdeal.nD Cert.FinishIdeal.τ).loc Cert.FinishIdeal.main_arg11))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v58) = v0 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3)
          ∧ r.2.mem ((c.tc : Thread Cert.FinishRefIdeal.nD Cert.FinishRefIdeal.τ).loc Cert.FinishRefIdeal.main_arg4) = m' ((c.tc : Thread Cert.FinishRefIdeal.nD Cert.FinishRefIdeal.τ).loc Cert.FinishRefIdeal.main_arg4)
          ∧ r.2.mem ((c.tc : Thread Cert.FinishRefIdeal.nD Cert.FinishRefIdeal.τ).loc Cert.FinishRefIdeal.main_arg5) = m' ((c.tc : Thread Cert.FinishRefIdeal.nD Cert.FinishRefIdeal.τ).loc Cert.FinishRefIdeal.main_arg5)
          ∧ r.2.mem ((c.tc : Thread Cert.FinishRefIdeal.nD Cert.FinishRefIdeal.τ).loc Cert.FinishRefIdeal.main_arg6) = m' ((c.tc : Thread Cert.FinishRefIdeal.nD Cert.FinishRefIdeal.τ).loc Cert.FinishRefIdeal.main_arg6)
          ∧ r.2.mem ((c.tc : Thread Cert.FinishRefIdeal.nD Cert.FinishRefIdeal.τ).loc Cert.FinishRefIdeal.main_arg7) = m' ((c.tc : Thread Cert.FinishRefIdeal.nD Cert.FinishRefIdeal.τ).loc Cert.FinishRefIdeal.main_arg7)
          ∧ r.2.mem ((c.tc : Thread Cert.FinishRefIdeal.nD Cert.FinishRefIdeal.τ).loc Cert.FinishRefIdeal.main_arg8) = m' ((c.tc : Thread Cert.FinishRefIdeal.nD Cert.FinishRefIdeal.τ).loc Cert.FinishRefIdeal.main_arg8)
          ∧ r.2.mem ((c.tc : Thread Cert.FinishRefIdeal.nD Cert.FinishRefIdeal.τ).loc Cert.FinishRefIdeal.main_arg9) = m' ((c.tc : Thread Cert.FinishRefIdeal.nD Cert.FinishRefIdeal.τ).loc Cert.FinishRefIdeal.main_arg9)
          ∧ r.2.mem ((c.tc : Thread Cert.FinishRefIdeal.nD Cert.FinishRefIdeal.τ).loc Cert.FinishRefIdeal.main_arg10) = m' ((c.tc : Thread Cert.FinishRefIdeal.nD Cert.FinishRefIdeal.τ).loc Cert.FinishRefIdeal.main_arg10)
          ∧ r.2.mem ((c.tc : Thread Cert.FinishRefIdeal.nD Cert.FinishRefIdeal.τ).loc Cert.FinishRefIdeal.main_arg11) = m' ((c.tc : Thread Cert.FinishRefIdeal.nD Cert.FinishRefIdeal.τ).loc Cert.FinishRefIdeal.main_arg11))

def Claim : Prop :=
  ∃ (hKernel : Cert.Kernel.Facts) (hKernelIdeal : Cert.KernelIdeal.Facts) (hReferenceIdeal : Cert.ReferenceIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hOutProj : Cert.OutProj.Facts) (hOutProjIdeal : Cert.OutProjIdeal.Facts) (hOutProjRefIdeal : Cert.OutProjRefIdeal.Facts) (hEvenInCtx : Cert.EvenInCtx.Facts) (hEvenInCtxIdeal : Cert.EvenInCtxIdeal.Facts) (hEvenInCtxRefIdeal : Cert.EvenInCtxRefIdeal.Facts) (hOddInCtx : Cert.OddInCtx.Facts) (hOddInCtxIdeal : Cert.OddInCtxIdeal.Facts) (hOddInCtxRefIdeal : Cert.OddInCtxRefIdeal.Facts) (hOutProjCtx : Cert.OutProjCtx.Facts) (hOutProjCtxIdeal : Cert.OutProjCtxIdeal.Facts) (hOutProjCtxRefIdeal : Cert.OutProjCtxRefIdeal.Facts) (hRoute : Cert.Route.Facts) (hRouteIdeal : Cert.RouteIdeal.Facts) (hRouteRefIdeal : Cert.RouteRefIdeal.Facts) (hCombine : Cert.Combine.Facts) (hCombineIdeal : Cert.CombineIdeal.Facts) (hCombineRefIdeal : Cert.CombineRefIdeal.Facts) (hFinish : Cert.Finish.Facts) (hFinishIdeal : Cert.FinishIdeal.Facts) (hFinishRefIdeal : Cert.FinishRefIdeal.Facts) (hPre_blocks_of_experts : Cert.Pre_blocks_of_experts.Facts) (hPre_finite_arguments : Cert.Pre_finite_arguments.Facts),
    quiescent_Kernel (hKernel := hKernel) (hPre_blocks_of_experts := hPre_blocks_of_experts)
    ∧ quiescent_KernelIdeal (hKernelIdeal := hKernelIdeal) (hPre_blocks_of_experts := hPre_blocks_of_experts)
    ∧ quiescent_ReferenceIdeal (hReferenceIdeal := hReferenceIdeal) (hPre_blocks_of_experts := hPre_blocks_of_experts)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_EvenInCtx (hEvenInCtx := hEvenInCtx)
    ∧ quiescent_EvenInCtxIdeal (hEvenInCtxIdeal := hEvenInCtxIdeal)
    ∧ quiescent_EvenInCtxRefIdeal (hEvenInCtxRefIdeal := hEvenInCtxRefIdeal)
    ∧ quiescent_OddInCtx (hOddInCtx := hOddInCtx)
    ∧ quiescent_OddInCtxIdeal (hOddInCtxIdeal := hOddInCtxIdeal)
    ∧ quiescent_OddInCtxRefIdeal (hOddInCtxRefIdeal := hOddInCtxRefIdeal)
    ∧ quiescent_OutProjCtx (hOutProjCtx := hOutProjCtx)
    ∧ quiescent_OutProjCtxIdeal (hOutProjCtxIdeal := hOutProjCtxIdeal)
    ∧ quiescent_OutProjCtxRefIdeal (hOutProjCtxRefIdeal := hOutProjCtxRefIdeal)
    ∧ quiescent_Route (hRoute := hRoute)
    ∧ quiescent_RouteIdeal (hRouteIdeal := hRouteIdeal)
    ∧ quiescent_RouteIdeal_pre_finite_arguments (hRouteIdeal := hRouteIdeal) (hPre_finite_arguments := hPre_finite_arguments)
    ∧ quiescent_RouteRefIdeal (hRouteRefIdeal := hRouteRefIdeal)
    ∧ quiescent_RouteRefIdeal_pre_finite_arguments (hRouteRefIdeal := hRouteRefIdeal) (hPre_finite_arguments := hPre_finite_arguments)
    ∧ quiescent_Combine (hCombine := hCombine)
    ∧ quiescent_CombineIdeal (hCombineIdeal := hCombineIdeal)
    ∧ quiescent_CombineRefIdeal (hCombineRefIdeal := hCombineRefIdeal)
    ∧ quiescent_Finish (hFinish := hFinish)
    ∧ quiescent_FinishIdeal (hFinishIdeal := hFinishIdeal)
    ∧ quiescent_FinishRefIdeal (hFinishRefIdeal := hFinishRefIdeal)
    ∧ preserves_Kernel_KernelIdeal
    ∧ algebraic_KernelIdeal_ReferenceIdeal (hKernelIdeal := hKernelIdeal) (hReferenceIdeal := hReferenceIdeal) (hPre_blocks_of_experts := hPre_blocks_of_experts)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_OutProj_OutProjIdeal
    ∧ algebraic_OutProjIdeal_OutProjRefIdeal (hOutProjIdeal := hOutProjIdeal) (hOutProjRefIdeal := hOutProjRefIdeal)
    ∧ preserves_EvenInCtx_EvenInCtxIdeal
    ∧ algebraic_EvenInCtxIdeal_EvenInCtxRefIdeal (hEvenInCtxIdeal := hEvenInCtxIdeal) (hEvenInCtxRefIdeal := hEvenInCtxRefIdeal)
    ∧ preserves_OddInCtx_OddInCtxIdeal
    ∧ algebraic_OddInCtxIdeal_OddInCtxRefIdeal (hOddInCtxIdeal := hOddInCtxIdeal) (hOddInCtxRefIdeal := hOddInCtxRefIdeal)
    ∧ preserves_OutProjCtx_OutProjCtxIdeal
    ∧ algebraic_OutProjCtxIdeal_OutProjCtxRefIdeal (hOutProjCtxIdeal := hOutProjCtxIdeal) (hOutProjCtxRefIdeal := hOutProjCtxRefIdeal)
    ∧ preserves_Route_RouteIdeal
    ∧ algebraic_RouteIdeal_RouteRefIdeal_pre_finite_arguments (hRouteIdeal := hRouteIdeal) (hRouteRefIdeal := hRouteRefIdeal) (hPre_finite_arguments := hPre_finite_arguments)
    ∧ preserves_Combine_CombineIdeal
    ∧ algebraic_CombineIdeal_CombineRefIdeal (hCombineIdeal := hCombineIdeal) (hCombineRefIdeal := hCombineRefIdeal)
    ∧ preserves_Finish_FinishIdeal
    ∧ algebraic_FinishIdeal_FinishRefIdeal (hFinishIdeal := hFinishIdeal) (hFinishRefIdeal := hFinishRefIdeal)
-- ==== Pre_blocks_of_experts.lean ====
abbrev S311296x1024 : Shape := ⟨2, ![311296, 1024]⟩
abbrev S608 : Shape := ⟨1, ![608]⟩
abbrev S1 : Shape := ⟨1, ![1]⟩
abbrev S64x1024x256 : Shape := ⟨3, ![64, 1024, 256]⟩
abbrev S64x256x1024 : Shape := ⟨3, ![64, 256, 1024]⟩
abbrev S_ : Shape := ⟨0, ![]⟩

class Facts : Prop where
  bcast_S_S608 : S_.BroadcastsInDim S608 (![] : Fin 0 → Fin S608.rank)
  reducesTo_S608_S_d0 : S608.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S311296x1024 .f32) (main_arg1 : IVec S608 32) (main_arg2 : IVec S1 32) (main_arg3 : FVec F S64x1024x256 .bf16) (main_arg4 : FVec F S64x1024x256 .bf16) (main_arg5 : FVec F S64x256x1024 .bf16) : IVec S_ 1 :=
  let main_c : IVec S_ 32 := constantI S_ 32 0#32
  let main_v0 : IVec S608 32 := broadcastInDim S608 ![] bcast_S_S608 main_c
  let main_v1 : IVec S608 1 := cmpi .sge main_arg1 main_v0
  let main_c_0 : IVec S_ 32 := constantI S_ 32 64#32
  let main_v2 : IVec S608 32 := broadcastInDim S608 ![] bcast_S_S608 main_c_0
  let main_v3 : IVec S608 1 := cmpi .slt main_arg1 main_v2
  let main_v4 : IVec S608 1 := andi main_v1 main_v3
  let main_c_1 : IVec S_ 1 := constantI S_ 1 1#1
  let main_v5 : IVec S_ 1 := (fun x v => Host.reduce IntOp.andi x v reducesTo_S608_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_finite_arguments.lean ====
abbrev S34816x1024 : Shape := ⟨2, ![34816, 1024]⟩
abbrev S1024x64 : Shape := ⟨2, ![1024, 64]⟩
abbrev S64 : Shape := ⟨1, ![64]⟩
abbrev S_ : Shape := ⟨0, ![]⟩

class Facts : Prop where
  bcast_S_S34816x1024 : S_.BroadcastsInDim S34816x1024 (![] : Fin 0 → Fin S34816x1024.rank)
  reducesTo_S34816x1024_S_d0_1 : S34816x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S34816x1024 .f32) (main_arg1 : FVec F S1024x64 .f32) (main_arg2 : FVec F S64 .f32) : IVec S_ 1 :=
  let main_v0 : FVec F S34816x1024 .f32 := Host.absf main_arg0
  let main_cst : FVec F S_ .f32 := constant S_ .f32 0x7F800000#32
  let main_v1 : FVec F S34816x1024 .f32 := broadcastInDim S34816x1024 ![] bcast_S_S34816x1024 main_cst
  let main_v2 : IVec S34816x1024 1 := cmpf .olt main_v0 main_v1
  let main_c : IVec S_ 1 := constantI S_ 1 1#1
  let main_v3 : IVec S_ 1 := (fun x v => Host.reduce IntOp.andi x v reducesTo_S34816x1024_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_cst_2 : FVec F S_ .f32 := constant S_ .f32 0xFF800000#32
  let main_v9 : FVec F S64 .f32 := broadcastInDim S64 ![] bcast_S_S64 main_cst_2
  let main_v10 : IVec S64 1 := cmpf .ogt main_arg2 main_v9
  let main_c_3 : IVec S_ 1 := constantI S_ 1 1#1
  let main_v11 : IVec S_ 1 := (fun x v => Host.reduce IntOp.andi x v reducesTo_S64_S_d0 h_S_) main_v10 main_c_3
  let main_v12 : IVec S_ 1 := andi main_v8 main_v11
  main_v12
-- ==== Kernel.lean ====
abbrev S311296x1024 : Shape := ⟨2, ![311296, 1024]⟩
abbrev S608 : Shape := ⟨1, ![608]⟩
abbrev S1 : Shape := ⟨1, ![1]⟩
abbrev S64x1024x256 : Shape := ⟨3, ![64, 1024, 256]⟩
abbrev S64x256x1024 : Shape := ⟨3, ![64, 256, 1024]⟩
abbrev S512x1024 : Shape := ⟨2, ![512, 1024]⟩
abbrev S1x1024x256 : Shape := ⟨3, ![1, 1024, 256]⟩
abbrev S1x256x1024 : Shape := ⟨3, ![1, 256, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S311296x1024, .f32⟩
  | .hbm, ⟨1, _⟩ => ⟨S64x1024x256, .bf16⟩
  | .hbm, ⟨2, _⟩ => ⟨S64x1024x256, .bf16⟩
  | .hbm, ⟨3, _⟩ => ⟨S64x256x1024, .bf16⟩
  | .hbm, ⟨4, _⟩ => ⟨S311296x1024, .f32⟩
  | .local _ .vmem, ⟨0, _⟩ => ⟨S512x1024, .f32⟩
  | .local _ .vmem, ⟨1, _⟩ => ⟨S512x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S512x1024, .f32⟩
  | .local _ .vmem, ⟨9, _⟩ => ⟨S512x1024, .f32⟩
  | .local _ .smem, ⟨0, _⟩ => ⟨S608, .i32⟩
  | .local _ .smem, ⟨1, _⟩ => ⟨S1, .i32⟩
  | _, _ => ⟨S311296x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![608], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S311296x1024 : Shape := ⟨2, ![311296, 1024]⟩
abbrev S608 : Shape := ⟨1, ![608]⟩
abbrev S1 : Shape := ⟨1, ![1]⟩
abbrev S64x1024x256 : Shape := ⟨3, ![64, 1024, 256]⟩
abbrev S64x256x1024 : Shape := ⟨3, ![64, 256, 1024]⟩
abbrev S608x512x1024 : Shape := ⟨3, ![608, 512, 1024]⟩
abbrev S_ : Shape := ⟨0, ![]⟩
abbrev S608x1 : Shape := ⟨2, ![608, 1]⟩
abbrev S608x1024x256 : Shape := ⟨3, ![608, 1024, 256]⟩
abbrev S608x512x256 : Shape := ⟨3, ![608, 512, 256]⟩
abbrev S608x256x1024 : Shape := ⟨3, ![608, 256, 1024]⟩
abbrev S608x1x1 : Shape := ⟨3, ![608, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S311296x1024, .f32⟩
  | .hbm, ⟨1, _⟩ => ⟨S608, .i32⟩
  | .hbm, ⟨2, _⟩ => ⟨S1, .i32⟩
  | .hbm, ⟨3, _⟩ => ⟨S64x1024x256, .bf16⟩
  | .hbm, ⟨4, _⟩ => ⟨S64x1024x256, .bf16⟩
  | .hbm, ⟨5, _⟩ => ⟨S64x256x1024, .bf16⟩
  | .hbm, ⟨6, _⟩ => ⟨S64x1024x256, .f32⟩
  | .hbm, ⟨7, _⟩ => ⟨S64x1024x256, .f32⟩
  | .hbm, ⟨8, _⟩ => ⟨S64x256x1024, .f32⟩
  | .hbm, ⟨9, _⟩ => ⟨S608x512x1024, .f32⟩
  | .hbm, ⟨10, _⟩ => ⟨S_, .i32⟩
  | .hbm, ⟨11, _⟩ => ⟨S608, .i32⟩
  | .hbm, ⟨12, _⟩ => ⟨S608, .i1⟩
  | .hbm, ⟨13, _⟩ => ⟨S_, .i32⟩
  | .hbm, ⟨14, _⟩ => ⟨S608, .i32⟩
  | .hbm, ⟨15, _⟩ => ⟨S608, .i32⟩
  | .hbm, ⟨16, _⟩ => ⟨S608, .i32⟩
  | .hbm, ⟨17, _⟩ => ⟨S608x1, .i32⟩
  | .hbm, ⟨18, _⟩ => ⟨S608x1024x256, .f32⟩
  | .hbm, ⟨19, _⟩ => ⟨S608x512x256, .f32⟩
  | .hbm, ⟨20, _⟩ => ⟨S_, .i32⟩
  | .hbm, ⟨21, _⟩ => ⟨S608, .i32⟩
  | .hbm, ⟨22, _⟩ => ⟨S608, .i1⟩
  | .hbm, ⟨23, _⟩ => ⟨S_, .i32⟩
  | .hbm, ⟨24, _⟩ => ⟨S608, .i32⟩
  | .hbm, ⟨25, _⟩ => ⟨S608, .i32⟩
  | .hbm, ⟨26, _⟩ => ⟨S608, .i32⟩
  | .hbm, ⟨27, _⟩ => ⟨S608x1, .i32⟩
  | .hbm, ⟨28, _⟩ => ⟨S608x1024x256, .f32⟩
  | .hbm, ⟨29, _⟩ => ⟨S608x512x256, .f32⟩
  | .hbm, ⟨30, _⟩ => ⟨S608x512x256, .f32⟩
  | .hbm, ⟨31, _⟩ => ⟨S608x512x256, .f32⟩
  | .hbm, ⟨32, _⟩ => ⟨S_, .f32⟩
  | .hbm, ⟨33, _⟩ => ⟨S608x512x256, .f32⟩
  | .hbm, ⟨34, _⟩ => ⟨S608x512x256, .f32⟩
  | .hbm, ⟨35, _⟩ => ⟨S_, .f32⟩
  | .hbm, ⟨36, _⟩ => ⟨S608x512x256, .f32⟩
  | .hbm, ⟨37, _⟩ => ⟨S608x512x256, .f32⟩
  | .hbm, ⟨38, _⟩ => ⟨S608x512x256, .f32⟩
  | .hbm, ⟨39, _⟩ => ⟨S608x512x256, .f32⟩
  | .hbm, ⟨40, _⟩ => ⟨S_, .i32⟩
  | .hbm, ⟨41, _⟩ => ⟨S608, .i32⟩
  | .hbm, ⟨42, _⟩ => ⟨S608, .i1⟩
  | .hbm, ⟨43, _⟩ => ⟨S_, .i32⟩
  | .hbm, ⟨44, _⟩ => ⟨S608, .i32⟩
  | .hbm, ⟨45, _⟩ => ⟨S608, .i32⟩
  | .hbm, ⟨46, _⟩ => ⟨S608, .i32⟩
  | .hbm, ⟨47, _⟩ => ⟨S608x1, .i32⟩
  | .hbm, ⟨48, _⟩ => ⟨S608x256x1024, .f32⟩
  | .hbm, ⟨49, _⟩ => ⟨S608x512x1024, .f32⟩
  | .hbm, ⟨50, _⟩ => ⟨S608, .i32⟩
  | .hbm, ⟨51, _⟩ => ⟨S_, .i32⟩
  | .hbm, ⟨52, _⟩ => ⟨S608, .i32⟩
  | .hbm, ⟨53, _⟩ => ⟨S608, .i1⟩
  | .hbm, ⟨54, _⟩ => ⟨S608x1x1, .i1⟩
  | .hbm, ⟨55, _⟩ => ⟨S_, .f32⟩
  | .hbm, ⟨56, _⟩ => ⟨S_, .f32⟩
  | .hbm, ⟨57, _⟩ => ⟨S608x512x1024, .i1⟩
  | .hbm, ⟨58, _⟩ => ⟨S608x512x1024, .f32⟩
  | .hbm, ⟨59, _⟩ => ⟨S608x512x1024, .f32⟩
  | .hbm, ⟨60, _⟩ => ⟨S311296x1024, .f32⟩
  | _, _ => ⟨S311296x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== EvenIn.lean ====
abbrev S32768x1024 : Shape := ⟨2, ![32768, 1024]⟩
abbrev S1024x4112 : Shape := ⟨2, ![1024, 4112]⟩
abbrev S_ : Shape := ⟨0, ![]⟩
abbrev S1024x4608 : Shape := ⟨2, ![1024, 4608]⟩
abbrev S32768x4608 : Shape := ⟨2, ![32768, 4608]⟩
abbrev S512x1024 : Shape := ⟨2, ![512, 1024]⟩
abbrev S1024x512 : Shape := ⟨2, ![1024, 512]⟩
abbrev S512x512 : Shape := ⟨2, ![512, 512]⟩
abbrev S32768x4112 : Shape := ⟨2, ![32768, 4112]⟩

abbrev nBuf : Space → Nat
  | .hbm => 7
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x4112, .f32⟩
  | .hbm, ⟨2, _⟩ => ⟨S_, .i32⟩
  | .hbm, ⟨3, _⟩ => ⟨S_, .f32⟩
  | .hbm, ⟨4, _⟩ => ⟨S1024x4608, .f32⟩
  | .hbm, ⟨5, _⟩ => ⟨S32768x4608, .f32⟩
  | .hbm, ⟨6, _⟩ => ⟨S32768x4112, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInIdeal.lean ====
abbrev S32768x1024 : Shape := ⟨2, ![32768, 1024]⟩
abbrev S1024x4112 : Shape := ⟨2, ![1024, 4112]⟩
abbrev S_ : Shape := ⟨0, ![]⟩
abbrev S1024x4608 : Shape := ⟨2, ![1024, 4608]⟩
abbrev S32768x4608 : Shape := ⟨2, ![32768, 4608]⟩
abbrev S512x1024 : Shape := ⟨2, ![512, 1024]⟩
abbrev S1024x512 : Shape := ⟨2, ![1024, 512]⟩
abbrev S512x512 : Shape := ⟨2, ![512, 512]⟩
abbrev S32768x4112 : Shape := ⟨2, ![32768, 4112]⟩

abbrev nBuf : Space → Nat
  | .hbm => 7
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x4112, .f32⟩
  | .hbm, ⟨2, _⟩ => ⟨S_, .i32⟩
  | .hbm, ⟨3, _⟩ => ⟨S_, .f32⟩
  | .hbm, ⟨4, _⟩ => ⟨S1024x4608, .f32⟩
  | .hbm, ⟨5, _⟩ => ⟨S32768x4608, .f32⟩
  | .hbm, ⟨6, _⟩ => ⟨S32768x4112, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInRefIdeal.lean ====
abbrev S32768x1024 : Shape := ⟨2, ![32768, 1024]⟩
abbrev S1024x4112 : Shape := ⟨2, ![1024, 4112]⟩
abbrev S32768x4112 : Shape := ⟨2, ![32768, 4112]⟩

abbrev nBuf : Space → Nat
  | .hbm => 3
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x4112, .f32⟩
  | .hbm, ⟨2, _⟩ => ⟨S32768x4112, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OddIn.lean ====
abbrev S32768x1024 : Shape := ⟨2, ![32768, 1024]⟩
abbrev S1024x3584 : Shape := ⟨2, ![1024, 3584]⟩
abbrev S32768x3584 : Shape := ⟨2, ![32768, 3584]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x3584, .f32⟩
  | .hbm, ⟨2, _⟩ => ⟨S32768x3584, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInIdeal.lean ====
abbrev S32768x1024 : Shape := ⟨2, ![32768, 1024]⟩
abbrev S1024x3584 : Shape := ⟨2, ![1024, 3584]⟩
abbrev S32768x3584 : Shape := ⟨2, ![32768, 3584]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x3584, .f32⟩
  | .hbm, ⟨2, _⟩ => ⟨S32768x3584, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInRefIdeal.lean ====
abbrev S32768x1024 : Shape := ⟨2, ![32768, 1024]⟩
abbrev S1024x3584 : Shape := ⟨2, ![1024, 3584]⟩
abbrev S32768x3584 : Shape := ⟨2, ![32768, 3584]⟩

abbrev nBuf : Space → Nat
  | .hbm => 3
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3584, .f32⟩
  | .hbm, ⟨2, _⟩ => ⟨S32768x3584, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProj.lean ====
abbrev S32768x1024 : Shape := ⟨2, ![32768, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjIdeal.lean ====
abbrev S32768x1024 : Shape := ⟨2, ![32768, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S32768x1024 : Shape := ⟨2, ![32768, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== EvenInCtx.lean ====
abbrev S2048x1024 : Shape := ⟨2, ![2048, 1024]⟩
abbrev S1024x4112 : Shape := ⟨2, ![1024, 4112]⟩
abbrev S_ : Shape := ⟨0, ![]⟩
abbrev S1024x4608 : Shape := ⟨2, ![1024, 4608]⟩
abbrev S2048x4608 : Shape := ⟨2, ![2048, 4608]⟩
abbrev S512x1024 : Shape := ⟨2, ![512, 1024]⟩
abbrev S1024x512 : Shape := ⟨2, ![1024, 512]⟩
abbrev S512x512 : Shape := ⟨2, ![512, 512]⟩
abbrev S2048x4112 : Shape := ⟨2, ![2048, 4112]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x4112, .f32⟩
  | .hbm, ⟨2, _⟩ => ⟨S_, .i32⟩
  | .hbm, ⟨3, _⟩ => ⟨S_, .f32⟩
  | .hbm, ⟨4, _⟩ => ⟨S1024x4608, .f32⟩
  | .hbm, ⟨5, _⟩ => ⟨S2048x4608, .f32⟩
  | .hbm, ⟨6, _⟩ => ⟨S2048x4112, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInCtxIdeal.lean ====
abbrev S2048x1024 : Shape := ⟨2, ![2048, 1024]⟩
abbrev S1024x4112 : Shape := ⟨2, ![1024, 4112]⟩
abbrev S_ : Shape := ⟨0, ![]⟩
abbrev S1024x4608 : Shape := ⟨2, ![1024, 4608]⟩
abbrev S2048x4608 : Shape := ⟨2, ![2048, 4608]⟩
abbrev S512x1024 : Shape := ⟨2, ![512, 1024]⟩
abbrev S1024x512 : Shape := ⟨2, ![1024, 512]⟩
abbrev S512x512 : Shape := ⟨2, ![512, 512]⟩
abbrev S2048x4112 : Shape := ⟨2, ![2048, 4112]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x4112, .f32⟩
  | .hbm, ⟨2, _⟩ => ⟨S_, .i32⟩
  | .hbm, ⟨3, _⟩ => ⟨S_, .f32⟩
  | .hbm, ⟨4, _⟩ => ⟨S1024x4608, .f32⟩
  | .hbm, ⟨5, _⟩ => ⟨S2048x4608, .f32⟩
  | .hbm, ⟨6, _⟩ => ⟨S2048x4112, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInCtxRefIdeal.lean ====
abbrev S2048x1024 : Shape := ⟨2, ![2048, 1024]⟩
abbrev S1024x4112 : Shape := ⟨2, ![1024, 4112]⟩
abbrev S2048x4112 : Shape := ⟨2, ![2048, 4112]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4112, .f32⟩
  | .hbm, ⟨2, _⟩ => ⟨S2048x4112, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OddInCtx.lean ====
abbrev S2048x1024 : Shape := ⟨2, ![2048, 1024]⟩
abbrev S1024x3584 : Shape := ⟨2, ![1024, 3584]⟩
abbrev S2048x3584 : Shape := ⟨2, ![2048, 3584]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x3584, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInCtxIdeal.lean ====
abbrev S2048x1024 : Shape := ⟨2, ![2048, 1024]⟩
abbrev S1024x3584 : Shape := ⟨2, ![1024, 3584]⟩
abbrev S2048x3584 : Shape := ⟨2, ![2048, 3584]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x3584, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInCtxRefIdeal.lean ====
abbrev S2048x1024 : Shape := ⟨2, ![2048, 1024]⟩
abbrev S1024x3584 : Shape := ⟨2, ![1024, 3584]⟩
abbrev S2048x3584 : Shape := ⟨2, ![2048, 3584]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x3584, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProjCtx.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjCtxRefIdeal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Route.lean ====
abbrev S34816x1024 : Shape := ⟨2, ![34816, 1024]⟩
abbrev S1024x64 : Shape := ⟨2, ![1024, 64]⟩
abbrev S64 : Shape := ⟨1, ![64]⟩
abbrev S1x64 : Shape := ⟨2, ![1, 64]⟩
abbrev S34816x8 : Shape := ⟨2, ![34816, 8]⟩
abbrev S512x1024 : Shape := ⟨2, ![512, 1024]⟩
abbrev S512x8 : Shape := ⟨2, ![512, 8]⟩
abbrev S512x64 : Shape := ⟨2, ![512, 64]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S34816x1024, .f32⟩
  | .hbm, ⟨1, _⟩ => ⟨S1024x64, .f32⟩
  | .hbm, ⟨2, _⟩ => ⟨S64, .f32⟩
  | .hbm, ⟨3, _⟩ => ⟨S1x64, .f32⟩
  | .hbm, ⟨4, _⟩ => ⟨S34816x8, .i32⟩
  | .hbm, ⟨5, _⟩ => ⟨S34816x8, .i32⟩
  | .hbm, ⟨6, _⟩ => ⟨S34816x8, .f32⟩
  | .hbm, ⟨7, _⟩ => ⟨S1x64, .f32⟩
  | .local _ .vmem, ⟨0, _⟩ => ⟨S512x1024, .f32⟩
  | .local _ .vmem, ⟨1, _⟩ => ⟨S512x1024, .f32⟩
  | .local _ .vmem, ⟨2, _⟩ => ⟨S1024x64, .f32⟩
  | .local _ .vmem, ⟨3, _⟩ => ⟨S1x64, .f32⟩
  | .local _ .vmem, ⟨4, _⟩ => ⟨S512x8, .i32⟩
  | .local _ .vmem, ⟨5, _⟩ => ⟨S512x8, .i32⟩
  | .local _ .vmem, ⟨6, _⟩ => ⟨S512x8, .i32⟩
  | .local _ .vmem, ⟨7, _⟩ => ⟨S512x8, .i32⟩
  | .local _ .vmem, ⟨8, _⟩ => ⟨S512x8, .f32⟩
  | .local _ .vmem, ⟨9, _⟩ => ⟨S512x8, .f32⟩
  | .local _ .vmem, ⟨10, _⟩ => ⟨S1x64, .f32⟩
  | .local _ .vmem, ⟨11, _⟩ => ⟨S1x64, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RouteRefIdeal.lean ====
abbrev S34816x1024 : Shape := ⟨2, ![34816, 1024]⟩
abbrev S1024x64 : Shape := ⟨2, ![1024, 64]⟩
abbrev S64 : Shape := ⟨1, ![64]⟩
abbrev S34816x64 : Shape := ⟨2, ![34816, 64]⟩
abbrev S_ : Shape := ⟨0, ![]⟩
abbrev S1x64 : Shape := ⟨2, ![1, 64]⟩
abbrev S34816x8 : Shape := ⟨2, ![34816, 8]⟩
abbrev S34816x8x1 : Shape := ⟨3, ![34816, 8, 1]⟩
abbrev S1 : Shape := ⟨1, ![1]⟩
abbrev S1x1x1 : Shape := ⟨3, ![1, 1, 1]⟩
abbrev S34816 : Shape := ⟨1, ![34816]⟩
abbrev S34816x1 : Shape := ⟨2, ![34816, 1]⟩
abbrev S1x1x64 : Shape := ⟨3, ![1, 1, 64]⟩
abbrev S34816x8x64 : Shape := ⟨3, ![34816, 8, 64]⟩

abbrev nBuf : Space → Nat
  | .hbm => 85
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S1024x64, .f32⟩
  | .hbm, ⟨2, _⟩ => ⟨S64, .f32⟩
  | .hbm, ⟨3, _⟩ => ⟨S34816x64, .f32⟩
  | .hbm, ⟨4, _⟩ => ⟨S34816x64, .f32⟩
  | .hbm, ⟨5, _⟩ => ⟨S34816x64, .f32⟩
  | .hbm, ⟨6, _⟩ => ⟨S_, .f32⟩
  | .hbm, ⟨7, _⟩ => ⟨S34816x64, .f32⟩
  | .hbm, ⟨8, _⟩ => ⟨S34816x64, .f32⟩
  | .hbm, ⟨9, _⟩ => ⟨S_, .f32⟩
  | .hbm, ⟨10, _⟩ => ⟨S34816x64, .f32⟩
  | .hbm, ⟨11, _⟩ => ⟨S34816x64, .f32⟩
  | .hbm, ⟨12, _⟩ => ⟨S1x64, .f32⟩
  | .hbm, ⟨13, _⟩ => ⟨S34816x64, .f32⟩
  | .hbm, ⟨14, _⟩ => ⟨S34816x64, .f32⟩
  | .hbm, ⟨15, _⟩ => ⟨S34816x8, .f32⟩
  | .hbm, ⟨16, _⟩ => ⟨S34816x8, .i32⟩
  | .hbm, ⟨17, _⟩ => ⟨S_, .i32⟩
  | .hbm, ⟨18, _⟩ => ⟨S34816x8, .i32⟩
  | .hbm, ⟨19, _⟩ => ⟨S34816x8, .i1⟩
  | .hbm, ⟨20, _⟩ => ⟨S_, .i32⟩
  | .hbm, ⟨21, _⟩ => ⟨S34816x8, .i32⟩
  | .hbm, ⟨22, _⟩ => ⟨S34816x8, .i32⟩
  | .hbm, ⟨23, _⟩ => ⟨S34816x8, .i32⟩
  | .hbm, ⟨24, _⟩ => ⟨S34816x8x1, .i32⟩
  | .hbm, ⟨25, _⟩ => ⟨S1, .i32⟩
  | .hbm, ⟨26, _⟩ => ⟨S_, .i32⟩
  | .hbm, ⟨27, _⟩ => ⟨S34816x8x1, .i32⟩
  | .hbm, ⟨28, _⟩ => ⟨S34816x8x1, .i1⟩
  | .hbm, ⟨29, _⟩ => ⟨S1x1x1, .i32⟩
  | .hbm, ⟨30, _⟩ => ⟨S34816x8x1, .i32⟩
  | .hbm, ⟨31, _⟩ => ⟨S34816x8x1, .i1⟩
  | .hbm, ⟨32, _⟩ => ⟨S34816x8x1, .i1⟩
  | .hbm, ⟨33, _⟩ => ⟨S_, .i1⟩
  | .hbm, ⟨34, _⟩ => ⟨S34816x8, .i1⟩
  | .hbm, ⟨35, _⟩ => ⟨S34816x8, .f32⟩
  | .hbm, ⟨36, _⟩ => ⟨S_, .f32⟩
  | .hbm, ⟨37, _⟩ => ⟨S34816x8, .f32⟩
  | .hbm, ⟨38, _⟩ => ⟨S34816x8, .f32⟩
  | .hbm, ⟨39, _⟩ => ⟨S_, .f32⟩
  | .hbm, ⟨40, _⟩ => ⟨S34816x8, .f32⟩
  | .hbm, ⟨41, _⟩ => ⟨S34816x8, .f32⟩
  | .hbm, ⟨42, _⟩ => ⟨S_, .f32⟩
  | .hbm, ⟨43, _⟩ => ⟨S34816, .f32⟩
  | .hbm, ⟨44, _⟩ => ⟨S34816x1, .f32⟩
  | .hbm, ⟨45, _⟩ => ⟨S34816x8, .f32⟩
  | .hbm, ⟨46, _⟩ => ⟨S34816x8, .f32⟩
  | .hbm, ⟨47, _⟩ => ⟨S34816x8x1, .i32⟩
  | .hbm, ⟨48, _⟩ => ⟨S1x1x64, .i32⟩
  | .hbm, ⟨49, _⟩ => ⟨S34816x8x64, .i32⟩
  | .hbm, ⟨50, _⟩ => ⟨S34816x8x64, .i32⟩
  | .hbm, ⟨51, _⟩ => ⟨S34816x8x64, .i1⟩
  | .hbm, ⟨52, _⟩ => ⟨S34816x8x64, .i32⟩
  | .hbm, ⟨53, _⟩ => ⟨S_, .i32⟩
  | .hbm, ⟨54, _⟩ => ⟨S34816x64, .i32⟩
  | .hbm, ⟨55, _⟩ => ⟨S_, .i32⟩
  | .hbm, ⟨56, _⟩ => ⟨S_, .i32⟩
  | .hbm, ⟨57, _⟩ => ⟨S34816x64, .i32⟩
  | .hbm, ⟨58, _⟩ => ⟨S34816x64, .i32⟩
  | .hbm, ⟨59, _⟩ => ⟨S_, .i32⟩
  | .hbm, ⟨60, _⟩ => ⟨S34816x8, .i32⟩
  | .hbm, ⟨61, _⟩ => ⟨S34816x8, .i1⟩
  | .hbm, ⟨62, _⟩ => ⟨S_, .i32⟩
  | .hbm, ⟨63, _⟩ => ⟨S34816x8, .i32⟩
  | .hbm, ⟨64, _⟩ => ⟨S34816x8, .i32⟩
  | .hbm, ⟨65, _⟩ => ⟨S34816x8, .i32⟩
  | .hbm, ⟨66, _⟩ => ⟨S34816x8x1, .i32⟩
  | .hbm, ⟨67, _⟩ => ⟨S1, .i32⟩
  | .hbm, ⟨68, _⟩ => ⟨S_, .i32⟩
  | .hbm, ⟨69, _⟩ => ⟨S34816x8x1, .i32⟩
  | .hbm, ⟨70, _⟩ => ⟨S34816x8x1, .i1⟩
  | .hbm, ⟨71, _⟩ => ⟨S1x1x1, .i32⟩
  | .hbm, ⟨72, _⟩ => ⟨S34816x8x1, .i32⟩
  | .hbm, ⟨73, _⟩ => ⟨S34816x8x1, .i1⟩
  | .hbm, ⟨74, _⟩ => ⟨S34816x8x1, .i1⟩
  | .hbm, ⟨75, _⟩ => ⟨S_, .i1⟩
  | .hbm, ⟨76, _⟩ => ⟨S34816x8, .i1⟩
  | .hbm, ⟨77, _⟩ => ⟨S34816x8, .i32⟩
  | .hbm, ⟨78, _⟩ => ⟨S_, .i32⟩
  | .hbm, ⟨79, _⟩ => ⟨S34816x8, .i32⟩
  | .hbm, ⟨80, _⟩ => ⟨S34816x8, .i32⟩
  | .hbm, ⟨81, _⟩ => ⟨S_, .i32⟩
  | .hbm, ⟨82, _⟩ => ⟨S64, .i32⟩
  | .hbm, ⟨83, _⟩ => ⟨S1x64, .i32⟩
  | .hbm, ⟨84, _⟩ => ⟨S1x64, .f32⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_values : Ref sig .tc := ⟨.hbm, 15, rfl⟩
abbrev main_indices : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v17 : Ref sig .tc := ⟨.hbm, 52, rfl⟩
abbrev main_c : Ref sig .tc := ⟨.hbm, 53, rfl⟩
abbrev main_v18 : Ref sig .tc := ⟨.hbm, 54, rfl⟩
abbrev main_call2_call0_c : Ref sig .tc := ⟨.hbm, 55, rfl⟩
abbrev main_call2_call0_v0 : Ref sig .tc := ⟨.hbm, 56, rfl⟩
abbrev main_v19 : Ref sig .tc := ⟨.hbm, 57, rfl⟩
abbrev main_v20 : Ref sig .tc := ⟨.hbm, 58, rfl⟩
abbrev main_call3_c : Ref sig .tc := ⟨.hbm, 59, rfl⟩
abbrev main_call3_v0 : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_c_1 : Ref sig .tc := ⟨.hbm, 67, rfl⟩
abbrev main_call3_c_2 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_3 : Ref sig .tc := ⟨.hbm, 75, rfl⟩
abbrev main_call3_v12 : Ref sig .tc := ⟨.hbm, 76, rfl⟩
abbrev main_call3_v13 : Ref sig .tc := ⟨.hbm, 77, rfl⟩
abbrev main_call3_c_4 : Ref sig .tc := ⟨.hbm, 78, rfl⟩
abbrev main_call3_v14 : Ref sig .tc := ⟨.hbm, 79, rfl⟩
abbrev main_v21 : Ref sig .tc := ⟨.hbm, 80, rfl⟩
abbrev main_c_3 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩

abbrev nD : Nat := 1
abbrev τ : Topo := Topo.v7x

variable {F : FTy → Type} [FloatOps F]
-- ==== Combine.lean ====
abbrev S34816x8 : Shape := ⟨2, ![34816, 8]⟩
abbrev S311296x1024 : Shape := ⟨2, ![311296, 1024]⟩
abbrev S34816x1024 : Shape := ⟨2, ![34816, 1024]⟩
abbrev S1024x256 : Shape := ⟨2, ![1024, 256]⟩
abbrev S256x1024 : Shape := ⟨2, ![256, 1024]⟩
abbrev S8x34816 : Shape := ⟨2, ![8, 34816]⟩
abbrev S_ : Shape := ⟨0, ![]⟩
abbrev S8x34816x1 : Shape := ⟨3, ![8, 34816, 1]⟩
abbrev S8x34816x1024 : Shape := ⟨3, ![8, 34816, 1024]⟩
abbrev S8x256x1024 : Shape := ⟨3, ![8, 256, 1024]⟩
abbrev S256x8 : Shape := ⟨2, ![256, 8]⟩
abbrev S256x256 : Shape := ⟨2, ![256, 256]⟩
abbrev S256x1 : Shape := ⟨2, ![256, 1]⟩
abbrev S1x256x1024 : Shape := ⟨3, ![1, 256, 1024]⟩

abbrev nBuf : Space → Nat
  | .hbm => 18
  | .vmem => 11
  | .smem => 0
  | _ => 0

abbrev bufTy : (tb : Table) → Fin (tcTables nBuf tb) → BufTy
  | .hbm, ⟨0, _⟩ => ⟨S34816x8, .i32⟩
  | .hbm, ⟨1, _⟩ => ⟨S311296x1024, .f32⟩
  | .hbm, ⟨2, _⟩ => ⟨S34816x1024, .f32⟩
  | .hbm, ⟨3, _⟩ => ⟨S34816x8, .f32⟩
  | .hbm, ⟨4, _⟩ => ⟨S1024x256, .bf16⟩
  | .hbm, ⟨5, _⟩ => ⟨S1024x256, .bf16⟩
  | .hbm, ⟨6, _⟩ => ⟨S256x1024, .bf16⟩
  | .hbm, ⟨7, _⟩ => ⟨S8x34816, .i32⟩
  | .hbm, ⟨8, _⟩ => ⟨S_, .i32⟩
  | .hbm, ⟨9, _⟩ => ⟨S8x34816, .i32⟩
  | .hbm, ⟨10, _⟩ => ⟨S8x34816, .i1⟩
  | .hbm, ⟨11, _⟩ => ⟨S_, .i32⟩
  | .hbm, ⟨12, _⟩ => ⟨S8x34816, .i32⟩
  | .hbm, ⟨13, _⟩ => ⟨S8x34816, .i32⟩
  | .hbm, ⟨14, _⟩ => ⟨S8x34816, .i32⟩
  | .hbm, ⟨15, _⟩ => ⟨S8x34816x1, .i32⟩
  | .hbm, ⟨16, _⟩ => ⟨S8x34816x1024, .f32⟩
  | .hbm, ⟨17, _⟩ => ⟨S34816x1024, .f32⟩
  | .local _ .vmem, ⟨0, _⟩ => ⟨S8x256x1024, .f32⟩
  | .local _ .vmem, ⟨1, _⟩ => ⟨S8x256x1024, .f32⟩
  | .local _ .vmem, ⟨2, _⟩ => ⟨S256x1024, .f32⟩
  | .local _ .vmem, ⟨3, _⟩ => ⟨S256x1024, .f32⟩
  | .local _ .vmem, ⟨4, _⟩ => ⟨S256x8, .f32⟩
  | .local _ .vmem, ⟨5, _⟩ => ⟨S256x8, .f32⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | _, _ => ⟨S34816x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![136], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineRefIdeal.lean ====
abbrev S34816x8 : Shape := ⟨2, ![34816, 8]⟩
abbrev S311296x1024 : Shape := ⟨2, ![311296, 1024]⟩
abbrev S34816x1024 : Shape := ⟨2, ![34816, 1024]⟩
abbrev S1024x256 : Shape := ⟨2, ![1024, 256]⟩
abbrev S256x1024 : Shape := ⟨2, ![256, 1024]⟩
abbrev S34816x256 : Shape := ⟨2, ![34816, 256]⟩
abbrev S_ : Shape := ⟨0, ![]⟩
abbrev S8x34816 : Shape := ⟨2, ![8, 34816]⟩
abbrev S8x34816x1 : Shape := ⟨3, ![8, 34816, 1]⟩
abbrev S8x34816x1024 : Shape := ⟨3, ![8, 34816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S34816x8, .i32⟩
  | .hbm, ⟨1, _⟩ => ⟨S311296x1024, .f32⟩
  | .hbm, ⟨2, _⟩ => ⟨S34816x1024, .f32⟩
  | .hbm, ⟨3, _⟩ => ⟨S34816x8, .f32⟩
  | .hbm, ⟨4, _⟩ => ⟨S1024x256, .bf16⟩
  | .hbm, ⟨5, _⟩ => ⟨S1024x256, .bf16⟩
  | .hbm, ⟨6, _⟩ => ⟨S256x1024, .bf16⟩
  | .hbm, ⟨7, _⟩ => ⟨S1024x256, .f32⟩
  | .hbm, ⟨8, _⟩ => ⟨S1024x256, .f32⟩
  | .hbm, ⟨9, _⟩ => ⟨S256x1024, .f32⟩
  | .hbm, ⟨10, _⟩ => ⟨S34816x256, .f32⟩
  | .hbm, ⟨11, _⟩ => ⟨S34816x256, .f32⟩
  | .hbm, ⟨12, _⟩ => ⟨S34816x256, .f32⟩
  | .hbm, ⟨13, _⟩ => ⟨S_, .f32⟩
  | .hbm, ⟨14, _⟩ => ⟨S34816x256, .f32⟩
  | .hbm, ⟨15, _⟩ => ⟨S34816x256, .f32⟩
  | .hbm, ⟨16, _⟩ => ⟨S_, .f32⟩
  | .hbm, ⟨17, _⟩ => ⟨S34816x256, .f32⟩
  | .hbm, ⟨18, _⟩ => ⟨S34816x256, .f32⟩
  | .hbm, ⟨19, _⟩ => ⟨S34816x256, .f32⟩
  | .hbm, ⟨20, _⟩ => ⟨S34816x256, .f32⟩
  | .hbm, ⟨21, _⟩ => ⟨S34816x256, .f32⟩
  | .hbm, ⟨22, _⟩ => ⟨S34816x1024, .f32⟩
  | .hbm, ⟨23, _⟩ => ⟨S8x34816, .f32⟩
  | .hbm, ⟨24, _⟩ => ⟨S8x34816x1, .f32⟩
  | .hbm, ⟨25, _⟩ => ⟨S8x34816, .i32⟩
  | .hbm, ⟨26, _⟩ => ⟨S_, .i32⟩
  | .hbm, ⟨27, _⟩ => ⟨S8x34816, .i32⟩
  | .hbm, ⟨28, _⟩ => ⟨S8x34816, .i1⟩
  | .hbm, ⟨29, _⟩ => ⟨S_, .i32⟩
  | .hbm, ⟨30, _⟩ => ⟨S8x34816, .i32⟩
  | .hbm, ⟨31, _⟩ => ⟨S8x34816, .i32⟩
  | .hbm, ⟨32, _⟩ => ⟨S8x34816, .i32⟩
  | .hbm, ⟨33, _⟩ => ⟨S8x34816x1, .i32⟩
  | .hbm, ⟨34, _⟩ => ⟨S8x34816x1024, .f32⟩
  | .hbm, ⟨35, _⟩ => ⟨S8x34816x1024, .f32⟩
  | .hbm, ⟨36, _⟩ => ⟨S8x34816x1024, .f32⟩
  | .hbm, ⟨37, _⟩ => ⟨S_, .f32⟩
  | .hbm, ⟨38, _⟩ => ⟨S34816x1024, .f32⟩
  | .hbm, ⟨39, _⟩ => ⟨S34816x1024, .f32⟩
  | _, _ => ⟨S34816x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== Finish.lean ====
abbrev S8x4096x1024 : Shape := ⟨3, ![8, 4096, 1024]⟩
abbrev S8x1x1024 : Shape := ⟨3, ![8, 1, 1024]⟩
abbrev S32768x8 : Shape := ⟨2, ![32768, 8]⟩
abbrev S294912x1024 : Shape := ⟨2, ![294912, 1024]⟩
abbrev S1024x256 : Shape := ⟨2, ![1024, 256]⟩
abbrev S256x1024 : Shape := ⟨2, ![256, 1024]⟩
abbrev S1024 : Shape := ⟨1, ![1024]⟩
abbrev S_ : Shape := ⟨0, ![]⟩
abbrev S32768x1024 : Shape := ⟨2, ![32768, 1024]⟩
abbrev S8x32768 : Shape := ⟨2, ![8, 32768]⟩
abbrev S8x32768x1 : Shape := ⟨3, ![8, 32768, 1]⟩
abbrev S8x32768x1024 : Shape := ⟨3, ![8, 32768, 1024]⟩
abbrev S8x256x1024 : Shape := ⟨3, ![8, 256, 1024]⟩
abbrev S256x8 : Shape := ⟨2, ![256, 8]⟩
abbrev S256x256 : Shape := ⟨2, ![256, 256]⟩
abbrev S256x1 : Shape := ⟨2, ![256, 1]⟩
abbrev S1x256x1024 : Shape := ⟨3, ![1, 256, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 67
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S32768x8, .i32⟩
  | .hbm, ⟨5, _⟩ => ⟨S294912x1024, .f32⟩
  | .hbm, ⟨6, _⟩ => ⟨S32768x8, .f32⟩
  | .hbm, ⟨7, _⟩ => ⟨S1024x256, .bf16⟩
  | .hbm, ⟨8, _⟩ => ⟨S1024x256, .bf16⟩
  | .hbm, ⟨9, _⟩ => ⟨S256x1024, .bf16⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S8x1x1024, .f32⟩
  | .hbm, ⟨14, _⟩ => ⟨S8x1x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S32768x1024, .f32⟩
  | .hbm, ⟨20, _⟩ => ⟨S8x32768, .i32⟩
  | .hbm, ⟨21, _⟩ => ⟨S_, .i32⟩
  | .hbm, ⟨22, _⟩ => ⟨S8x32768, .i32⟩
  | .hbm, ⟨23, _⟩ => ⟨S8x32768, .i1⟩
  | .hbm, ⟨24, _⟩ => ⟨S_, .i32⟩
  | .hbm, ⟨25, _⟩ => ⟨S8x32768, .i32⟩
  | .hbm, ⟨26, _⟩ => ⟨S8x32768, .i32⟩
  | .hbm, ⟨27, _⟩ => ⟨S8x32768, .i32⟩
  | .hbm, ⟨28, _⟩ => ⟨S8x32768x1, .i32⟩
  | .hbm, ⟨29, _⟩ => ⟨S8x32768x1024, .f32⟩
  | .hbm, ⟨30, _⟩ => ⟨S32768x1024, .f32⟩
  | .hbm, ⟨31, _⟩ => ⟨S_, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S8x4096x1, .f32⟩
  | .hbm, ⟨59, _⟩ => ⟨S8x4096x1024, .f32⟩
  | .hbm, ⟨60, _⟩ => ⟨S8x4096x1024, .f32⟩
  | .hbm, ⟨61, _⟩ => ⟨S1x1x1024, .f32⟩
  | .hbm, ⟨62, _⟩ => ⟨S8x4096x1024, .f32⟩
  | .hbm, ⟨63, _⟩ => ⟨S8x4096x1024, .f32⟩
  | .hbm, ⟨64, _⟩ => ⟨S1x1x1024, .f32⟩
  | .hbm, ⟨65, _⟩ => ⟨S8x4096x1024, .f32⟩
  | .hbm, ⟨66, _⟩ => ⟨S8x4096x1024, .f32⟩
  | .local _ .vmem, ⟨0, _⟩ => ⟨S8x256x1024, .f32⟩
  | .local _ .vmem, ⟨1, _⟩ => ⟨S8x256x1024, .f32⟩
  | .local _ .vmem, ⟨2, _⟩ => ⟨S256x1024, .f32⟩
  | .local _ .vmem, ⟨3, _⟩ => ⟨S256x1024, .f32⟩
  | .local _ .vmem, ⟨4, _⟩ => ⟨S256x8, .f32⟩
  | .local _ .vmem, ⟨5, _⟩ => ⟨S256x8, .f32⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FinishRefIdeal.lean ====
abbrev S8x4096x1024 : Shape := ⟨3, ![8, 4096, 1024]⟩
abbrev S8x1x1024 : Shape := ⟨3, ![8, 1, 1024]⟩
abbrev S32768x8 : Shape := ⟨2, ![32768, 8]⟩
abbrev S294912x1024 : Shape := ⟨2, ![294912, 1024]⟩
abbrev S1024x256 : Shape := ⟨2, ![1024, 256]⟩
abbrev S256x1024 : Shape := ⟨2, ![256, 1024]⟩
abbrev S1024 : Shape := ⟨1, ![1024]⟩
abbrev S_ : Shape := ⟨0, ![]⟩
abbrev S32768x1024 : Shape := ⟨2, ![32768, 1024]⟩
abbrev S32768x256 : Shape := ⟨2, ![32768, 256]⟩
abbrev S8x32768 : Shape := ⟨2, ![8, 32768]⟩
abbrev S8x32768x1 : Shape := ⟨3, ![8, 32768, 1]⟩
abbrev S8x32768x1024 : Shape := ⟨3, ![8, 32768, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S32768x8, .i32⟩
  | .hbm, ⟨5, _⟩ => ⟨S294912x1024, .f32⟩
  | .hbm, ⟨6, _⟩ => ⟨S32768x8, .f32⟩
  | .hbm, ⟨7, _⟩ => ⟨S1024x256, .bf16⟩
  | .hbm, ⟨8, _⟩ => ⟨S1024x256, .bf16⟩
  | .hbm, ⟨9, _⟩ => ⟨S256x1024, .bf16⟩
  | .hbm, ⟨10, _⟩ => ⟨S1024, .f32⟩
  | .hbm, ⟨11, _⟩ => ⟨S1024, .f32⟩
  | .hbm, ⟨12, _⟩ => ⟨S1024x256, .f32⟩
  | .hbm, ⟨13, _⟩ => ⟨S1024x256, .f32⟩
  | .hbm, ⟨14, _⟩ => ⟨S256x1024, .f32⟩
  | .hbm, ⟨15, _⟩ => ⟨S_, .f32⟩
  | .hbm, ⟨16, _⟩ => ⟨S8x1x1024, .f32⟩
  | .hbm, ⟨17, _⟩ => ⟨S8x1x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S32768x1024, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S_, .f32⟩
  | .hbm, ⟨27, _⟩ => ⟨S32768x256, .f32⟩
  | .hbm, ⟨28, _⟩ => ⟨S32768x256, .f32⟩
  | .hbm, ⟨29, _⟩ => ⟨S_, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S32768x1024, .f32⟩
  | .hbm, ⟨36, _⟩ => ⟨S8x32768, .f32⟩
  | .hbm, ⟨37, _⟩ => ⟨S8x32768x1, .f32⟩
  | .hbm, ⟨38, _⟩ => ⟨S8x32768, .i32⟩
  | .hbm, ⟨39, _⟩ => ⟨S_, .i32⟩
  | .hbm, ⟨40, _⟩ => ⟨S8x32768, .i32⟩
  | .hbm, ⟨41, _⟩ => ⟨S8x32768, .i1⟩
  | .hbm, ⟨42, _⟩ => ⟨S_, .i32⟩
  | .hbm, ⟨43, _⟩ => ⟨S8x32768, .i32⟩
  | .hbm, ⟨44, _⟩ => ⟨S8x32768, .i32⟩
  | .hbm, ⟨45, _⟩ => ⟨S8x32768, .i32⟩
  | .hbm, ⟨46, _⟩ => ⟨S8x32768x1, .i32⟩
  | .hbm, ⟨47, _⟩ => ⟨S8x32768x1024, .f32⟩
  | .hbm, ⟨48, _⟩ => ⟨S8x32768x1024, .f32⟩
  | .hbm, ⟨49, _⟩ => ⟨S8x32768x1024, .f32⟩
  | .hbm, ⟨50, _⟩ => ⟨S_, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S8x4096x1024, .f32⟩
  | .hbm, ⟨76, _⟩ => ⟨S8x4096x1024, .f32⟩
  | .hbm, ⟨77, _⟩ => ⟨S_, .f32⟩
  | .hbm, ⟨78, _⟩ => ⟨S8x4096x1, .f32⟩
  | .hbm, ⟨79, _⟩ => ⟨S8x4096x1, .f32⟩
  | .hbm, ⟨80, _⟩ => ⟨S8x4096x1, .f32⟩
  | .hbm, ⟨81, _⟩ => ⟨S8x4096x1024, .f32⟩
  | .hbm, ⟨82, _⟩ => ⟨S8x4096x1024, .f32⟩
  | .hbm, ⟨83, _⟩ => ⟨S1x1x1024, .f32⟩
  | .hbm, ⟨84, _⟩ => ⟨S8x4096x1024, .f32⟩
  | .hbm, ⟨85, _⟩ => ⟨S8x4096x1024, .f32⟩
  | .hbm, ⟨86, _⟩ => ⟨S1x1x1024, .f32⟩
  | .hbm, ⟨87, _⟩ => ⟨S8x4096x1024, .f32⟩
  | .hbm, ⟨88, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]
-- ==== Proof.ExpertsRun.lean ====
/- The expert call runs: whatever the two prefetched tables hold, as long as every block they name lies inside its
   array, the grid of 608 steps terminates without a fault, leaves the arguments as they were and writes each step's
   block of the result once. Stated for the program read at `Bits`. -/
module

public import proofs.«01_k».proof.Defs
public import proofs.«01_k».proof.Proof.Gen.Kernel
public import proofs.«01_k».proof.Proof.Gen.Kernel.Skeleton
public import proofs.«01_k».proof.Proof.Gen.Kernel.Launch
public import Idealize.ShloMosaic.Lib.Pipeline.Kit
public import Idealize.ShloMosaic.Lib.Pipeline.Quiescent
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Claim
public import Idealize.ShloMosaic.PureOps.Ideal
public import Idealize.ShloMosaic.Adequacy
public import Idealize.ShloMosaic.Init

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource model of the launch. -/
local notation "𝕄" => MT nD τ sig Unit (Elt Bits) ℕ (UR sig nD τ) ℕ

/-- The table of experts and the count of used blocks, as the kernel is handed them. -/
abbrev tabE : Memref sig .tc .smem S608 .i32 := Memref.whole main_arg1
abbrev tabN : Memref sig .tc .smem S1 .i32 := Memref.whole main_arg2

/-! ## The two branches of the body exclude each other -/

/-- The second branch is taken exactly where the first is not. -/
theorem cond2_iff (i : grid0.Coords) (v : BitVec 32) : k0_cond2 i v = 1#1 ↔ ¬k0_cond1 i v = 1#1 := by
  have key : ∀ b : BitVec 1, Scalar.cmpi .ne (Scalar.extui (Scalar.xori b 1#1) : BitVec 32) 0#32 = 1#1
      ↔ ¬Scalar.cmpi .ne (Scalar.extui b : BitVec 32) 0#32 = 1#1 := by decide
  exact key (Scalar.cmpi .slt (BitVec.ofNat 32 (i 0).val) v)

/-- The count of used blocks, as the body reads it out of the table's contents. -/
abbrev count (T : S1.Idx → Elt Bits .i32) : BitVec 32 :=
  View.readAt (Elt Bits) tabN.view (Rect.unit (s := S1) ![0] S1.size inb_S1_S1_0).toLoadRect T (Shape.Idx.first (numel1_S1.symm ▸ Nat.one_pos))

/-! ## The body, branch by branch -/

/-- One staging buffer of the result, through which its contents are stated. -/
abbrev VO : View sig .tc .vmem S512x1024 .f32 := (Memref.whole cc0_stg4_0 : Memref sig .tc .vmem S512x1024 .f32).view

set_option backward.proofsInPublic true in
set_option maxHeartbeats 8000000 in
/-- On a used block: from the staging buffers at the blocks and the tables, the body runs to its end and leaves the pieces it stored. -/
noncomputable def runUsed (c : Dev nD) (i : grid0.Coords) (arg3 : Memref sig .tc .vmem S512x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S512x1024 .f32) (harg7 : arg7.IsWhole)
    (T0 : S608.Idx → Elt Bits .i32) (T1 : S1.Idx → Elt Bits .i32) (x0 : S512x1024.Idx → Elt Bits .f32) (x1 : S1x1024x256.Idx → Elt Bits .bf16) (x2 : S1x1024x256.Idx → Elt Bits .bf16) (x3 : S1x256x1024.Idx → Elt Bits .bf16)
    (h1 : k0_cond1 i (count T1) = 1#1) (h2 : ¬k0_cond2 i (count T1) = 1#1) :
    { out : List (View.Piece (Elt Bits) S512x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tabE.view.loc (c : Thread nD τ) ↦{fullShare.right} T0)
              ∗ (tabN.view.loc (c : Thread nD τ) ↦{fullShare.right} T1)
              ∗ (∃ f, arg7.view.loc (c : Thread nD τ) ↦[arg7.view.set]{fullShare} arg7.view.writes (Elt Bits) f out)) -∗ K ⟨⟩))
          ⊢ wp frame (wpE (defs₀ (F := Bits)) Variants.none c none) Set.univ (cc0_moe_expert_ffn i tabE (Memref.isWhole_whole _) tabN (Memref.isWhole_whole _) arg3 harg3 arg4 harg4 arg5 harg5 arg6 harg6 arg7 harg7) K } :=
  ⟨_, fun K => by
    unfold owns
    rw [cc0_moe_expert_ffn_eq_skeleton]; unfold cc0_moe_expert_ffn_skel
    iintro ⟨H0, H1, H2, H3, HT0, HT1, ⟨%d4, %f4, -, HO4⟩, Hk⟩
    have hT0 : tabE.IsWhole := Memref.isWhole_whole _
    have hT1 : tabN.IsWhole := Memref.isWhole_whole _
    sl_exec! (disch := first | (guard_target = k0_cond1 _ _ = _; exact h1) | (guard_target = ¬(k0_cond2 _ _ = _); exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of that branch covers the result's block. -/
theorem coverUsed (c : Dev nD) (i : grid0.Coords) (arg3 : Memref sig .tc .vmem S512x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S512x1024 .f32) (harg7 : arg7.IsWhole)
    (T0 : S608.Idx → Elt Bits .i32) (T1 : S1.Idx → Elt Bits .i32) (x0 : S512x1024.Idx → Elt Bits .f32) (x1 : S1x1024x256.Idx → Elt Bits .bf16) (x2 : S1x1024x256.Idx → Elt Bits .bf16) (x3 : S1x256x1024.Idx → Elt Bits .bf16)
    (h1 : k0_cond1 i (count T1) = 1#1) (h2 : ¬k0_cond2 i (count T1) = 1#1) (y : S512x1024.Idx) :
    ∃ pc ∈ (runUsed c i arg3 harg3 arg4 harg4 arg5 harg5 arg6 harg6 arg7 harg7 T0 T1 x0 x1 x2 x3 h1 h2).1, y ∈ pc.1.set :=
  View.cover_of_tiledL (runUsed c i arg3 harg3 arg4 harg4 arg5 harg5 arg6 harg6 arg7 harg7 T0 T1 x0 x1 x2 x3 h1 h2).1 S512x1024.size (by sl_kernel_rfl) y

/-- What that branch leaves in the result's staging buffer. -/
def outUsed (c : Dev nD) (i : grid0.Coords) (arg3 : Memref sig .tc .vmem S512x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S512x1024 .f32) (harg7 : arg7.IsWhole)
    (T0 : S608.Idx → Elt Bits .i32) (T1 : S1.Idx → Elt Bits .i32) (x0 : S512x1024.Idx → Elt Bits .f32) (x1 : S1x1024x256.Idx → Elt Bits .bf16) (x2 : S1x1024x256.Idx → Elt Bits .bf16) (x3 : S1x256x1024.Idx → Elt Bits .bf16)
    (h1 : k0_cond1 i (count T1) = 1#1) (h2 : ¬k0_cond2 i (count T1) = 1#1) : S512x1024.Idx → Elt Bits .f32 :=
  VO.read (Elt Bits) (VO.writes (Elt Bits) VO.junk (runUsed c i arg3 harg3 arg4 harg4 arg5 harg5 arg6 harg6 arg7 harg7 T0 T1 x0 x1 x2 x3 h1 h2).1)

set_option backward.proofsInPublic true in
set_option maxHeartbeats 8000000 in
/-- On a block past the used ones: the same, with the pieces the other branch stores. -/
noncomputable def runUnused (c : Dev nD) (i : grid0.Coords) (arg3 : Memref sig .tc .vmem S512x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S512x1024 .f32) (harg7 : arg7.IsWhole)
    (T0 : S608.Idx → Elt Bits .i32) (T1 : S1.Idx → Elt Bits .i32) (x0 : S512x1024.Idx → Elt Bits .f32) (x1 : S1x1024x256.Idx → Elt Bits .bf16) (x2 : S1x1024x256.Idx → Elt Bits .bf16) (x3 : S1x256x1024.Idx → Elt Bits .bf16)
    (h1 : ¬k0_cond1 i (count T1) = 1#1) (h2 : k0_cond2 i (count T1) = 1#1) :
    { out : List (View.Piece (Elt Bits) S512x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tabE.view.loc (c : Thread nD τ) ↦{fullShare.right} T0)
              ∗ (tabN.view.loc (c : Thread nD τ) ↦{fullShare.right} T1)
              ∗ (∃ f, arg7.view.loc (c : Thread nD τ) ↦[arg7.view.set]{fullShare} arg7.view.writes (Elt Bits) f out)) -∗ K ⟨⟩))
          ⊢ wp frame (wpE (defs₀ (F := Bits)) Variants.none c none) Set.univ (cc0_moe_expert_ffn i tabE (Memref.isWhole_whole _) tabN (Memref.isWhole_whole _) arg3 harg3 arg4 harg4 arg5 harg5 arg6 harg6 arg7 harg7) K } :=
  ⟨_, fun K => by
    unfold owns
    rw [cc0_moe_expert_ffn_eq_skeleton]; unfold cc0_moe_expert_ffn_skel
    iintro ⟨H0, H1, H2, H3, HT0, HT1, ⟨%d4, %f4, -, HO4⟩, Hk⟩
    have hT0 : tabE.IsWhole := Memref.isWhole_whole _
    have hT1 : tabN.IsWhole := Memref.isWhole_whole _
    sl_exec! (disch := first | (guard_target = ¬(k0_cond1 _ _ = _); exact h1) | (guard_target = k0_cond2 _ _ = _; exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of that branch covers the result's block. -/
theorem coverUnused (c : Dev nD) (i : grid0.Coords) (arg3 : Memref sig .tc .vmem S512x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S512x1024 .f32) (harg7 : arg7.IsWhole)
    (T0 : S608.Idx → Elt Bits .i32) (T1 : S1.Idx → Elt Bits .i32) (x0 : S512x1024.Idx → Elt Bits .f32) (x1 : S1x1024x256.Idx → Elt Bits .bf16) (x2 : S1x1024x256.Idx → Elt Bits .bf16) (x3 : S1x256x1024.Idx → Elt Bits .bf16)
    (h1 : ¬k0_cond1 i (count T1) = 1#1) (h2 : k0_cond2 i (count T1) = 1#1) (y : S512x1024.Idx) :
    ∃ pc ∈ (runUnused c i arg3 harg3 arg4 harg4 arg5 harg5 arg6 harg6 arg7 harg7 T0 T1 x0 x1 x2 x3 h1 h2).1, y ∈ pc.1.set :=
  View.cover_of_tiledL (runUnused c i arg3 harg3 arg4 harg4 arg5 harg5 arg6 harg6 arg7 harg7 T0 T1 x0 x1 x2 x3 h1 h2).1 S512x1024.size (by sl_kernel_rfl) y

/-- What that branch leaves in the result's staging buffer. -/
def outUnused (c : Dev nD) (i : grid0.Coords) (arg3 : Memref sig .tc .vmem S512x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S512x1024 .f32) (harg7 : arg7.IsWhole)
    (T0 : S608.Idx → Elt Bits .i32) (T1 : S1.Idx → Elt Bits .i32) (x0 : S512x1024.Idx → Elt Bits .f32) (x1 : S1x1024x256.Idx → Elt Bits .bf16) (x2 : S1x1024x256.Idx → Elt Bits .bf16) (x3 : S1x256x1024.Idx → Elt Bits .bf16)
    (h1 : ¬k0_cond1 i (count T1) = 1#1) (h2 : k0_cond2 i (count T1) = 1#1) : S512x1024.Idx → Elt Bits .f32 :=
  VO.read (Elt Bits) (VO.writes (Elt Bits) VO.junk (runUnused c i arg3 harg3 arg4 harg4 arg5 harg5 arg6 harg6 arg7 harg7 T0 T1 x0 x1 x2 x3 h1 h2).1)

/-! ## The pipeline at given contents of the tables -/

/- The contents of the two tables, with every block they name inside its array. -/
variable (a : (pcfg0 (F := Bits)).Adm)
variable (m : (ℓ : Loc nD τ sig) → Buf (Elt Bits) ℓ) (ρ : Dev nD → PrngReg)

abbrev cfgA : Pipeline.Cfg sig Λ₀ := cfg0 (F := Bits) a
abbrev pcs : Fin 1 → Pipeline.Cfg sig Λ₀ := Pipeline.pin (pcfgs (F := Bits)) fun _ => a

/-- The launch memory holds those contents. -/
def Held : Prop :=
  (∀ c : Dev nD, m ((c : Thread nD τ).loc main_arg1) = a.1 0) ∧ (∀ c : Dev nD, m ((c : Thread nD τ).loc main_arg2) = a.1 1)

/-- Step `t`'s coordinates. -/
abbrev crd (t : Fin (cfgA a).N) : (cfgA a).grid.Coords := (cfgA a).grid.coords t

/-- Each window's staging buffer at step `t`, and that it is a whole buffer. -/
abbrev ms0 (t : Fin (cfgA a).N) : Memref sig .tc .vmem S512x1024 .f32 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x1024x256 .bf16 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x1024x256 .bf16 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x256x1024 .bf16 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S512x1024 .f32 := spec0_4.stage ((cfgA a).slots t (4 : Fin 5))
abbrev hs4 (t : Fin (cfgA a).N) : (ms4 a t).IsWhole := hstage0_4 (((cfgA a).slots t (4 : Fin 5)).cast nbuf0_4)

/-- Window `w`'s block at step `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) ((s₀ m ρ).mem (((cfgA a).win w).arr.view.loc (c : Thread nD τ)))

/-- Step `t` is one of the used blocks. -/
abbrev Used (t : Fin (cfgA a).N) : Prop := k0_cond1 (crd a t) (count (a.1 1)) = 1#1

theorem not_cond2 {t : Fin (cfgA a).N} (h : Used a t) : ¬k0_cond2 (crd a t) (count (a.1 1)) = 1#1 :=
  fun h2 => (cond2_iff _ _).1 h2 h
theorem cond2_of {t : Fin (cfgA a).N} (h : ¬Used a t) : k0_cond2 (crd a t) (count (a.1 1)) = 1#1 := (cond2_iff _ _).2 h

/-- The result is stored at every step. -/
theorem idle4 (t : Fin (cfgA a).N) : (cfgA a).idle (4 : Fin 5) ((cfgA a).grid.coords t) = false := by
  show (!(k0_cond1 (crd a t) (a.1.atD 1 ![0]) == 1#1) && !(k0_cond2 (crd a t) (a.1.atD 1 ![0]) == 1#1)) = false
  by_cases h : k0_cond1 (crd a t) (a.1.atD 1 ![0]) = 1#1
  · simp [h]
  · simp [(cond2_iff _ _).2 h]

/-- What step `t` leaves in the result's staging buffer: the expert's output on a used block, zeros elsewhere. -/
def stepOut (c : Dev nD) (t : Fin (cfgA a).N) : S512x1024.Idx → Elt Bits .f32 :=
  if q : Used a t then outUsed c (crd a t) (ms0 a t) (hs0 a t) (ms1 a t) (hs1 a t) (ms2 a t) (hs2 a t) (ms3 a t) (hs3 a t) (ms4 a t) (hs4 a t) (a.1 0) (a.1 1) (iblk a m ρ c (0 : Fin 5) t) (iblk a m ρ c (1 : Fin 5) t) (iblk a m ρ c (2 : Fin 5) t) (iblk a m ρ c (3 : Fin 5) t) q (not_cond2 a q)
  else outUnused c (crd a t) (ms0 a t) (hs0 a t) (ms1 a t) (hs1 a t) (ms2 a t) (hs2 a t) (ms3 a t) (hs3 a t) (ms4 a t) (hs4 a t) (a.1 0) (a.1 1) (iblk a m ρ c (0 : Fin 5) t) (iblk a m ρ c (1 : Fin 5) t) (iblk a m ρ c (2 : Fin 5) t) (iblk a m ρ c (3 : Fin 5) t) q (cond2_of a q)

/-- The body holds its halves of the tables throughout. -/
def Phi (c : Dev nD) (_t : Fin ((cfgA a).N + 1)) : sProp 𝕄 :=
  iprop((tabE.view.loc (c : Thread nD τ) ↦{fullShare.right} a.1 0) ∗ (tabN.view.loc (c : Thread nD τ) ↦{fullShare.right} a.1 1))

/-- The proof data of the pipeline: inputs keep their blocks, the result holds `stepOut`. -/
def dats (_ : Fin 1) (c : Dev nD) : Dat τ (Elt Bits) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => stepOut a m ρ c t
  Φ t := Phi a c t
  q _ := fullShare
  owed _ := 0

theorem after0 (c : Dev nD) (t : Fin (cfgA a).N) : (dats a m ρ 0 c).after (0 : Fin 5) t = iblk a m ρ c (0 : Fin 5) t := rfl
theorem after1 (c : Dev nD) (t : Fin (cfgA a).N) : (dats a m ρ 0 c).after (1 : Fin 5) t = iblk a m ρ c (1 : Fin 5) t := rfl
theorem after2 (c : Dev nD) (t : Fin (cfgA a).N) : (dats a m ρ 0 c).after (2 : Fin 5) t = iblk a m ρ c (2 : Fin 5) t := rfl
theorem after3 (c : Dev nD) (t : Fin (cfgA a).N) : (dats a m ρ 0 c).after (3 : Fin 5) t = iblk a m ρ c (3 : Fin 5) t := rfl
theorem after4 (c : Dev nD) (t : Fin (cfgA a).N) : (dats a m ρ 0 c).after (4 : Fin 5) t = stepOut a m ρ c t := rfl

/-- Input window 0 holds its block when the body runs. -/
theorem before0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0]; unfold Dat.blockOf iblk; rfl) t d).trans
    (by unfold Dat.fetched Dat.blockOf iblk; rfl)

/-- Input window 1 holds its block when the body runs. -/
theorem before1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after1]; unfold Dat.blockOf iblk; rfl) t d).trans
    (by unfold Dat.fetched Dat.blockOf iblk; rfl)

/-- Input window 2 holds its block when the body runs. -/
theorem before2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after2]; unfold Dat.blockOf iblk; rfl) t d).trans
    (by unfold Dat.fetched Dat.blockOf iblk; rfl)

/-- Input window 3 holds its block when the body runs. -/
theorem before3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- The body at step `t` on its staging buffers. -/
abbrev bodyAt (t : Fin (cfgA a).N) : Prog (TpuEff nD τ sig (Elt Bits) Λ₀ .tc) PUnit :=
  cc0_moe_expert_ffn (crd a t) (Memref.whole main_arg1) (Memref.isWhole_whole _) (Memref.whole main_arg2) (Memref.isWhole_whole _) (ms0 a t) (hs0 a t) (ms1 a t) (hs1 a t) (ms2 a t) (hs2 a t) (ms3 a t) (hs3 a t) (ms4 a t) (hs4 a t)

set_option maxHeartbeats 4000000 in
/-- The body at step `t` takes what the windows held before to what they hold after. -/
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := Bits)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [idle4]
  simp only [before0, before1, before2, before3, after0, after1, after2, after3, after4]
  rewrite [show (dats a m ρ 0 c).Φ t.succ = Phi a c t.succ from rfl, show (dats a m ρ 0 c).Φ t.castSucc = Phi a c t.castSucc from rfl,
    show (dats a m ρ 0 c).owesAt () t.succ = (dats a m ρ 0 c).owesAt () t.castSucc from rfl]
  unfold Phi
  by_cases q : Used a t
  · rewrite [show stepOut a m ρ c t = outUsed c (crd a t) (ms0 a t) (hs0 a t) (ms1 a t) (hs1 a t) (ms2 a t) (hs2 a t) (ms3 a t) (hs3 a t) (ms4 a t) (hs4 a t) (a.1 0) (a.1 1) (iblk a m ρ c (0 : Fin 5) t) (iblk a m ρ c (1 : Fin 5) t) (iblk a m ρ c (2 : Fin 5) t) (iblk a m ρ c (3 : Fin 5) t) q (not_cond2 a q) from by
      unfold stepOut; simp only [dif_pos q]]
    iintro ⟨⟨HT0, HT1⟩, Ho, ⟨%d0, H0⟩, ⟨%d1, H1⟩, ⟨%d2, H2⟩, ⟨%d3, H3⟩, ⟨%d4, H4⟩⟩
    iapply ((runUsed c (crd a t) (ms0 a t) (hs0 a t) (ms1 a t) (hs1 a t) (ms2 a t) (hs2 a t) (ms3 a t) (hs3 a t) (ms4 a t) (hs4 a t) (a.1 0) (a.1 1) (iblk a m ρ c (0 : Fin 5) t) (iblk a m ρ c (1 : Fin 5) t) (iblk a m ρ c (2 : Fin 5) t) (iblk a m ρ c (3 : Fin 5) t) q (not_cond2 a q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (coverUsed c _ _ _ _ _ _ _ _ _ _ _ _ _ _ _ _ _ _ _)
  · rewrite [show stepOut a m ρ c t = outUnused c (crd a t) (ms0 a t) (hs0 a t) (ms1 a t) (hs1 a t) (ms2 a t) (hs2 a t) (ms3 a t) (hs3 a t) (ms4 a t) (hs4 a t) (a.1 0) (a.1 1) (iblk a m ρ c (0 : Fin 5) t) (iblk a m ρ c (1 : Fin 5) t) (iblk a m ρ c (2 : Fin 5) t) (iblk a m ρ c (3 : Fin 5) t) q (cond2_of a q) from by
      unfold stepOut; simp only [dif_neg q]]
    iintro ⟨⟨HT0, HT1⟩, Ho, ⟨%d0, H0⟩, ⟨%d1, H1⟩, ⟨%d2, H2⟩, ⟨%d3, H3⟩, ⟨%d4, H4⟩⟩
    iapply ((runUnused c (crd a t) (ms0 a t) (hs0 a t) (ms1 a t) (hs1 a t) (ms2 a t) (hs2 a t) (ms3 a t) (hs3 a t) (ms4 a t) (hs4 a t) (a.1 0) (a.1 1) (iblk a m ρ c (0 : Fin 5) t) (iblk a m ρ c (1 : Fin 5) t) (iblk a m ρ c (2 : Fin 5) t) (iblk a m ρ c (3 : Fin 5) t) q (cond2_of a q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (coverUnused c _ _ _ _ _ _ _ _ _ _ _ _ _ _ _ _ _ _ _)

/-- The body obligation of the pipeline, at every step. -/
theorem body_obligation (c : Dev nD) : BodyObligation (dats a m ρ 0 c) (defs₀ (F := Bits)) Variants.none () Set.univ := fun t => by
  rw [bigSep_W0]
  exact sound_body a m ρ c t

/-! ## The launch -/

/-- The proof's resource algebra: the staging cells'. -/
abbrev EP : Emb (UR sig nD τ) 𝕄 := emb₁

/-- The launch element. -/
def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgA a).W) : (dats a m ρ 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first step, from the tables. -/
theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c 0 from rfl]
  unfold Phi
  iintro ⟨-, ⟨HT0, HT1⟩, -⟩
  isplitl [HT0]
  · iexact HT0
  iexact HT1

/-- After the last step the tables are let go. -/
theorem phi_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a c (Fin.last _) from rfl]
  unfold Phi
  iintro ⟨-, -⟩
  isplitr; · iempintro
  iempintro

/-- What the run ends with: every window's array at its computed contents, every table as the pipeline read it. -/
def Post : PUnit × MemSt nD τ sig (Elt Bits) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

theorem held_pre (hp : Held a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- From a launch memory that holds the tables' contents every execution of the call terminates, with every array at
    its computed contents and every semaphore counter at zero. -/
theorem run_main (hp : Held a m) : θ_run (defs (F := Bits)) (onTc (τ := τ) (main (F := Bits))) (s₀ m ρ) (fun r => Post a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := held_pre a m hp)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every argument ends as it began. -/
def Kept (r : PUnit × MemSt nD τ sig (Elt Bits)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)

theorem kept_of_post (hp : Held a m) (r : PUnit × MemSt nD τ sig (Elt Bits)) (h : Post a m ρ r) : Kept m r := fun c =>
  ⟨((h c).1 (0 : Fin 5)).trans ((dats a m ρ 0 c).arrAt_in (0 : Fin 5) rfl _), ((h c).2 0).trans (hp.1 c).symm,
    ((h c).2 1).trans (hp.2 c).symm, ((h c).1 (1 : Fin 5)).trans ((dats a m ρ 0 c).arrAt_in (1 : Fin 5) rfl _),
    ((h c).1 (2 : Fin 5)).trans ((dats a m ρ 0 c).arrAt_in (2 : Fin 5) rfl _),
    ((h c).1 (3 : Fin 5)).trans ((dats a m ρ 0 c).arrAt_in (3 : Fin 5) rfl _)⟩

/-- The frame of the call at the tables' contents. -/
theorem frame (hp : Held a m) :
    θ_run (defs (F := Bits)) (onTc (τ := τ) (main (F := Bits))) ⟨m, fun _ => 0, ρ⟩ (fun r => Kept m r ∧ r.2.sem = fun _ => 0) :=
  (θ_run defs _ _).mono (fun r h => ⟨kept_of_post a m ρ hp r h.1, h.2⟩) (run_main a m ρ hp)

/-- The result's array at the end, together with the arguments. -/
theorem value (hp : Held a m) :
    θ_run (defs (F := Bits)) (onTc (τ := τ) (main (F := Bits))) ⟨m, fun _ => 0, ρ⟩ (fun r =>
      (∀ c : Dev nD, r.2.mem ((c.tc : Thread nD τ).loc main_v0) = (dats a m ρ 0 c).arrAt (4 : Fin 5) (cfgA a).N) ∧ Kept m r) :=
  (θ_run defs _ _).mono (fun r h => ⟨fun c => (h.1 c).1 (4 : Fin 5), kept_of_post a m ρ hp r h.1⟩) (run_main a m ρ hp)

end Cert.Kernel.Experts

end
-- ==== Proof.ExpertsTables.lean ====
/- The two prefetched tables of the expert call: from the precondition (every block's expert is one of the 64, at least one
   block is used) every block the index maps name lies inside its array, and the frame of the call follows. Stated for
   the program read at `Bits`. -/
module

public import proofs.«01_k».proof.Proof.ExpertsRun
public import proofs.«01_k».proof.Proof.Gen.Pre_blocks_of_experts
public import Idealize.ShloMosaic.Lib.ReduceAll
public import Idealize.ShloMosaic.Lib.WordArith

@[expose] public section

set_option maxRecDepth 16384

noncomputable section

namespace Cert.Kernel.Experts

open Cert.Kernel Cert.Kernel.Gen
open Idealize.ShloMosaic Idealize.ShloMosaic.TcCoe
open Idealize.SL.Sem

/-- What the precondition says of the tables' contents. -/
structure Good (pf : pre0.Contents (Elt Bits)) : Prop where
  expert_nonneg : ∀ x : S608.Idx, 0 ≤ (pf 0 x : BitVec 32).toInt
  expert_lt : ∀ x : S608.Idx, (pf 0 x : BitVec 32).toInt < 64
  used_pos : ∀ x : S1.Idx, 1 ≤ (pf 1 x : BitVec 32).toInt

/-- A word that is signed non-negative is its own unsigned value. -/
theorem toNat_of_toInt_nonneg (x : BitVec 32) (h : 0 ≤ x.toInt) : (x.toNat : ℤ) = x.toInt := by
  have := BitVec.toInt_eq_toNat_cond x
  have := x.isLt
  split at * <;> omega

/-- One less than a positive word. -/
theorem sub_one_word (v : BitVec 32) (h : 1 ≤ v.toInt) : (Scalar.subi v 1#32).toNat = v.toNat - 1 := by
  show (v - 1#32).toNat = v.toNat - 1
  have h1 := toNat_of_toInt_nonneg v (by omega)
  have h2 := v.isLt
  rw [BitVec.toNat_sub]
  simp only [BitVec.toNat_ofNat]
  omega

/-- The table's entry for grid step `i`. -/
abbrev ixE (i : grid0.Coords) : S608.Idx := fun a => ⟨(i 0).val, by fin_cases a; exact (i 0).isLt⟩
/-- The one entry of the count. -/
abbrev ixN : S1.Idx := fun a => ⟨0, by fin_cases a; exact Nat.one_pos⟩

theorem idxN (x : S1.Idx) : x = ixN := by
  funext a
  have ha : (x a).val < 1 := by have := (x a).isLt; fin_cases a; exact this
  exact Fin.ext (Nat.lt_one_iff.1 ha)

/-- The step's number as a word, read back. -/
theorem step_word (i : grid0.Coords) : (BitVec.ofNat 32 (i 0).val).toNat = (i 0).val := by
  have : (i 0).val < 608 := (i 0).isLt
  rw [BitVec.toNat_ofNat]; omega

/-- The entry the weight windows' index maps read at step `i`. -/
theorem at_expert (pf : pre0.Contents (Elt Bits)) (i : grid0.Coords) :
    pf.at 0 (Rect.unit (s := S608) ![(Scalar.indexCast (BitVec.ofNat 32 (i 0).val) : Index).toNat] S1.size (k0_off1_inb i)) numel1_S1 = pf 0 (ixE i) := by
  refine congrArg (pf 0) (funext fun a => Fin.ext ?_)
  have h := step_word i
  fin_cases a
  show (Scalar.indexCast (BitVec.ofNat 32 (i 0).val) : Index).toNat + 1 * _ = (i 0).val
  have e : (Scalar.indexCast (BitVec.ofNat 32 (i 0).val) : Index).toNat = (i 0).val := h
  have z : ((Shape.Idx.first (numel1_S1.symm ▸ Nat.one_pos) : S1.Idx) 0).val = 0 := by
    have := ((Shape.Idx.first (numel1_S1.symm ▸ Nat.one_pos) : S1.Idx) 0).isLt
    exact Nat.lt_one_iff.1 this
  exact (congrArg₂ (fun n k => n + 1 * k) e z).trans (by omega)

/-- The count the first window's index map reads. -/
theorem at_count (pf : pre0.Contents (Elt Bits)) :
    pf.at 1 (Rect.unit (s := S1) ![0] S1.size inb_S1_S1_0) numel1_S1 = pf 1 ixN := congrArg (pf 1) (idxN _)

/-- The count the body reads. -/
theorem count_eq (T : S1.Idx → Elt Bits .i32) : count T = T ixN := congrArg T (idxN _)

/-- A step is used when its number is below the count. -/
theorem cond1_iff (i : grid0.Coords) (v : BitVec 32) : k0_cond1 i v = 1#1 ↔ ((i 0).val : ℤ) < v.toInt := by
  have key : ∀ b : BitVec 1, Scalar.cmpi .ne (Scalar.extui b : BitVec 32) 0#32 = 1#1 ↔ b = 1#1 := by decide
  refine (key (Scalar.cmpi .slt (BitVec.ofNat 32 (i 0).val) v)).trans ((IntOp.cmpi_slt (x := BitVec.ofNat 32 (i 0).val) (y := v)).trans ?_)
  have h : (BitVec.ofNat 32 (i 0).val).toInt = ((i 0).val : ℤ) := by
    have h1 : (i 0).val < 608 := (i 0).isLt
    have h2 := step_word i
    have := BitVec.toInt_eq_toNat_cond (BitVec.ofNat 32 (i 0).val)
    rw [h2] at this
    split at this <;> omega
  rw [h]

variable {pf : pre0.Contents (Elt Bits)}

/-- The block of rows step `i` reads: its own, or the last used one. -/
theorem rows_block (h : Good pf) (i : grid0.Coords) :
    cc0_transform_0 inb_S1_S1_0 numel1_S1 pf i 0 = min (i 0).val ((pf 1 ixN : BitVec 32).toNat - 1) := by
  show (Scalar.minsi (BitVec.ofNat 32 (i 0).val) (Scalar.subi (pf.at 1 (Rect.unit (s := S1) ![0] S1.size inb_S1_S1_0) numel1_S1) 1#32)).toNat = _
  rw [at_count]
  have h1 : (i 0).val < 608 := (i 0).isLt
  have h2 := step_word i
  have h3 := h.used_pos ixN
  have h4 := toNat_of_toInt_nonneg (pf 1 ixN) (by omega)
  have h5 : (pf 1 ixN : BitVec 32).toInt < 2 ^ 31 := BitVec.toInt_lt
  have h6 := sub_one_word (pf 1 ixN) h3
  rw [← h6]
  refine (WordArith.toNat_minsi_of_lt _ _ (by rw [h2]; omega) (by rw [h6]; omega)).trans ?_
  rw [h2]

/-- The block of rows of a used step is its own. -/
theorem rows_block_used (h : Good pf) (i : grid0.Coords) (hu : ((i 0).val : ℤ) < (pf 1 ixN : BitVec 32).toInt) :
    cc0_transform_0 inb_S1_S1_0 numel1_S1 pf i 0 = (i 0).val := by
  rw [rows_block h]
  have h3 := h.used_pos ixN
  have h4 := toNat_of_toInt_nonneg (pf 1 ixN) (by omega)
  omega

/-- The expert of step `i`, as the weight windows' index maps compute it. -/
theorem weights_block (i : grid0.Coords) :
    cc0_transform_1 k0_off1_inb numel1_S1 pf i 0 = (pf 0 (ixE i) : BitVec 32).toNat := by
  show BitVec.toNat (pf.at 0 (Rect.unit (s := S608) ![(Scalar.indexCast (BitVec.ofNat 32 (i 0).val) : Index).toNat] S1.size (k0_off1_inb i)) numel1_S1) = _
  rw [at_expert]

theorem expert_lt_nat (h : Good pf) (x : S608.Idx) : (pf 0 x : BitVec 32).toNat < 64 := by
  have h1 := h.expert_nonneg x
  have h2 := h.expert_lt x
  have h4 := toNat_of_toInt_nonneg (pf 0 x) h1
  omega

/-- Every block the index maps name lies inside its array. -/
theorem ok_of_good (h : Good pf) : ok0 (F := Bits) pf := by
  have hw : ∀ i : grid0.Coords, cc0_transform_1 k0_off1_inb numel1_S1 pf i 0 < 64 := fun i => by
    rw [weights_block]; exact expert_lt_nat h _
  refine ⟨fun i => ⟨fun a => ?_, .inl rfl⟩, fun i => ⟨fun a => ?_, .inr (Affine.block_words_dvd (s := S64x1024x256) (p := EltTy.packing .bf16) (by decide) (by decide))⟩,
    fun i => ⟨fun a => ?_, .inr (Affine.block_words_dvd (s := S64x1024x256) (p := EltTy.packing .bf16) (by decide) (by decide))⟩,
    fun i => ⟨fun a => ?_, .inr (Affine.block_words_dvd (s := S64x256x1024) (p := EltTy.packing .bf16) (by decide) (by decide))⟩⟩
  · have h1 : (i 0).val < 608 := (i 0).isLt
    have h2 := rows_block h i
    fin_cases a
    · show (cc0_transform_0 inb_S1_S1_0 numel1_S1 pf i 0 + 1) * 512 ≤ 311296
      omega
    · show (0 + 1) * 1024 ≤ 1024; omega
  · fin_cases a
    · exact Nat.mul_le_mul_right 1 (hw i)
    · show (0 + 1) * 1024 ≤ 1024; omega
    · show (0 + 1) * 256 ≤ 256; omega
  · fin_cases a
    · exact Nat.mul_le_mul_right 1 (hw i)
    · show (0 + 1) * 1024 ≤ 1024; omega
    · show (0 + 1) * 256 ≤ 256; omega
  · fin_cases a
    · exact Nat.mul_le_mul_right 1 (hw i)
    · show (0 + 1) * 256 ≤ 256; omega
    · show (0 + 1) * 1024 ≤ 1024; omega

/-- The tables' contents of a launch memory. -/
def tables (m : (ℓ : Loc nD τ sig) → Buf (Elt Bits) ℓ) : pre0.Contents (Elt Bits) := fun j => m (((0 : Dev nD) : Thread nD τ).loc (pre0.ref j))

/-- The precondition, read entry by entry. -/
theorem good_of_pre (m : (ℓ : Loc nD τ sig) → Buf (Elt Bits) ℓ)
    (h : Cert.Pre_Kernel (hPre_blocks_of_experts := Cert.Pre_blocks_of_experts.Gen.facts) m) : Good (tables m) := by
  have h0 := congrFun (h 0) (fun a => a.elim0)
  unfold Cert.Pre_blocks_of_experts.fn at h0
  have h1 := IntOp.andi_eq_one.1 h0
  haveI : Subsingleton (Cert.Pre_blocks_of_experts.S_.Idx) := ⟨fun x y => funext fun a => a.elim0⟩
  have hE := fun x => IntOp.andi_eq_one.1 (Host.reduce_andi_all _ _ _ _ _ h1.1 x)
  have hN := fun x => IntOp.cmpi_sge.1 (Host.reduce_andi_all _ _ _ _ _ h1.2 x)
  exact ⟨fun x => IntOp.cmpi_sge.1 (hE x).1, fun x => IntOp.cmpi_slt.1 (hE x).2, hN⟩

/-- The tables' contents with their side condition. -/
def adm (m : (ℓ : Loc nD τ sig) → Buf (Elt Bits) ℓ) (h : Good (tables m)) : (pcfg0 (F := Bits)).Adm := ⟨tables m, ok_of_good h⟩

theorem held (m : (ℓ : Loc nD τ sig) → Buf (Elt Bits) ℓ) (h : Good (tables m)) : Held (adm m h) m :=
  ⟨fun c => by rw [Subsingleton.elim c 0]; rfl, fun c => by rw [Subsingleton.elim c 0]; rfl⟩

/-- The frame of the call under the precondition. -/
theorem frame_of_pre (m : (ℓ : Loc nD τ sig) → Buf (Elt Bits) ℓ) (ρ : Dev nD → PrngReg)
    (h : Cert.Pre_Kernel (hPre_blocks_of_experts := Cert.Pre_blocks_of_experts.Gen.facts) m) :
    θ_run (defs (F := Bits)) (onTc (τ := τ) (main (F := Bits))) ⟨m, fun _ => 0, ρ⟩ (fun r => Kept m r ∧ r.2.sem = fun _ => 0) :=
  frame (adm m (good_of_pre m h)) m ρ (held m (good_of_pre m h))

end Cert.Kernel.Experts

end
-- ==== Proof.ExpertsIdealRun.lean ====
/- The expert call runs: whatever the two prefetched tables hold, as long as every block they name lies inside its
   array, the grid of 608 steps terminates without a fault, leaves the arguments as they were and writes each step's
   block of the result once. Stated for the program read at `Ideal`. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.Quiescent
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Claim
public import Idealize.ShloMosaic.PureOps.Ideal
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource model of the launch. -/
local notation "𝕄" => MT nD τ sig Unit (Elt Ideal) ℕ (UR sig nD τ) ℕ

/-- The table of experts and the count of used blocks, as the kernel is handed them. -/
abbrev tabE : Memref sig .tc .smem S608 .i32 := Memref.whole main_arg1
abbrev tabN : Memref sig .tc .smem S1 .i32 := Memref.whole main_arg2

/-! ## The two branches of the body exclude each other -/

/-- The second branch is taken exactly where the first is not. -/
theorem cond2_iff (i : grid0.Coords) (v : BitVec 32) : k0_cond2 i v = 1#1 ↔ ¬k0_cond1 i v = 1#1 := by
  have key : ∀ b : BitVec 1, Scalar.cmpi .ne (Scalar.extui (Scalar.xori b 1#1) : BitVec 32) 0#32 = 1#1
      ↔ ¬Scalar.cmpi .ne (Scalar.extui b : BitVec 32) 0#32 = 1#1 := by decide
  exact key (Scalar.cmpi .slt (BitVec.ofNat 32 (i 0).val) v)

/-- The count of used blocks, as the body reads it out of the table's contents. -/
abbrev count (T : S1.Idx → Elt Ideal .i32) : BitVec 32 :=
  View.readAt (Elt Ideal) tabN.view (Rect.unit (s := S1) ![0] S1.size inb_S1_S1_0).toLoadRect T (Shape.Idx.first (numel1_S1.symm ▸ Nat.one_pos))

/-! ## The body, branch by branch -/

/-- One staging buffer of the result, through which its contents are stated. -/
abbrev VO : View sig .tc .vmem S512x1024 .f32 := (Memref.whole cc0_stg4_0 : Memref sig .tc .vmem S512x1024 .f32).view

set_option backward.proofsInPublic true in
set_option maxHeartbeats 8000000 in
/-- On a used block: from the staging buffers at the blocks and the tables, the body runs to its end and leaves the pieces it stored. -/
noncomputable def runUsed (c : Dev nD) (i : grid0.Coords) (arg3 : Memref sig .tc .vmem S512x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S512x1024 .f32) (harg7 : arg7.IsWhole)
    (T0 : S608.Idx → Elt Ideal .i32) (T1 : S1.Idx → Elt Ideal .i32) (x0 : S512x1024.Idx → Elt Ideal .f32) (x1 : S1x1024x256.Idx → Elt Ideal .bf16) (x2 : S1x1024x256.Idx → Elt Ideal .bf16) (x3 : S1x256x1024.Idx → Elt Ideal .bf16)
    (h1 : k0_cond1 i (count T1) = 1#1) (h2 : ¬k0_cond2 i (count T1) = 1#1) :
    { out : List (View.Piece (Elt Ideal) S512x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tabE.view.loc (c : Thread nD τ) ↦{fullShare.right} T0)
              ∗ (tabN.view.loc (c : Thread nD τ) ↦{fullShare.right} T1)
              ∗ (∃ f, arg7.view.loc (c : Thread nD τ) ↦[arg7.view.set]{fullShare} arg7.view.writes (Elt Ideal) f out)) -∗ K ⟨⟩))
          ⊢ wp frame (wpE (defs₀ (F := Ideal)) Variants.none c none) Set.univ (cc0_moe_expert_ffn i tabE (Memref.isWhole_whole _) tabN (Memref.isWhole_whole _) arg3 harg3 arg4 harg4 arg5 harg5 arg6 harg6 arg7 harg7) K } :=
  ⟨_, fun K => by
    unfold owns
    rw [cc0_moe_expert_ffn_eq_skeleton]; unfold cc0_moe_expert_ffn_skel
    iintro ⟨H0, H1, H2, H3, HT0, HT1, ⟨%d4, %f4, -, HO4⟩, Hk⟩
    have hT0 : tabE.IsWhole := Memref.isWhole_whole _
    have hT1 : tabN.IsWhole := Memref.isWhole_whole _
    sl_exec! (disch := first | (guard_target = k0_cond1 _ _ = _; exact h1) | (guard_target = ¬(k0_cond2 _ _ = _); exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of that branch covers the result's block. -/
theorem coverUsed (c : Dev nD) (i : grid0.Coords) (arg3 : Memref sig .tc .vmem S512x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S512x1024 .f32) (harg7 : arg7.IsWhole)
    (T0 : S608.Idx → Elt Ideal .i32) (T1 : S1.Idx → Elt Ideal .i32) (x0 : S512x1024.Idx → Elt Ideal .f32) (x1 : S1x1024x256.Idx → Elt Ideal .bf16) (x2 : S1x1024x256.Idx → Elt Ideal .bf16) (x3 : S1x256x1024.Idx → Elt Ideal .bf16)
    (h1 : k0_cond1 i (count T1) = 1#1) (h2 : ¬k0_cond2 i (count T1) = 1#1) (y : S512x1024.Idx) :
    ∃ pc ∈ (runUsed c i arg3 harg3 arg4 harg4 arg5 harg5 arg6 harg6 arg7 harg7 T0 T1 x0 x1 x2 x3 h1 h2).1, y ∈ pc.1.set :=
  View.cover_of_tiledL (runUsed c i arg3 harg3 arg4 harg4 arg5 harg5 arg6 harg6 arg7 harg7 T0 T1 x0 x1 x2 x3 h1 h2).1 S512x1024.size (by sl_kernel_rfl) y

/-- What that branch leaves in the result's staging buffer. -/
def outUsed (c : Dev nD) (i : grid0.Coords) (arg3 : Memref sig .tc .vmem S512x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S512x1024 .f32) (harg7 : arg7.IsWhole)
    (T0 : S608.Idx → Elt Ideal .i32) (T1 : S1.Idx → Elt Ideal .i32) (x0 : S512x1024.Idx → Elt Ideal .f32) (x1 : S1x1024x256.Idx → Elt Ideal .bf16) (x2 : S1x1024x256.Idx → Elt Ideal .bf16) (x3 : S1x256x1024.Idx → Elt Ideal .bf16)
    (h1 : k0_cond1 i (count T1) = 1#1) (h2 : ¬k0_cond2 i (count T1) = 1#1) : S512x1024.Idx → Elt Ideal .f32 :=
  VO.read (Elt Ideal) (VO.writes (Elt Ideal) VO.junk (runUsed c i arg3 harg3 arg4 harg4 arg5 harg5 arg6 harg6 arg7 harg7 T0 T1 x0 x1 x2 x3 h1 h2).1)

set_option backward.proofsInPublic true in
set_option maxHeartbeats 8000000 in
/-- On a block past the used ones: the same, with the pieces the other branch stores. -/
noncomputable def runUnused (c : Dev nD) (i : grid0.Coords) (arg3 : Memref sig .tc .vmem S512x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S512x1024 .f32) (harg7 : arg7.IsWhole)
    (T0 : S608.Idx → Elt Ideal .i32) (T1 : S1.Idx → Elt Ideal .i32) (x0 : S512x1024.Idx → Elt Ideal .f32) (x1 : S1x1024x256.Idx → Elt Ideal .bf16) (x2 : S1x1024x256.Idx → Elt Ideal .bf16) (x3 : S1x256x1024.Idx → Elt Ideal .bf16)
    (h1 : ¬k0_cond1 i (count T1) = 1#1) (h2 : k0_cond2 i (count T1) = 1#1) :
    { out : List (View.Piece (Elt Ideal) S512x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tabE.view.loc (c : Thread nD τ) ↦{fullShare.right} T0)
              ∗ (tabN.view.loc (c : Thread nD τ) ↦{fullShare.right} T1)
              ∗ (∃ f, arg7.view.loc (c : Thread nD τ) ↦[arg7.view.set]{fullShare} arg7.view.writes (Elt Ideal) f out)) -∗ K ⟨⟩))
          ⊢ wp frame (wpE (defs₀ (F := Ideal)) Variants.none c none) Set.univ (cc0_moe_expert_ffn i tabE (Memref.isWhole_whole _) tabN (Memref.isWhole_whole _) arg3 harg3 arg4 harg4 arg5 harg5 arg6 harg6 arg7 harg7) K } :=
  ⟨_, fun K => by
    unfold owns
    rw [cc0_moe_expert_ffn_eq_skeleton]; unfold cc0_moe_expert_ffn_skel
    iintro ⟨H0, H1, H2, H3, HT0, HT1, ⟨%d4, %f4, -, HO4⟩, Hk⟩
    have hT0 : tabE.IsWhole := Memref.isWhole_whole _
    have hT1 : tabN.IsWhole := Memref.isWhole_whole _
    sl_exec! (disch := first | (guard_target = ¬(k0_cond1 _ _ = _); exact h1) | (guard_target = k0_cond2 _ _ = _; exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- The one store of that branch covers the result's block. -/
theorem coverUnused (c : Dev nD) (i : grid0.Coords) (arg3 : Memref sig .tc .vmem S512x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S512x1024 .f32) (harg7 : arg7.IsWhole)
    (T0 : S608.Idx → Elt Ideal .i32) (T1 : S1.Idx → Elt Ideal .i32) (x0 : S512x1024.Idx → Elt Ideal .f32) (x1 : S1x1024x256.Idx → Elt Ideal .bf16) (x2 : S1x1024x256.Idx → Elt Ideal .bf16) (x3 : S1x256x1024.Idx → Elt Ideal .bf16)
    (h1 : ¬k0_cond1 i (count T1) = 1#1) (h2 : k0_cond2 i (count T1) = 1#1) (y : S512x1024.Idx) :
    ∃ pc ∈ (runUnused c i arg3 harg3 arg4 harg4 arg5 harg5 arg6 harg6 arg7 harg7 T0 T1 x0 x1 x2 x3 h1 h2).1, y ∈ pc.1.set :=
  View.cover_of_tiledL (runUnused c i arg3 harg3 arg4 harg4 arg5 harg5 arg6 harg6 arg7 harg7 T0 T1 x0 x1 x2 x3 h1 h2).1 S512x1024.size (by sl_kernel_rfl) y

/-- What that branch leaves in the result's staging buffer. -/
def outUnused (c : Dev nD) (i : grid0.Coords) (arg3 : Memref sig .tc .vmem S512x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S512x1024 .f32) (harg7 : arg7.IsWhole)
    (T0 : S608.Idx → Elt Ideal .i32) (T1 : S1.Idx → Elt Ideal .i32) (x0 : S512x1024.Idx → Elt Ideal .f32) (x1 : S1x1024x256.Idx → Elt Ideal .bf16) (x2 : S1x1024x256.Idx → Elt Ideal .bf16) (x3 : S1x256x1024.Idx → Elt Ideal .bf16)
    (h1 : ¬k0_cond1 i (count T1) = 1#1) (h2 : k0_cond2 i (count T1) = 1#1) : S512x1024.Idx → Elt Ideal .f32 :=
  VO.read (Elt Ideal) (VO.writes (Elt Ideal) VO.junk (runUnused c i arg3 harg3 arg4 harg4 arg5 harg5 arg6 harg6 arg7 harg7 T0 T1 x0 x1 x2 x3 h1 h2).1)

/-! ## The pipeline at given contents of the tables -/

/- The contents of the two tables, with every block they name inside its array. -/
variable (a : (pcfg0 (F := Ideal)).Adm)
variable (m : (ℓ : Loc nD τ sig) → Buf (Elt Ideal) ℓ) (ρ : Dev nD → PrngReg)

abbrev cfgA : Pipeline.Cfg sig Λ₀ := cfg0 (F := Ideal) a
abbrev pcs : Fin 1 → Pipeline.Cfg sig Λ₀ := Pipeline.pin (pcfgs (F := Ideal)) fun _ => a

/-- The launch memory holds those contents. -/
def Held : Prop :=
  (∀ c : Dev nD, m ((c : Thread nD τ).loc main_arg1) = a.1 0) ∧ (∀ c : Dev nD, m ((c : Thread nD τ).loc main_arg2) = a.1 1)

/-- Step `t`'s coordinates. -/
abbrev crd (t : Fin (cfgA a).N) : (cfgA a).grid.Coords := (cfgA a).grid.coords t

/-- Each window's staging buffer at step `t`, and that it is a whole buffer. -/
abbrev ms0 (t : Fin (cfgA a).N) : Memref sig .tc .vmem S512x1024 .f32 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x1024x256 .bf16 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x1024x256 .bf16 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x256x1024 .bf16 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S512x1024 .f32 := spec0_4.stage ((cfgA a).slots t (4 : Fin 5))
abbrev hs4 (t : Fin (cfgA a).N) : (ms4 a t).IsWhole := hstage0_4 (((cfgA a).slots t (4 : Fin 5)).cast nbuf0_4)

/-- Window `w`'s block at step `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) ((s₀ m ρ).mem (((cfgA a).win w).arr.view.loc (c : Thread nD τ)))

/-- Step `t` is one of the used blocks. -/
abbrev Used (t : Fin (cfgA a).N) : Prop := k0_cond1 (crd a t) (count (a.1 1)) = 1#1

theorem not_cond2 {t : Fin (cfgA a).N} (h : Used a t) : ¬k0_cond2 (crd a t) (count (a.1 1)) = 1#1 :=
  fun h2 => (cond2_iff _ _).1 h2 h
theorem cond2_of {t : Fin (cfgA a).N} (h : ¬Used a t) : k0_cond2 (crd a t) (count (a.1 1)) = 1#1 := (cond2_iff _ _).2 h

/-- The result is stored at every step. -/
theorem idle4 (t : Fin (cfgA a).N) : (cfgA a).idle (4 : Fin 5) ((cfgA a).grid.coords t) = false := by
  show (!(k0_cond1 (crd a t) (a.1.atD 1 ![0]) == 1#1) && !(k0_cond2 (crd a t) (a.1.atD 1 ![0]) == 1#1)) = false
  by_cases h : k0_cond1 (crd a t) (a.1.atD 1 ![0]) = 1#1
  · simp [h]
  · simp [(cond2_iff _ _).2 h]

/-- What step `t` leaves in the result's staging buffer: the expert's output on a used block, zeros elsewhere. -/
def stepOut (c : Dev nD) (t : Fin (cfgA a).N) : S512x1024.Idx → Elt Ideal .f32 :=
  if q : Used a t then outUsed c (crd a t) (ms0 a t) (hs0 a t) (ms1 a t) (hs1 a t) (ms2 a t) (hs2 a t) (ms3 a t) (hs3 a t) (ms4 a t) (hs4 a t) (a.1 0) (a.1 1) (iblk a m ρ c (0 : Fin 5) t) (iblk a m ρ c (1 : Fin 5) t) (iblk a m ρ c (2 : Fin 5) t) (iblk a m ρ c (3 : Fin 5) t) q (not_cond2 a q)
  else outUnused c (crd a t) (ms0 a t) (hs0 a t) (ms1 a t) (hs1 a t) (ms2 a t) (hs2 a t) (ms3 a t) (hs3 a t) (ms4 a t) (hs4 a t) (a.1 0) (a.1 1) (iblk a m ρ c (0 : Fin 5) t) (iblk a m ρ c (1 : Fin 5) t) (iblk a m ρ c (2 : Fin 5) t) (iblk a m ρ c (3 : Fin 5) t) q (cond2_of a q)

/-- The body holds its halves of the tables throughout. -/
def Phi (c : Dev nD) (_t : Fin ((cfgA a).N + 1)) : sProp 𝕄 :=
  iprop((tabE.view.loc (c : Thread nD τ) ↦{fullShare.right} a.1 0) ∗ (tabN.view.loc (c : Thread nD τ) ↦{fullShare.right} a.1 1))

/-- The proof data of the pipeline: inputs keep their blocks, the result holds `stepOut`. -/
def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => stepOut a m ρ c t
  Φ t := Phi a c t
  q _ := fullShare
  owed _ := 0

theorem after0 (c : Dev nD) (t : Fin (cfgA a).N) : (dats a m ρ 0 c).after (0 : Fin 5) t = iblk a m ρ c (0 : Fin 5) t := rfl
theorem after1 (c : Dev nD) (t : Fin (cfgA a).N) : (dats a m ρ 0 c).after (1 : Fin 5) t = iblk a m ρ c (1 : Fin 5) t := rfl
theorem after2 (c : Dev nD) (t : Fin (cfgA a).N) : (dats a m ρ 0 c).after (2 : Fin 5) t = iblk a m ρ c (2 : Fin 5) t := rfl
theorem after3 (c : Dev nD) (t : Fin (cfgA a).N) : (dats a m ρ 0 c).after (3 : Fin 5) t = iblk a m ρ c (3 : Fin 5) t := rfl
theorem after4 (c : Dev nD) (t : Fin (cfgA a).N) : (dats a m ρ 0 c).after (4 : Fin 5) t = stepOut a m ρ c t := rfl

/-- Input window 0 holds its block when the body runs. -/
theorem before0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0]; unfold Dat.blockOf iblk; rfl) t d).trans
    (by unfold Dat.fetched Dat.blockOf iblk; rfl)

/-- Input window 1 holds its block when the body runs. -/
theorem before1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after1]; unfold Dat.blockOf iblk; rfl) t d).trans
    (by unfold Dat.fetched Dat.blockOf iblk; rfl)

/-- Input window 2 holds its block when the body runs. -/
theorem before2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after2]; unfold Dat.blockOf iblk; rfl) t d).trans
    (by unfold Dat.fetched Dat.blockOf iblk; rfl)

/-- Input window 3 holds its block when the body runs. -/
theorem before3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- The body at step `t` on its staging buffers. -/
abbrev bodyAt (t : Fin (cfgA a).N) : Prog (TpuEff nD τ sig (Elt Ideal) Λ₀ .tc) PUnit :=
  cc0_moe_expert_ffn (crd a t) (Memref.whole main_arg1) (Memref.isWhole_whole _) (Memref.whole main_arg2) (Memref.isWhole_whole _) (ms0 a t) (hs0 a t) (ms1 a t) (hs1 a t) (ms2 a t) (hs2 a t) (ms3 a t) (hs3 a t) (ms4 a t) (hs4 a t)

set_option maxHeartbeats 4000000 in
/-- The body at step `t` takes what the windows held before to what they hold after. -/
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := Ideal)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [idle4]
  simp only [before0, before1, before2, before3, after0, after1, after2, after3, after4]
  rewrite [show (dats a m ρ 0 c).Φ t.succ = Phi a c t.succ from rfl, show (dats a m ρ 0 c).Φ t.castSucc = Phi a c t.castSucc from rfl,
    show (dats a m ρ 0 c).owesAt () t.succ = (dats a m ρ 0 c).owesAt () t.castSucc from rfl]
  unfold Phi
  by_cases q : Used a t
  · rewrite [show stepOut a m ρ c t = outUsed c (crd a t) (ms0 a t) (hs0 a t) (ms1 a t) (hs1 a t) (ms2 a t) (hs2 a t) (ms3 a t) (hs3 a t) (ms4 a t) (hs4 a t) (a.1 0) (a.1 1) (iblk a m ρ c (0 : Fin 5) t) (iblk a m ρ c (1 : Fin 5) t) (iblk a m ρ c (2 : Fin 5) t) (iblk a m ρ c (3 : Fin 5) t) q (not_cond2 a q) from by
      unfold stepOut; simp only [dif_pos q]]
    iintro ⟨⟨HT0, HT1⟩, Ho, ⟨%d0, H0⟩, ⟨%d1, H1⟩, ⟨%d2, H2⟩, ⟨%d3, H3⟩, ⟨%d4, H4⟩⟩
    iapply ((runUsed c (crd a t) (ms0 a t) (hs0 a t) (ms1 a t) (hs1 a t) (ms2 a t) (hs2 a t) (ms3 a t) (hs3 a t) (ms4 a t) (hs4 a t) (a.1 0) (a.1 1) (iblk a m ρ c (0 : Fin 5) t) (iblk a m ρ c (1 : Fin 5) t) (iblk a m ρ c (2 : Fin 5) t) (iblk a m ρ c (3 : Fin 5) t) q (not_cond2 a q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (coverUsed c _ _ _ _ _ _ _ _ _ _ _ _ _ _ _ _ _ _ _)
  · rewrite [show stepOut a m ρ c t = outUnused c (crd a t) (ms0 a t) (hs0 a t) (ms1 a t) (hs1 a t) (ms2 a t) (hs2 a t) (ms3 a t) (hs3 a t) (ms4 a t) (hs4 a t) (a.1 0) (a.1 1) (iblk a m ρ c (0 : Fin 5) t) (iblk a m ρ c (1 : Fin 5) t) (iblk a m ρ c (2 : Fin 5) t) (iblk a m ρ c (3 : Fin 5) t) q (cond2_of a q) from by
      unfold stepOut; simp only [dif_neg q]]
    iintro ⟨⟨HT0, HT1⟩, Ho, ⟨%d0, H0⟩, ⟨%d1, H1⟩, ⟨%d2, H2⟩, ⟨%d3, H3⟩, ⟨%d4, H4⟩⟩
    iapply ((runUnused c (crd a t) (ms0 a t) (hs0 a t) (ms1 a t) (hs1 a t) (ms2 a t) (hs2 a t) (ms3 a t) (hs3 a t) (ms4 a t) (hs4 a t) (a.1 0) (a.1 1) (iblk a m ρ c (0 : Fin 5) t) (iblk a m ρ c (1 : Fin 5) t) (iblk a m ρ c (2 : Fin 5) t) (iblk a m ρ c (3 : Fin 5) t) q (cond2_of a q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (coverUnused c _ _ _ _ _ _ _ _ _ _ _ _ _ _ _ _ _ _ _)

/-- The body obligation of the pipeline, at every step. -/
theorem body_obligation (c : Dev nD) : BodyObligation (dats a m ρ 0 c) (defs₀ (F := Ideal)) Variants.none () Set.univ := fun t => by
  rw [bigSep_W0]
  exact sound_body a m ρ c t

/-! ## The launch -/

/-- The proof's resource algebra: the staging cells'. -/
abbrev EP : Emb (UR sig nD τ) 𝕄 := emb₁

/-- The launch element. -/
def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgA a).W) : (dats a m ρ 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first step, from the tables. -/
theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c 0 from rfl]
  unfold Phi
  iintro ⟨-, ⟨HT0, HT1⟩, -⟩
  isplitl [HT0]
  · iexact HT0
  iexact HT1

/-- After the last step the tables are let go. -/
theorem phi_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a c (Fin.last _) from rfl]
  unfold Phi
  iintro ⟨-, -⟩
  isplitr; · iempintro
  iempintro

/-- What the run ends with: every window's array at its computed contents, every table as the pipeline read it. -/
def Post : PUnit × MemSt nD τ sig (Elt Ideal) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

theorem held_pre (hp : Held a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- From a launch memory that holds the tables' contents every execution of the call terminates, with every array at
    its computed contents and every semaphore counter at zero. -/
theorem run_main (hp : Held a m) : θ_run (defs (F := Ideal)) (onTc (τ := τ) (main (F := Ideal))) (s₀ m ρ) (fun r => Post a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := held_pre a m hp)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every argument ends as it began. -/
def Kept (r : PUnit × MemSt nD τ sig (Elt Ideal)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)

theorem kept_of_post (hp : Held a m) (r : PUnit × MemSt nD τ sig (Elt Ideal)) (h : Post a m ρ r) : Kept m r := fun c =>
  ⟨((h c).1 (0 : Fin 5)).trans ((dats a m ρ 0 c).arrAt_in (0 : Fin 5) rfl _), ((h c).2 0).trans (hp.1 c).symm,
    ((h c).2 1).trans (hp.2 c).symm, ((h c).1 (1 : Fin 5)).trans ((dats a m ρ 0 c).arrAt_in (1 : Fin 5) rfl _),
    ((h c).1 (2 : Fin 5)).trans ((dats a m ρ 0 c).arrAt_in (2 : Fin 5) rfl _),
    ((h c).1 (3 : Fin 5)).trans ((dats a m ρ 0 c).arrAt_in (3 : Fin 5) rfl _)⟩

/-- The frame of the call at the tables' contents. -/
theorem frame (hp : Held a m) :
    θ_run (defs (F := Ideal)) (onTc (τ := τ) (main (F := Ideal))) ⟨m, fun _ => 0, ρ⟩ (fun r => Kept m r ∧ r.2.sem = fun _ => 0) :=
  (θ_run defs _ _).mono (fun r h => ⟨kept_of_post a m ρ hp r h.1, h.2⟩) (run_main a m ρ hp)

/-- The result's array at the end, together with the arguments. -/
theorem value (hp : Held a m) :
    θ_run (defs (F := Ideal)) (onTc (τ := τ) (main (F := Ideal))) ⟨m, fun _ => 0, ρ⟩ (fun r =>
      (∀ c : Dev nD, r.2.mem ((c.tc : Thread nD τ).loc main_v0) = (dats a m ρ 0 c).arrAt (4 : Fin 5) (cfgA a).N) ∧ Kept m r) :=
  (θ_run defs _ _).mono (fun r h => ⟨fun c => (h.1 c).1 (4 : Fin 5), kept_of_post a m ρ hp r h.1⟩) (run_main a m ρ hp)

end Cert.KernelIdeal.Experts

end
-- ==== Proof.ExpertsIdealTables.lean ====
/- The two prefetched tables of the expert call: from the precondition (every block's expert is one of the 64, at least one
   block is used) every block the index maps name lies inside its array, and the frame of the call follows. Stated for
   the program read at `Ideal`. -/
module

public import proofs.«01_k».proof.Proof.ExpertsIdealRun
public import proofs.«01_k».proof.Proof.Gen.Pre_blocks_of_experts
public import Idealize.ShloMosaic.Lib.ReduceAll
public import Idealize.ShloMosaic.Lib.WordArith

@[expose] public section

set_option maxRecDepth 16384

noncomputable section

namespace Cert.KernelIdeal.Experts

open Cert.KernelIdeal Cert.KernelIdeal.Gen
open Idealize.ShloMosaic Idealize.ShloMosaic.TcCoe
open Idealize.SL.Sem

/-- What the precondition says of the tables' contents. -/
structure Good (pf : pre0.Contents (Elt Ideal)) : Prop where
  expert_nonneg : ∀ x : S608.Idx, 0 ≤ (pf 0 x : BitVec 32).toInt
  expert_lt : ∀ x : S608.Idx, (pf 0 x : BitVec 32).toInt < 64
  used_pos : ∀ x : S1.Idx, 1 ≤ (pf 1 x : BitVec 32).toInt

/-- A word that is signed non-negative is its own unsigned value. -/
theorem toNat_of_toInt_nonneg (x : BitVec 32) (h : 0 ≤ x.toInt) : (x.toNat : ℤ) = x.toInt := by
  have := BitVec.toInt_eq_toNat_cond x
  have := x.isLt
  split at * <;> omega

/-- One less than a positive word. -/
theorem sub_one_word (v : BitVec 32) (h : 1 ≤ v.toInt) : (Scalar.subi v 1#32).toNat = v.toNat - 1 := by
  show (v - 1#32).toNat = v.toNat - 1
  have h1 := toNat_of_toInt_nonneg v (by omega)
  have h2 := v.isLt
  rw [BitVec.toNat_sub]
  simp only [BitVec.toNat_ofNat]
  omega

/-- The table's entry for grid step `i`. -/
abbrev ixE (i : grid0.Coords) : S608.Idx := fun a => ⟨(i 0).val, by fin_cases a; exact (i 0).isLt⟩
/-- The one entry of the count. -/
abbrev ixN : S1.Idx := fun a => ⟨0, by fin_cases a; exact Nat.one_pos⟩

theorem idxN (x : S1.Idx) : x = ixN := by
  funext a
  have ha : (x a).val < 1 := by have := (x a).isLt; fin_cases a; exact this
  exact Fin.ext (Nat.lt_one_iff.1 ha)

/-- The step's number as a word, read back. -/
theorem step_word (i : grid0.Coords) : (BitVec.ofNat 32 (i 0).val).toNat = (i 0).val := by
  have : (i 0).val < 608 := (i 0).isLt
  rw [BitVec.toNat_ofNat]; omega

/-- The entry the weight windows' index maps read at step `i`. -/
theorem at_expert (pf : pre0.Contents (Elt Ideal)) (i : grid0.Coords) :
    pf.at 0 (Rect.unit (s := S608) ![(Scalar.indexCast (BitVec.ofNat 32 (i 0).val) : Index).toNat] S1.size (k0_off1_inb i)) numel1_S1 = pf 0 (ixE i) := by
  refine congrArg (pf 0) (funext fun a => Fin.ext ?_)
  have h := step_word i
  fin_cases a
  show (Scalar.indexCast (BitVec.ofNat 32 (i 0).val) : Index).toNat + 1 * _ = (i 0).val
  have e : (Scalar.indexCast (BitVec.ofNat 32 (i 0).val) : Index).toNat = (i 0).val := h
  have z : ((Shape.Idx.first (numel1_S1.symm ▸ Nat.one_pos) : S1.Idx) 0).val = 0 := by
    have := ((Shape.Idx.first (numel1_S1.symm ▸ Nat.one_pos) : S1.Idx) 0).isLt
    exact Nat.lt_one_iff.1 this
  exact (congrArg₂ (fun n k => n + 1 * k) e z).trans (by omega)

/-- The count the first window's index map reads. -/
theorem at_count (pf : pre0.Contents (Elt Ideal)) :
    pf.at 1 (Rect.unit (s := S1) ![0] S1.size inb_S1_S1_0) numel1_S1 = pf 1 ixN := congrArg (pf 1) (idxN _)

/-- The count the body reads. -/
theorem count_eq (T : S1.Idx → Elt Ideal .i32) : count T = T ixN := congrArg T (idxN _)

/-- A step is used when its number is below the count. -/
theorem cond1_iff (i : grid0.Coords) (v : BitVec 32) : k0_cond1 i v = 1#1 ↔ ((i 0).val : ℤ) < v.toInt := by
  have key : ∀ b : BitVec 1, Scalar.cmpi .ne (Scalar.extui b : BitVec 32) 0#32 = 1#1 ↔ b = 1#1 := by decide
  refine (key (Scalar.cmpi .slt (BitVec.ofNat 32 (i 0).val) v)).trans ((IntOp.cmpi_slt (x := BitVec.ofNat 32 (i 0).val) (y := v)).trans ?_)
  have h : (BitVec.ofNat 32 (i 0).val).toInt = ((i 0).val : ℤ) := by
    have h1 : (i 0).val < 608 := (i 0).isLt
    have h2 := step_word i
    have := BitVec.toInt_eq_toNat_cond (BitVec.ofNat 32 (i 0).val)
    rw [h2] at this
    split at this <;> omega
  rw [h]

variable {pf : pre0.Contents (Elt Ideal)}

/-- The block of rows step `i` reads: its own, or the last used one. -/
theorem rows_block (h : Good pf) (i : grid0.Coords) :
    cc0_transform_0 inb_S1_S1_0 numel1_S1 pf i 0 = min (i 0).val ((pf 1 ixN : BitVec 32).toNat - 1) := by
  show (Scalar.minsi (BitVec.ofNat 32 (i 0).val) (Scalar.subi (pf.at 1 (Rect.unit (s := S1) ![0] S1.size inb_S1_S1_0) numel1_S1) 1#32)).toNat = _
  rw [at_count]
  have h1 : (i 0).val < 608 := (i 0).isLt
  have h2 := step_word i
  have h3 := h.used_pos ixN
  have h4 := toNat_of_toInt_nonneg (pf 1 ixN) (by omega)
  have h5 : (pf 1 ixN : BitVec 32).toInt < 2 ^ 31 := BitVec.toInt_lt
  have h6 := sub_one_word (pf 1 ixN) h3
  rw [← h6]
  refine (WordArith.toNat_minsi_of_lt _ _ (by rw [h2]; omega) (by rw [h6]; omega)).trans ?_
  rw [h2]

/-- The block of rows of a used step is its own. -/
theorem rows_block_used (h : Good pf) (i : grid0.Coords) (hu : ((i 0).val : ℤ) < (pf 1 ixN : BitVec 32).toInt) :
    cc0_transform_0 inb_S1_S1_0 numel1_S1 pf i 0 = (i 0).val := by
  rw [rows_block h]
  have h3 := h.used_pos ixN
  have h4 := toNat_of_toInt_nonneg (pf 1 ixN) (by omega)
  omega

/-- The expert of step `i`, as the weight windows' index maps compute it. -/
theorem weights_block (i : grid0.Coords) :
    cc0_transform_1 k0_off1_inb numel1_S1 pf i 0 = (pf 0 (ixE i) : BitVec 32).toNat := by
  show BitVec.toNat (pf.at 0 (Rect.unit (s := S608) ![(Scalar.indexCast (BitVec.ofNat 32 (i 0).val) : Index).toNat] S1.size (k0_off1_inb i)) numel1_S1) = _
  rw [at_expert]

theorem expert_lt_nat (h : Good pf) (x : S608.Idx) : (pf 0 x : BitVec 32).toNat < 64 := by
  have h1 := h.expert_nonneg x
  have h2 := h.expert_lt x
  have h4 := toNat_of_toInt_nonneg (pf 0 x) h1
  omega

/-- Every block the index maps name lies inside its array. -/
theorem ok_of_good (h : Good pf) : ok0 (F := Ideal) pf := by
  have hw : ∀ i : grid0.Coords, cc0_transform_1 k0_off1_inb numel1_S1 pf i 0 < 64 := fun i => by
    rw [weights_block]; exact expert_lt_nat h _
  refine ⟨fun i => ⟨fun a => ?_, .inl rfl⟩, fun i => ⟨fun a => ?_, .inr (Affine.block_words_dvd (s := S64x1024x256) (p := EltTy.packing .bf16) (by decide) (by decide))⟩,
    fun i => ⟨fun a => ?_, .inr (Affine.block_words_dvd (s := S64x1024x256) (p := EltTy.packing .bf16) (by decide) (by decide))⟩,
    fun i => ⟨fun a => ?_, .inr (Affine.block_words_dvd (s := S64x256x1024) (p := EltTy.packing .bf16) (by decide) (by decide))⟩⟩
  · have h1 : (i 0).val < 608 := (i 0).isLt
    have h2 := rows_block h i
    fin_cases a
    · show (cc0_transform_0 inb_S1_S1_0 numel1_S1 pf i 0 + 1) * 512 ≤ 311296
      omega
    · show (0 + 1) * 1024 ≤ 1024; omega
  · fin_cases a
    · exact Nat.mul_le_mul_right 1 (hw i)
    · show (0 + 1) * 1024 ≤ 1024; omega
    · show (0 + 1) * 256 ≤ 256; omega
  · fin_cases a
    · exact Nat.mul_le_mul_right 1 (hw i)
    · show (0 + 1) * 1024 ≤ 1024; omega
    · show (0 + 1) * 256 ≤ 256; omega
  · fin_cases a
    · exact Nat.mul_le_mul_right 1 (hw i)
    · show (0 + 1) * 256 ≤ 256; omega
    · show (0 + 1) * 1024 ≤ 1024; omega

/-- The tables' contents of a launch memory. -/
def tables (m : (ℓ : Loc nD τ sig) → Buf (Elt Ideal) ℓ) : pre0.Contents (Elt Ideal) := fun j => m (((0 : Dev nD) : Thread nD τ).loc (pre0.ref j))

/-- The precondition, read entry by entry. -/
theorem good_of_pre (m : (ℓ : Loc nD τ sig) → Buf (Elt Ideal) ℓ)
    (h : Cert.Pre_KernelIdeal (hPre_blocks_of_experts := Cert.Pre_blocks_of_experts.Gen.facts) m) : Good (tables m) := by
  have h0 := congrFun (h 0) (fun a => a.elim0)
  unfold Cert.Pre_blocks_of_experts.fn at h0
  have h1 := IntOp.andi_eq_one.1 h0
  haveI : Subsingleton (Cert.Pre_blocks_of_experts.S_.Idx) := ⟨fun x y => funext fun a => a.elim0⟩
  have hE := fun x => IntOp.andi_eq_one.1 (Host.reduce_andi_all _ _ _ _ _ h1.1 x)
  have hN := fun x => IntOp.cmpi_sge.1 (Host.reduce_andi_all _ _ _ _ _ h1.2 x)
  exact ⟨fun x => IntOp.cmpi_sge.1 (hE x).1, fun x => IntOp.cmpi_slt.1 (hE x).2, hN⟩

/-- The tables' contents with their side condition. -/
def adm (m : (ℓ : Loc nD τ sig) → Buf (Elt Ideal) ℓ) (h : Good (tables m)) : (pcfg0 (F := Ideal)).Adm := ⟨tables m, ok_of_good h⟩

theorem held (m : (ℓ : Loc nD τ sig) → Buf (Elt Ideal) ℓ) (h : Good (tables m)) : Held (adm m h) m :=
  ⟨fun c => by rw [Subsingleton.elim c 0]; rfl, fun c => by rw [Subsingleton.elim c 0]; rfl⟩

/-- The frame of the call under the precondition. -/
theorem frame_of_pre (m : (ℓ : Loc nD τ sig) → Buf (Elt Ideal) ℓ) (ρ : Dev nD → PrngReg)
    (h : Cert.Pre_KernelIdeal (hPre_blocks_of_experts := Cert.Pre_blocks_of_experts.Gen.facts) m) :
    θ_run (defs (F := Ideal)) (onTc (τ := τ) (main (F := Ideal))) ⟨m, fun _ => 0, ρ⟩ (fun r => Kept m r ∧ r.2.sem = fun _ => 0) :=
  frame (adm m (good_of_pre m h)) m ρ (held m (good_of_pre m h))

end Cert.KernelIdeal.Experts

end
-- ==== Proof.ExpertsBlock.lean ====
/- What one step of the expert call computes at the ideal floats: on a used block, row by row, the gated two-layer
   network of the step's expert; on an unused block, zeros. -/
module

public import proofs.«01_k».proof.Proof.ExpertsIdealTables
public import Idealize.ShloMosaic.Lib.MatmulPlain
public import Idealize.ShloMosaic.Lib.KernelVsHost
public import Idealize.ShloMosaic.Lib.Pipeline.Value
public import Idealize.ShloMosaic.Lib.ValueIdx

@[expose] public section

set_option maxRecDepth 16384

noncomputable section

namespace Cert.KernelIdeal.Experts

open Cert.KernelIdeal Cert.KernelIdeal.Gen
open Idealize.ShloMosaic Idealize.ShloMosaic.TcCoe Idealize.SL.Sem Idealize.ShloMosaic.ValueIdx
open scoped BigOperators

/-! ## The mathematics of one row -/

/-- One coordinate of a row times a matrix. -/
def project (x : Fin 1024 → EReal) (w : Fin 1024 → Fin 256 → EReal) (f : Fin 256) : EReal := ∑ k : Fin 1024, x k * w k f

/-- The gated hidden row: `h · logistic h` for the first projection `h`, times the second projection. -/
def hidden (x : Fin 1024 → EReal) (w1 w3 : Fin 1024 → Fin 256 → EReal) (f : Fin 256) : EReal :=
  project x w1 f * Ideal.logistic (project x w1 f) * project x w3 f

/-- The network's output row. -/
def network (x : Fin 1024 → EReal) (w1 w3 : Fin 1024 → Fin 256 → EReal) (w2 : Fin 256 → Fin 1024 → EReal) (d : Fin 1024) : EReal :=
  ∑ f : Fin 256, hidden x w1 w3 f * w2 f d

/-! ## The body's stored values -/

/-- The words of zero and of one. -/
theorem zero_word : Ideal.ofBits .f32 0x00000000#32 = 0 := by simp [Ideal.ofBits, Ideal.ieee]
theorem one_word : Ideal.ofBits .f32 0x3F800000#32 = 1 := by
  simp [Ideal.ofBits, Ideal.ieee, -EReal.coe_mul]; norm_num

/-- The used block's stored value, element by element. -/
theorem pay1_apply (x : Vec Ideal S512x1024 .f32) (w1 w3 : Vec Ideal S1x1024x256 .bf16) (w2 : Vec Ideal S1x256x1024 .bf16)
    (r : Fin 512) (d : Fin 1024) :
    k0_pay1 (F := Ideal) x w1 w3 w2 (ix2 r d)
      = network (fun k => x (ix2 r k)) (fun k f => w1 (ix3 0 k f)) (fun k f => w3 (ix3 0 k f)) (fun f d => w2 (ix3 0 f d)) d := by
  have first : ∀ (w : Vec Ideal S1x1024x256 .bf16) (f : Fin 256),
      FloatOps.matmul (F := Ideal) (φ₁ := .bf16) (φ₂ := .bf16) (DotDims.plain 512 1024 256) none (truncf (F := Ideal) .bf16 x bitsLt_bf16_f32)
        (shapeCast S1024x256 w shapeCasts_S1x1024x256_S1024x256) (constant (F := Ideal) S512x256 .f32 0x00000000#32) (ix2 r f)
      = project (fun k => x (ix2 r k)) (fun k f => w (ix3 0 k f)) f := by
    intro w f
    refine (Ideal.matmul_plain_apply none _ _ _ r f).trans ?_
    rw [show constant (F := Ideal) S512x256 .f32 0x00000000#32 (ix2 r f) = 0 from zero_word, zero_add]
    refine Finset.sum_congr rfl fun k _ => congrArg (x (ix2 r k) * ·) ?_
    exact (shapeCast_dropUnit_apply ![1024, 256] w _ (ix2 k f)).trans (congrArg w (by
      funext a; fin_cases a <;> rfl))
  refine (Ideal.matmul_plain_apply none _ _ _ r d).trans ?_
  rw [show constant (F := Ideal) S512x1024 .f32 0x00000000#32 (ix2 r d) = 0 from zero_word, zero_add]
  refine Finset.sum_congr rfl fun f _ => ?_
  refine congrArg₂ (fun p q : EReal => p * q) ?_ ?_
  · exact congrArg₂ (fun p q : EReal => p * Ideal.logistic p * q) (first w1 f) (first w3 f)
  · exact (shapeCast_dropUnit_apply ![256, 1024] w2 _ (ix2 f d)).trans (congrArg w2 (by
      funext a; fin_cases a <;> rfl))

theorem hz2 : (![0, 0] : Fin 2 → Nat) = fun _ => 0 := funext fun a => by fin_cases a <;> rfl
theorem hz3 : (![0, 0, 0] : Fin 3 → Nat) = fun _ => 0 := funext fun a => by fin_cases a <;> rfl

/-- On a used block the body's one store leaves the network of the loaded blocks. -/
theorem outUsed_eq (c : Dev nD) (i : grid0.Coords) (arg3 : Memref sig .tc .vmem S512x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S512x1024 .f32) (harg7 : arg7.IsWhole)
    (T0 : S608.Idx → Elt Ideal .i32) (T1 : S1.Idx → Elt Ideal .i32) (x0 : S512x1024.Idx → Elt Ideal .f32) (x1 : S1x1024x256.Idx → Elt Ideal .bf16) (x2 : S1x1024x256.Idx → Elt Ideal .bf16) (x3 : S1x256x1024.Idx → Elt Ideal .bf16)
    (h1 : k0_cond1 i (count T1) = 1#1) (h2 : ¬k0_cond2 i (count T1) = 1#1) :
    outUsed c i arg3 harg3 arg4 harg4 arg5 harg5 arg6 harg6 arg7 harg7 T0 T1 x0 x1 x2 x3 h1 h2 = k0_pay1 (F := Ideal) x0 x1 x2 x3 := by
  unfold outUsed
  rw [View.read_writes_eq_canon _ _ _ (coverUsed c i arg3 harg3 arg4 harg4 arg5 harg5 arg6 harg6 arg7 harg7 T0 T1 x0 x1 x2 x3 h1 h2)]
  unfold runUsed
  dsimp only
  sl_unfold_words
  rw [View.canon_unit_zero hz2]
  simp only [View.readAt_eq_ld, View.read_rep,
    View.ld_unit_zero (S := S512x1024) hz2, View.ld_unit_zero (S := S1x1024x256) hz3, View.ld_unit_zero (S := S1x256x1024) hz3]

/-- On an unused block it leaves zeros. -/
theorem outUnused_eq (c : Dev nD) (i : grid0.Coords) (arg3 : Memref sig .tc .vmem S512x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S512x1024 .f32) (harg7 : arg7.IsWhole)
    (T0 : S608.Idx → Elt Ideal .i32) (T1 : S1.Idx → Elt Ideal .i32) (x0 : S512x1024.Idx → Elt Ideal .f32) (x1 : S1x1024x256.Idx → Elt Ideal .bf16) (x2 : S1x1024x256.Idx → Elt Ideal .bf16) (x3 : S1x256x1024.Idx → Elt Ideal .bf16)
    (h1 : ¬k0_cond1 i (count T1) = 1#1) (h2 : k0_cond2 i (count T1) = 1#1) :
    outUnused c i arg3 harg3 arg4 harg4 arg5 harg5 arg6 harg6 arg7 harg7 T0 T1 x0 x1 x2 x3 h1 h2 = fun _ => (0 : EReal) := by
  unfold outUnused
  rw [View.read_writes_eq_canon _ _ _ (coverUnused c i arg3 harg3 arg4 harg4 arg5 harg5 arg6 harg6 arg7 harg7 T0 T1 x0 x1 x2 x3 h1 h2)]
  unfold runUnused
  dsimp only
  sl_unfold_words
  rw [View.canon_unit_zero hz2]
  funext x
  exact zero_word

variable (a : (pcfg0 (F := Ideal)).Adm) (m : (ℓ : Loc nD τ sig) → Buf (Elt Ideal) ℓ) (ρ : Dev nD → PrngReg)

/-- What a used step leaves in the result's staging buffer. -/
theorem stepOut_used (c : Dev nD) (t : Fin (cfgA a).N) (q : Used a t) :
    stepOut a m ρ c t = k0_pay1 (F := Ideal) (iblk a m ρ c (0 : Fin 5) t) (iblk a m ρ c (1 : Fin 5) t) (iblk a m ρ c (2 : Fin 5) t) (iblk a m ρ c (3 : Fin 5) t) := by
  unfold stepOut
  rw [dif_pos q]
  exact outUsed_eq ..

/-- What an unused step leaves there. -/
theorem stepOut_unused (c : Dev nD) (t : Fin (cfgA a).N) (q : ¬Used a t) :
    stepOut a m ρ c t = fun _ => (0 : EReal) := by
  unfold stepOut
  rw [dif_neg q]
  exact outUnused_eq ..

end Cert.KernelIdeal.Experts

end
-- ==== Proof.ExpertsArray.lean ====
/- The array the expert call leaves, as one function of its arguments: row `r` of a used block is the network of the
   block's expert at row `r` of the input, and every other row is zero. -/
module

public import proofs.«01_k».proof.Proof.ExpertsBlock
public import Idealize.ShloMosaic.Lib.Pipeline.Covers

@[expose] public section

set_option maxRecDepth 16384

noncomputable section

namespace Cert.KernelIdeal.Experts

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-! ## The specification -/

/-- The number of the block row `r` lies in. -/
abbrev blockOf (r : Fin 311296) : Fin 608 := ⟨r.val / 512, by have := r.isLt; omega⟩

/-- The expert the table names for a block, held below 64. -/
def expertOf (E : Fin 608 → BitVec 32) (b : Fin 608) : Fin 64 := ⟨min (E b).toNat 63, by omega⟩

/-- The result array: a row of a used block through the network of the block's expert, zero on the others. -/
def routed (X : Fin 311296 → Fin 1024 → EReal) (E : Fin 608 → BitVec 32) (N : BitVec 32)
    (W1 W3 : Fin 64 → Fin 1024 → Fin 256 → EReal) (W2 : Fin 64 → Fin 256 → Fin 1024 → EReal) (r : Fin 311296) (d : Fin 1024) : EReal :=
  if ((blockOf r).val : ℤ) < N.toInt then
    network (X r) (W1 (expertOf E (blockOf r))) (W3 (expertOf E (blockOf r))) (W2 (expertOf E (blockOf r))) d
  else 0

variable (m : (ℓ : Loc nD τ sig) → Buf (Elt Ideal) ℓ) (ρ : Dev nD → PrngReg)

/-- The specification at a launch's arguments. -/
def spec (c : Dev nD) : S311296x1024.Idx → EReal := fun i =>
  routed (fun r k => m ((c : Thread nD τ).loc main_arg0) (ix2 r k)) (fun b => m ((c : Thread nD τ).loc main_arg1) (ix1 b))
    (m ((c : Thread nD τ).loc main_arg2) (ix1 0))
    (fun e k f => m ((c : Thread nD τ).loc main_arg3) (ix3 e k f)) (fun e k f => m ((c : Thread nD τ).loc main_arg4) (ix3 e k f))
    (fun e f d => m ((c : Thread nD τ).loc main_arg5) (ix3 e f d)) (i 0) (i 1)

/-! ## The blocks the steps read -/

variable (h : Good (tables m))

/-- The number of step `t` as the grid's coordinate. -/
abbrev step (t : Fin (cfgA (adm m h)).N) : Fin 608 := crd (adm m h) t 0

/-- A used step reads its own rows. -/
theorem rows_read (c : Dev nD) (t : Fin (cfgA (adm m h)).N) (q : ((step m h t).val : ℤ) < (tables m 1 ixN : BitVec 32).toInt)
    (r : Fin 512) (k : Fin 1024) :
    (iblk (adm m h) m ρ c (0 : Fin 5) t : S512x1024.Idx → EReal) (ix2 r k)
      = m ((c : Thread nD τ).loc main_arg0) (ix2 ⟨(step m h t).val * 512 + r.val, by have := (step m h t).isLt; have := r.isLt; omega⟩ k) := by
  have e := rows_block_used h (crd (adm m h) t) q
  refine congrArg (m ((c : Thread nD τ).loc main_arg0)) (funext fun a => Fin.ext ?_)
  match a with
  | ⟨0, _⟩ =>
    refine (((cfgA (adm m h)).win (0 : Fin 5)).rect_emb_val t (ix2 r k) (0 : Fin 2)).trans ?_
    exact congrArg (fun n => n * 512 + r.val) e
  | ⟨1, _⟩ =>
    refine (((cfgA (adm m h)).win (0 : Fin 5)).rect_emb_val t (ix2 r k) (1 : Fin 2)).trans ?_
    show 0 * 1024 + k.val = k.val
    omega

theorem expert_block (t : Fin (cfgA (adm m h)).N) :
    cc0_transform_1 k0_off1_inb numel1_S1 (tables m) (crd (adm m h) t) 0
      = (expertOf (fun b => tables m 0 (ix1 b)) (step m h t)).val := by
  have e := weights_block (pf := tables m) (crd (adm m h) t)
  have hb : ixE (crd (adm m h) t) = ix1 (step m h t) := by
    funext a; fin_cases a; rfl
  have l := expert_lt_nat h (ix1 (step m h t))
  rw [e, hb]
  exact (Nat.min_eq_left (Nat.le_of_lt_succ l)).symm

/-- A step reads the first projection of its block's expert. -/
theorem weights_read1 (c : Dev nD) (t : Fin (cfgA (adm m h)).N) (k : Fin 1024) (f : Fin 256) :
    (iblk (adm m h) m ρ c (1 : Fin 5) t : S1x1024x256.Idx → EReal) (ix3 0 k f)
      = m ((c : Thread nD τ).loc main_arg3) (ix3 (expertOf (fun b => tables m 0 (ix1 b)) (step m h t)) k f) := by
  have e := expert_block m h t
  refine congrArg (m ((c : Thread nD τ).loc main_arg3)) (funext fun a => Fin.ext ?_)
  match a with
  | ⟨0, _⟩ =>
    refine (((cfgA (adm m h)).win (1 : Fin 5)).rect_emb_val t (ix3 0 k f) (0 : Fin 3)).trans ?_
    refine (congrArg (fun n => n * 1 + 0) e).trans ?_
    show (expertOf (fun b => tables m 0 (ix1 b)) (step m h t)).val * 1 + 0 = (expertOf (fun b => tables m 0 (ix1 b)) (step m h t)).val
    omega
  | ⟨1, _⟩ =>
    refine (((cfgA (adm m h)).win (1 : Fin 5)).rect_emb_val t (ix3 0 k f) (1 : Fin 3)).trans ?_
    show 0 * 1024 + k.val = k.val
    omega
  | ⟨2, _⟩ =>
    refine (((cfgA (adm m h)).win (1 : Fin 5)).rect_emb_val t (ix3 0 k f) (2 : Fin 3)).trans ?_
    show 0 * 256 + f.val = f.val
    omega

/-- A step reads the second projection of its block's expert. -/
theorem weights_read2 (c : Dev nD) (t : Fin (cfgA (adm m h)).N) (k : Fin 1024) (f : Fin 256) :
    (iblk (adm m h) m ρ c (2 : Fin 5) t : S1x1024x256.Idx → EReal) (ix3 0 k f)
      = m ((c : Thread nD τ).loc main_arg4) (ix3 (expertOf (fun b => tables m 0 (ix1 b)) (step m h t)) k f) := by
  have e := expert_block m h t
  refine congrArg (m ((c : Thread nD τ).loc main_arg4)) (funext fun a => Fin.ext ?_)
  match a with
  | ⟨0, _⟩ =>
    refine (((cfgA (adm m h)).win (2 : Fin 5)).rect_emb_val t (ix3 0 k f) (0 : Fin 3)).trans ?_
    refine (congrArg (fun n => n * 1 + 0) e).trans ?_
    show (expertOf (fun b => tables m 0 (ix1 b)) (step m h t)).val * 1 + 0 = (expertOf (fun b => tables m 0 (ix1 b)) (step m h t)).val
    omega
  | ⟨1, _⟩ =>
    refine (((cfgA (adm m h)).win (2 : Fin 5)).rect_emb_val t (ix3 0 k f) (1 : Fin 3)).trans ?_
    show 0 * 1024 + k.val = k.val
    omega
  | ⟨2, _⟩ =>
    refine (((cfgA (adm m h)).win (2 : Fin 5)).rect_emb_val t (ix3 0 k f) (2 : Fin 3)).trans ?_
    show 0 * 256 + f.val = f.val
    omega

/-- A step reads the output projection of its block's expert. -/
theorem weights_read3 (c : Dev nD) (t : Fin (cfgA (adm m h)).N) (k : Fin 256) (f : Fin 1024) :
    (iblk (adm m h) m ρ c (3 : Fin 5) t : S1x256x1024.Idx → EReal) (ix3 0 k f)
      = m ((c : Thread nD τ).loc main_arg5) (ix3 (expertOf (fun b => tables m 0 (ix1 b)) (step m h t)) k f) := by
  have e := expert_block m h t
  refine congrArg (m ((c : Thread nD τ).loc main_arg5)) (funext fun a => Fin.ext ?_)
  match a with
  | ⟨0, _⟩ =>
    refine (((cfgA (adm m h)).win (3 : Fin 5)).rect_emb_val t (ix3 0 k f) (0 : Fin 3)).trans ?_
    refine (congrArg (fun n => n * 1 + 0) e).trans ?_
    show (expertOf (fun b => tables m 0 (ix1 b)) (step m h t)).val * 1 + 0 = (expertOf (fun b => tables m 0 (ix1 b)) (step m h t)).val
    omega
  | ⟨1, _⟩ =>
    refine (((cfgA (adm m h)).win (3 : Fin 5)).rect_emb_val t (ix3 0 k f) (1 : Fin 3)).trans ?_
    show 0 * 256 + k.val = k.val
    omega
  | ⟨2, _⟩ =>
    refine (((cfgA (adm m h)).win (3 : Fin 5)).rect_emb_val t (ix3 0 k f) (2 : Fin 3)).trans ?_
    show 0 * 1024 + f.val = f.val
    omega

/-! ## The result's blocks -/

theorem used_iff (t : Fin (cfgA (adm m h)).N) :
    Used (adm m h) t ↔ ((step m h t).val : ℤ) < (tables m 1 ixN : BitVec 32).toInt := by
  exact (cond1_iff _ _).trans (iff_of_eq (congrArg (fun v : BitVec 32 => ((step m h t).val : ℤ) < v.toInt) (count_eq _)))

/-- What step `t` leaves, element by element, is the specification at its rows. -/
theorem stepOut_apply (c : Dev nD) (t : Fin (cfgA (adm m h)).N) (r : Fin 512) (d : Fin 1024) :
    stepOut (adm m h) m ρ c t (ix2 r d)
      = spec m c (ix2 ⟨(step m h t).val * 512 + r.val, by have := (step m h t).isLt; have := r.isLt; omega⟩ d) := by
  have hb : blockOf ⟨(step m h t).val * 512 + r.val, by have := (step m h t).isLt; have := r.isLt; omega⟩ = step m h t :=
    Fin.ext (by have := r.isLt; show ((step m h t).val * 512 + r.val) / 512 = _; omega)
  obtain rfl : c = 0 := Subsingleton.elim _ _
  have hN : ixN = ix1 (0 : Fin 1) := funext fun a => by fin_cases a; rfl
  show _ = routed _ _ _ _ _ _ _ _
  unfold routed
  rw [hb]
  by_cases q : ((step m h t).val : ℤ) < (tables m 1 ixN : BitVec 32).toInt
  · rw [stepOut_used _ _ _ _ _ ((used_iff m h t).2 q), pay1_apply]
    rw [if_pos (by rw [hN] at q; exact q)]
    simp only [rows_read m ρ h 0 t q, weights_read1, weights_read2, weights_read3]
    rfl
  · rw [stepOut_unused _ _ _ _ _ (fun u => q ((used_iff m h t).1 u))]
    rw [if_neg (by rw [hN] at q; exact q)]

/-- The blocks the steps write tile the array. -/
theorem covers : ((cfgA (adm m h)).win (4 : Fin 5)).Covers :=
  ((cfgA (adm m h)).win (4 : Fin 5)).covers_of_indexMap_surj rfl
    (fun a => by
      match a with
      | ⟨0, _⟩ => show 0 < 512; omega
      | ⟨1, _⟩ => show 0 < 1024; omega)
    fun β =>
    have b0 : (β (0 : Fin 2)).val < 608 := lt_of_lt_of_eq (β (0 : Fin 2)).isLt (show (311296 + (512 - 1)) / 512 = 608 by omega)
    have b1 : (β (1 : Fin 2)).val < 1 := lt_of_lt_of_eq (β (1 : Fin 2)).isLt (show (1024 + (1024 - 1)) / 1024 = 1 by omega)
    ⟨fun a => ⟨(β (0 : Fin 2)).val, by fin_cases a; exact b0⟩, fun a => by
      match a with
      | ⟨0, _⟩ => exact step_word (fun a => ⟨(β (0 : Fin 2)).val, by fin_cases a; exact b0⟩)
      | ⟨1, _⟩ =>
        show 0 = (β (1 : Fin 2)).val
        omega⟩

/-- After the grid the result array is the specification. -/
theorem final (c : Dev nD) : (dats (adm m h) m ρ 0 c).arrAt (4 : Fin 5) (cfgA (adm m h)).N = spec m c := by
  refine (dats (adm m h) m ρ 0 c).arrAt_eq_of_covers (4 : Fin 5) _ (covers m h) fun t _ y => ?_
  have hy : y = ix2 (y (0 : Fin 2)) (y (1 : Fin 2)) := eq_ix2 (n0 := 512) (n1 := 1024) y
  refine ((congrArg (stepOut (adm m h) m ρ c t) hy).trans (stepOut_apply m ρ h c t _ _)).trans (congrArg (spec m c) ?_)
  funext a; apply Fin.ext
  match a with
  | ⟨0, _⟩ =>
    refine Eq.symm ((((cfgA (adm m h)).win (4 : Fin 5)).rect_emb_val t y (0 : Fin 2)).trans ?_)
    exact congrArg (fun n => n * 512 + (y (0 : Fin 2)).val) (step_word (crd (adm m h) t))
  | ⟨1, _⟩ =>
    refine Eq.symm ((((cfgA (adm m h)).win (4 : Fin 5)).rect_emb_val t y (1 : Fin 2)).trans ?_)
    show 0 * 1024 + (y (1 : Fin 2)).val = (y (1 : Fin 2)).val
    omega

/-- The run under the precondition: the result is the specification, the arguments are kept. -/
theorem value_of_pre (hp : Cert.Pre_KernelIdeal (hPre_blocks_of_experts := Cert.Pre_blocks_of_experts.Gen.facts) m) :
    θ_run (defs (F := Ideal)) (onTc (τ := τ) (main (F := Ideal))) ⟨m, fun _ => 0, ρ⟩ (fun r =>
      (∀ c : Dev nD, r.2.mem ((c.tc : Thread nD τ).loc main_v0) = spec m c) ∧ Kept m r) :=
  (θ_run defs _ _).mono (fun r hr => ⟨fun c => (hr.1 c).trans (final m ρ (good_of_pre m hp) c), hr.2⟩)
    (value (adm m (good_of_pre m hp)) m ρ (held m (good_of_pre m hp)))

end Cert.KernelIdeal.Experts

end
-- ==== Proof.ExpertsReference.lean ====
/- What the reference of the expert call computes, element by element: it gathers each block's three weight matrices,
   takes the block's rows through them, and blanks the blocks from the count of used ones on. -/
module

public import proofs.«01_k».proof.Proof.ExpertsArray
public import proofs.«01_k».proof.Proof.Gen.ReferenceIdeal.Run
public import proofs.«01_k».proof.Proof.Gen.ReferenceIdeal.Read

@[expose] public section

set_option maxRecDepth 16384

noncomputable section

namespace Cert.ReferenceIdeal.Experts

open Idealize.ShloMosaic Idealize.ShloMosaic.TcCoe Idealize.SL.Sem Idealize.ShloMosaic.ValueIdx
open Cert.ReferenceIdeal Cert.ReferenceIdeal.Gen Cert.ReferenceIdeal.Read
open Cert.KernelIdeal.Experts (project hidden network blockOf expertOf routed zero_word one_word toNat_of_toInt_nonneg)
open scoped BigOperators

/-! ## Gathering one matrix per block -/

section Gather
variable {α : Type}

/-- The dimension numbers of "the matrix each entry of a column of indices names, out of a stack of them". -/
abbrev stackDims (N R A B : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Element `(b, k, f)` of that gather: the matrix the index names, read signed and clamped, at `(k, f)`. -/
theorem gather_stack_apply {N R A B w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (b : Fin R) (k : Fin A) (f : Fin B) :
    Host.gather (stackDims N R A B wf) x idx (ix3 b k f)
      = x (ix3 ⟨min (idx (ix2 b 0)).toInt.toNat (N - 1), by omega⟩ k f) := by
  unfold Host.gather
  congr 1
  funext a
  refine Fin.ext ?_
  show (stackDims N R A B wf).start (ix3 b k f) idx a + (stackDims N R A B wf).batchCoord (ix3 b k f) a
      + (stackDims N R A B wf).offCoord (ix3 b k f) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (stackDims N R A B wf).startIndexMap from List.mem_singleton.mpr rfl)]
    have hsi : (stackDims N R A B wf).siIdx (ix3 b k f) ⟨List.idxOf (0 : Fin 3) (stackDims N R A B wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  · unfold GatherDims.start
    rw [dif_neg (show ¬(1 : Fin 3) ∈ [(0 : Fin 3)] by decide)]
    unfold GatherDims.offCoord
    rw [dif_pos ((GatherDims.mem_sKept _ _).mpr ⟨show ¬(1 : Fin 3) ∈ [(0 : Fin 3)] by decide, List.not_mem_nil⟩), Nat.zero_add]
    rfl
  · unfold GatherDims.start
    rw [dif_neg (show ¬(2 : Fin 3) ∈ [(0 : Fin 3)] by decide)]
    unfold GatherDims.offCoord
    rw [dif_pos ((GatherDims.mem_sKept _ _).mpr ⟨show ¬(2 : Fin 3) ∈ [(0 : Fin 3)] by decide, List.not_mem_nil⟩), Nat.zero_add]
    rfl

end Gather

/-! ## The reference's values -/

variable (x0 : (⟨S311296x1024, .f32⟩ : BufTy).Contents (Elt Ideal)) (x1 : (⟨S608, .i32⟩ : BufTy).Contents (Elt Ideal))
  (x2 : (⟨S1, .i32⟩ : BufTy).Contents (Elt Ideal)) (x3 x4 : (⟨S64x1024x256, .bf16⟩ : BufTy).Contents (Elt Ideal))
  (x5 : (⟨S64x256x1024, .bf16⟩ : BufTy).Contents (Elt Ideal))

/-- A word that is not negative keeps its value where negative ones are wrapped. -/
theorem wrap_word (v : BitVec 32) (h : 0 ≤ v.toInt) :
    Scalar.select (IntOp.cmpi .slt v 0#32) (IntOp.addi v 64#32) v = v := by
  have : ¬IntOp.cmpi .slt v 0#32 = 1#1 := fun q => by
    have := IntOp.cmpi_slt.1 q
    have z : (0#32 : BitVec 32).toInt = 0 := by decide
    omega
  exact if_neg this

variable (hE : ∀ x : S608.Idx, 0 ≤ (x1 x : BitVec 32).toInt)

/-- The gathered row's number is the expert's. -/
theorem expert_index (b : Fin 608) (v : BitVec 32) (hv : v = x1 (ix1 b)) (hE : ∀ x : S608.Idx, 0 ≤ (x1 x : BitVec 32).toInt) :
    (⟨min v.toInt.toNat (64 - 1), by omega⟩ : Fin 64) = expertOf (fun b => x1 (ix1 b)) b := by
  refine Fin.ext ?_
  have e := toNat_of_toInt_nonneg (x1 (ix1 b)) (hE (ix1 b))
  subst hv
  show min (BitVec.toInt (x1 (ix1 b))).toNat 63 = min (BitVec.toNat (x1 (ix1 b))) 63
  rw [← e, Int.toNat_natCast]

include hE in
theorem first_weights (b : Fin 608) (k : Fin 1024) (f : Fin 256) :
    val_main_v10 (F := Ideal) x1 x3 (ix3 b k f) = x3 (ix3 (expertOf (fun b => x1 (ix1 b)) b) k f) := by
  refine (gather_stack_apply (by decide) _ _ _ b k f).trans ?_
  rw [expert_index x1 b _ ?_ hE]
  · rfl
  · rw [val_main_v9_apply, val_main_v8_apply, val_main_v5_apply, val_main_v7_apply, val_main_v4_apply, val_main_v6_apply]
    exact (wrap_word _ (hE _)).trans (congrArg x1 (funext fun a => by fin_cases a; rfl))

include hE in
theorem second_weights (b : Fin 608) (k : Fin 1024) (f : Fin 256) :
    val_main_v18 (F := Ideal) x1 x4 (ix3 b k f) = x4 (ix3 (expertOf (fun b => x1 (ix1 b)) b) k f) := by
  refine (gather_stack_apply (by decide) _ _ _ b k f).trans ?_
  rw [expert_index x1 b _ ?_ hE]
  · rfl
  · rw [val_main_v17_apply, val_main_v16_apply, val_main_v13_apply, val_main_v15_apply, val_main_v12_apply, val_main_v14_apply]
    exact (wrap_word _ (hE _)).trans (congrArg x1 (funext fun a => by fin_cases a; rfl))

include hE in
theorem output_weights (b : Fin 608) (f : Fin 256) (d : Fin 1024) :
    val_main_v28 (F := Ideal) x1 x5 (ix3 b f d) = x5 (ix3 (expertOf (fun b => x1 (ix1 b)) b) f d) := by
  refine (gather_stack_apply (by decide) _ _ _ b f d).trans ?_
  rw [expert_index x1 b _ ?_ hE]
  · rfl
  · rw [val_main_v27_apply, val_main_v26_apply, val_main_v23_apply, val_main_v25_apply, val_main_v22_apply, val_main_v24_apply]
    exact (wrap_word _ (hE _)).trans (congrArg x1 (funext fun a => by fin_cases a; rfl))

/-- The rows of a block. -/
theorem block_rows (b : Fin 608) (r : Fin 512) (k : Fin 1024) :
    val_main_v3 (F := Ideal) x0 (ix3 b r k) = x0 (ix2 ⟨b.val * 512 + r.val, by have := b.isLt; have := r.isLt; omega⟩ k) := by
  rw [val_main_v3_apply]
  refine congrArg x0 (funext fun a => Fin.ext ?_)
  have := k.isLt
  match a with
  | ⟨0, _⟩ => show ((b.val * 512 + r.val) * 1024 + k.val) / 1024 = b.val * 512 + r.val; omega
  | ⟨1, _⟩ => show ((b.val * 512 + r.val) * 1024 + k.val) % 1024 = k.val; omega

include hE in
theorem first_projection (b : Fin 608) (r : Fin 512) (f : Fin 256) :
    val_main_v11 (F := Ideal) x0 x1 x3 (ix3 b r f)
      = project (fun k => x0 (ix2 ⟨b.val * 512 + r.val, by have := b.isLt; have := r.isLt; omega⟩ k))
          (fun k f => x3 (ix3 (expertOf (fun b => x1 (ix1 b)) b) k f)) f := by
  rw [val_main_v11_apply]
  refine Finset.sum_congr rfl fun k _ => congrArg₂ (fun p q : EReal => p * q) ?_ ?_
  · refine Eq.trans (congrArg (val_main_v3 (F := Ideal) x0) ?_) (block_rows x0 b r k)
    funext a; match a with
    | ⟨0, _⟩ => rfl
    | ⟨1, _⟩ => rfl
    | ⟨2, _⟩ => rfl
  · refine Eq.trans (congrArg (val_main_v10 (F := Ideal) x1 x3) ?_) (first_weights x1 x3 hE b k f)
    funext a; match a with
    | ⟨0, _⟩ => rfl
    | ⟨1, _⟩ => rfl
    | ⟨2, _⟩ => rfl

include hE in
theorem second_projection (b : Fin 608) (r : Fin 512) (f : Fin 256) :
    val_main_v19 (F := Ideal) x0 x1 x4 (ix3 b r f)
      = project (fun k => x0 (ix2 ⟨b.val * 512 + r.val, by have := b.isLt; have := r.isLt; omega⟩ k))
          (fun k f => x4 (ix3 (expertOf (fun b => x1 (ix1 b)) b) k f)) f := by
  rw [val_main_v19_apply]
  refine Finset.sum_congr rfl fun k _ => congrArg₂ (fun p q : EReal => p * q) ?_ ?_
  · refine Eq.trans (congrArg (val_main_v3 (F := Ideal) x0) ?_) (block_rows x0 b r k)
    funext a; match a with
    | ⟨0, _⟩ => rfl
    | ⟨1, _⟩ => rfl
    | ⟨2, _⟩ => rfl
  · refine Eq.trans (congrArg (val_main_v18 (F := Ideal) x1 x4) ?_) (second_weights x1 x4 hE b k f)
    funext a; match a with
    | ⟨0, _⟩ => rfl
    | ⟨1, _⟩ => rfl
    | ⟨2, _⟩ => rfl

include hE in
theorem hidden_value (b : Fin 608) (r : Fin 512) (f : Fin 256) :
    val_main_v21 (F := Ideal) x0 x1 x3 x4 (ix3 b r f)
      = hidden (fun k => x0 (ix2 ⟨b.val * 512 + r.val, by have := b.isLt; have := r.isLt; omega⟩ k))
          (fun k f => x3 (ix3 (expertOf (fun b => x1 (ix1 b)) b) k f)) (fun k f => x4 (ix3 (expertOf (fun b => x1 (ix1 b)) b) k f)) f := by
  rw [val_main_v21_apply, val_main_v20_apply, val_main_call0_v5_apply, val_main_call0_v4_apply, val_main_call0_cst_0_apply,
    val_main_call0_v3_apply, val_main_call0_v2_apply, val_main_call0_cst_apply, val_main_call0_v1_apply, val_main_call0_v0_apply,
    first_projection x0 x1 x3 hE, second_projection x0 x1 x4 hE]
  unfold Cert.KernelIdeal.Experts.hidden Ideal.logistic
  rw [← one_word]
  rfl

include hE in
theorem block_value (b : Fin 608) (r : Fin 512) (d : Fin 1024) :
    val_main_v29 (F := Ideal) x0 x1 x3 x4 x5 (ix3 b r d)
      = network (fun k => x0 (ix2 ⟨b.val * 512 + r.val, by have := b.isLt; have := r.isLt; omega⟩ k))
          (fun k f => x3 (ix3 (expertOf (fun b => x1 (ix1 b)) b) k f)) (fun k f => x4 (ix3 (expertOf (fun b => x1 (ix1 b)) b) k f))
          (fun f d => x5 (ix3 (expertOf (fun b => x1 (ix1 b)) b) f d)) d := by
  rw [val_main_v29_apply]
  refine Finset.sum_congr rfl fun f _ => congrArg₂ (fun p q : EReal => p * q) ?_ ?_
  · refine Eq.trans (congrArg (val_main_v21 (F := Ideal) x0 x1 x3 x4) ?_) (hidden_value x0 x1 x3 x4 hE b r f)
    funext a; match a with
    | ⟨0, _⟩ => rfl
    | ⟨1, _⟩ => rfl
    | ⟨2, _⟩ => rfl
  · refine Eq.trans (congrArg (val_main_v28 (F := Ideal) x1 x5) ?_) (output_weights x1 x5 hE b f d)
    funext a; match a with
    | ⟨0, _⟩ => rfl
    | ⟨1, _⟩ => rfl
    | ⟨2, _⟩ => rfl

/-- The count of used blocks as the reference reads it. -/
theorem count_value (i : S_.Idx) : val_main_v31 (F := Ideal) x2 i = x2 (ix1 0) := by
  unfold val_main_v31
  refine shapeCast_apply x2 _ i (ix1 0) ?_
  have h1 := (S1.rowMajor (ix1 0)).isLt
  have h2 := (S_.rowMajor i).isLt
  have e1 : S1.numel = 1 := (by decide)
  have e2 : S_.numel = 1 := by decide
  show (S1.rowMajor (ix1 0)).val = (S_.rowMajor i).val
  omega

/-- The mask bit of a block. -/
theorem mask_value (b : Fin 608) (r : Fin 512) (d : Fin 1024) :
    val_main_call1_v1 (F := Ideal) x2 (ix3 b r d) = 1#1 ↔ (b.val : ℤ) < (x2 (ix1 0) : BitVec 32).toInt := by
  rw [val_main_call1_v1_apply, val_main_v34_apply, val_main_v33_apply, val_main_v30_apply, val_main_v32_apply, count_value]
  refine IntOp.cmpi_slt.trans ?_
  have h : (BitVec.ofNat 32 b.val).toInt = (b.val : ℤ) := by
    have h1 := b.isLt
    have h2 : (BitVec.ofNat 32 b.val).toNat = b.val := by rw [BitVec.toNat_ofNat]; omega
    have := BitVec.toInt_eq_toNat_cond (BitVec.ofNat 32 b.val)
    rw [h2] at this
    split at this <;> omega
  exact iff_of_eq (congrArg (fun n : ℤ => n < (x2 (ix1 0) : BitVec 32).toInt) h)

include hE in
/-- The reference's result is the specification. -/
theorem result_value (r : Fin 311296) (d : Fin 1024) :
    val_main_v36 (F := Ideal) x0 x1 x2 x3 x4 x5 (ix2 r d)
      = routed (fun r k => x0 (ix2 r k)) (fun b => x1 (ix1 b)) (x2 (ix1 0)) (fun e k f => x3 (ix3 e k f)) (fun e k f => x4 (ix3 e k f))
          (fun e f d => x5 (ix3 e f d)) r d := by
  have hr := r.isLt
  have hd := d.isLt
  have hi : idx_main_v36 (ix2 r d) = ix3 (blockOf r) (⟨r.val % 512, by omega⟩ : Fin 512) d := by
    funext a; refine Fin.ext ?_
    match a with
    | ⟨0, _⟩ => show (r.val * 1024 + d.val) / 524288 = r.val / 512; omega
    | ⟨1, _⟩ => show (r.val * 1024 + d.val) / 1024 % 512 = r.val % 512; omega
    | ⟨2, _⟩ => show (r.val * 1024 + d.val) % 1024 = d.val; omega
  have hb : (⟨(blockOf r).val * 512 + r.val % 512, by show r.val / 512 * 512 + r.val % 512 < 311296; omega⟩ : Fin 311296) = r :=
    Fin.ext (by show r.val / 512 * 512 + r.val % 512 = r.val; omega)
  rw [val_main_v36_apply, hi, val_main_v35_apply, block_value x0 x1 x3 x4 x5 hE]
  unfold routed
  by_cases q : ((blockOf r).val : ℤ) < (x2 (ix1 0) : BitVec 32).toInt
  · rw [if_pos q]
    refine (if_pos ((mask_value x2 _ _ _).2 q)).trans ?_
    simp only [hb]
  · rw [if_neg q]
    refine (if_neg (fun p => q ((mask_value x2 _ _ _).1 p))).trans ?_
    rw [val_main_call1_v2_apply, val_main_call1_v0_apply, val_main_cst_apply]
    exact zero_word

end Cert.ReferenceIdeal.Experts

end
-- ==== Proof.ExpertsEquation.lean ====
/- The experts' equation: the kernel and the reference end with the same array, at the ideal floats. -/
module

public import proofs.«01_k».proof.Proof.ExpertsArray
public import proofs.«01_k».proof.Proof.ExpertsReference
public import proofs.«01_k».proof.Proof.Gen.ReferenceIdeal.Run

@[expose] public section

set_option maxRecDepth 16384

noncomputable section

namespace Cert.KernelIdeal.Experts

open Cert.KernelIdeal Cert.KernelIdeal.Gen
open Idealize.ShloMosaic Idealize.ShloMosaic.TcCoe Idealize.SL.Sem Idealize.ShloMosaic.ValueIdx

/-- The blocks' experts are not negative, on every device. -/
theorem expert_nonneg (m : (ℓ : Loc nD τ sig) → Buf (Elt Ideal) ℓ)
    (hp : Cert.Pre_KernelIdeal (hPre_blocks_of_experts := Cert.Pre_blocks_of_experts.Gen.facts) m) (c : Dev nD) (x : S608.Idx) :
    0 ≤ ((m ((c.tc : Thread nD τ).loc main_arg1) : S608.Idx → BitVec 32) x).toInt := by
  obtain rfl : c = 0 := Subsingleton.elim _ _
  exact (good_of_pre m hp).expert_nonneg x

/-- The kernel and the reference end with the same array. -/
theorem algebraic : Cert.algebraic_KernelIdeal_ReferenceIdeal (hKernelIdeal := Cert.KernelIdeal.Gen.facts)
    (hReferenceIdeal := Cert.ReferenceIdeal.Gen.facts) (hPre_blocks_of_experts := Cert.Pre_blocks_of_experts.Gen.facts) := by
  intro m g m' g' hp hargs
  refine ⟨fun c => spec m c, ?_, ?_⟩
  · exact (θ_run _ _ _).mono (fun r h c => ⟨h.1 c, h.2 c⟩) (value_of_pre m g hp)
  · refine (θ_run _ _ _).mono (fun r h c => ⟨((h c).1).trans ?_, (h c).2⟩) (Cert.ReferenceIdeal.Value.run m' g')
    refine (Cert.ReferenceIdeal.Read.val_main_v36_eq _ _ _ _ _ _).trans ?_
    obtain ⟨e0, e1, e2, e3, e4, e5⟩ := hargs c
    rw [e0, e1, e2, e3, e4, e5]
    funext i
    refine (congrArg _ (eq_ix2 (n0 := 311296) (n1 := 1024) i)).trans ?_
    exact Cert.ReferenceIdeal.Experts.result_value _ _ _ _ _ _ (expert_nonneg m hp c) _ _

end Cert.KernelIdeal.Experts

end
-- ==== Proof.EvenInProduct.lean ====
/- The input projection of an even layer: the blocked product the kernel computes is the one product of the reference, at the
   ideal floats. -/
module

public import proofs.«01_k».proof.Defs
public import proofs.«01_k».proof.Proof.Gen.EvenInIdeal.Frame
public import proofs.«01_k».proof.Proof.Gen.EvenInRefIdeal.Run
public import proofs.«01_k».proof.Proof.Gen.EvenInRefIdeal.Read
public import Idealize.ShloMosaic.Lib.MatmulPlain
public import Idealize.ShloMosaic.Lib.Pipeline.Covers
public import Idealize.ShloMosaic.Lib.KernelVsHost

@[expose] public section

set_option maxRecDepth 16384

noncomputable section

namespace Cert.EvenInIdeal.Product

open Cert.EvenInIdeal Cert.EvenInIdeal.Gen
open Idealize.ShloMosaic Idealize.ShloMosaic.TcCoe Idealize.SL.Sem Idealize.ShloMosaic.ValueIdx
open scoped BigOperators

/-! ## One block -/

/-- The body's stored value: the product of the two loaded blocks. -/
theorem pay1_apply (x : Vec Ideal S512x1024 .f32) (w : Vec Ideal S1024x512 .f32) (r d : Fin 512) :
    k0_pay1 (F := Ideal) x w (ix2 r d) = ∑ k : Fin 1024, (x (ix2 r k) * w (ix2 k d) : EReal) := by
  refine (Ideal.matmul_plain_apply none _ _ _ r d).trans ?_
  rw [show constant (F := Ideal) S512x512 .f32 0x00000000#32 (ix2 r d) = 0 from by
    show Ideal.ofBits .f32 0x00000000#32 = 0
    simp [Ideal.ofBits, Ideal.ieee], zero_add]
  exact Finset.sum_congr rfl fun k _ => congrArg (fun z : S1024x512.Idx → EReal => (x (ix2 r k) * z (ix2 k d) : EReal)) (shapeCast_self w _)

theorem hz : (![0, 0] : Fin 2 → Nat) = fun _ => 0 := funext fun a => by fin_cases a <;> rfl

theorem out_eq (x : Vec Ideal S512x1024 .f32) (w : Vec Ideal S1024x512 .f32) : out0_2 x w = k0_pay1 (F := Ideal) x w := by
  unfold out0_2
  rw [View.canon_unit_zero hz, View.ld_unit_zero hz, View.ld_unit_zero hz]

variable (m : (ℓ : Loc nD τ sig) → Buf (Elt Ideal) ℓ) (ρ : Dev nD → PrngReg)

/-- A launch's rows, and its weight as the region finds it: filled up to 4608 columns. -/
def rows (c : Dev nD) : S32768x1024.Idx → EReal := V m c main_arg0
def weight (c : Dev nD) : S1024x4608.Idx → EReal := V m c main_v0

/-- Their product. -/
def product (c : Dev nD) : S32768x4608.Idx → EReal := fun i =>
  ∑ k : Fin 1024, rows m c (ix2 (i 0) k) * weight m c (ix2 k (i 1))

/-- The block row and block column of grid point `t`. -/
abbrev brow (t : Fin cfg0.N) : Fin 64 := grid0.coords t 0
abbrev bcol (t : Fin cfg0.N) : Fin 9 := grid0.coords t 1

theorem row_word (i : grid0.Coords) : (BitVec.ofNat 32 (i 0).val).toNat = (i 0).val := by
  have : (i 0).val < 64 := (i 0).isLt
  rw [BitVec.toNat_ofNat]; omega
theorem col_word (i : grid0.Coords) : (BitVec.ofNat 32 (i 1).val).toNat = (i 1).val := by
  have : (i 1).val < 9 := (i 1).isLt
  rw [BitVec.toNat_ofNat]; omega

/-- The rows a point reads. -/
theorem rows_read (c : Dev nD) (t : Fin cfg0.N) (r : Fin 512) (k : Fin 1024) :
    (iblk m c 0 t : S512x1024.Idx → EReal) (ix2 r k)
      = rows m c (ix2 ⟨(brow t).val * 512 + r.val, by have := (brow t).isLt; have := r.isLt; omega⟩ k) := by
  refine congrArg (rows m c) (funext fun a => Fin.ext ?_)
  match a with
  | ⟨0, _⟩ =>
    refine ((cfg0.win 0).rect_emb_val t (ix2 r k) (0 : Fin 2)).trans ?_
    exact congrArg (fun n => n * 512 + r.val) (row_word (grid0.coords t))
  | ⟨1, _⟩ =>
    refine ((cfg0.win 0).rect_emb_val t (ix2 r k) (1 : Fin 2)).trans ?_
    show 0 * 1024 + k.val = k.val
    omega

/-- The columns a point reads. -/
theorem cols_read (c : Dev nD) (t : Fin cfg0.N) (k : Fin 1024) (d : Fin 512) :
    (iblk m c 1 t : S1024x512.Idx → EReal) (ix2 k d)
      = weight m c (ix2 k ⟨(bcol t).val * 512 + d.val, by have := (bcol t).isLt; have := d.isLt; omega⟩) := by
  refine congrArg (weight m c) (funext fun a => Fin.ext ?_)
  match a with
  | ⟨0, _⟩ =>
    refine ((cfg0.win 1).rect_emb_val t (ix2 k d) (0 : Fin 2)).trans ?_
    show 0 * 1024 + k.val = k.val
    omega
  | ⟨1, _⟩ =>
    refine ((cfg0.win 1).rect_emb_val t (ix2 k d) (1 : Fin 2)).trans ?_
    exact congrArg (fun n => n * 512 + d.val) (col_word (grid0.coords t))

/-- What a point leaves is its block of the product. -/
theorem block_apply (c : Dev nD) (t : Fin cfg0.N) (r d : Fin 512) :
    out0_2 (iblk m c 0 t) (iblk m c 1 t) (ix2 r d)
      = product m c (ix2 ⟨(brow t).val * 512 + r.val, by have := (brow t).isLt; have := r.isLt; omega⟩
          ⟨(bcol t).val * 512 + d.val, by have := (bcol t).isLt; have := d.isLt; omega⟩) := by
  refine (congrFun (out_eq _ _) _).trans ((pay1_apply _ _ r d).trans ?_)
  exact Finset.sum_congr rfl fun k _ => congrArg₂ (fun p q : EReal => p * q) (rows_read m c t r k) (cols_read m c t k d)

/-- The points' blocks tile the result. -/
theorem covers : (cfg0.win 2).Covers :=
  (cfg0.win 2).covers_of_indexMap_surj rfl
    (fun a => by
      match a with
      | ⟨0, _⟩ => show 0 < 512; omega
      | ⟨1, _⟩ => show 0 < 512; omega)
    fun β =>
    have b0 : (β (0 : Fin 2)).val < 64 := lt_of_lt_of_eq (β (0 : Fin 2)).isLt (show (32768 + (512 - 1)) / 512 = 64 by omega)
    have b1 : (β (1 : Fin 2)).val < 9 := lt_of_lt_of_eq (β (1 : Fin 2)).isLt (show (4608 + (512 - 1)) / 512 = 9 by omega)
    let i : grid0.Coords := fun a => match a with
      | ⟨0, _⟩ => ⟨(β (0 : Fin 2)).val, b0⟩
      | ⟨1, _⟩ => ⟨(β (1 : Fin 2)).val, b1⟩
    ⟨i, fun a => by
      match a with
      | ⟨0, _⟩ => exact row_word i
      | ⟨1, _⟩ => exact col_word i⟩

/-- After the grid the result array is the product. -/
theorem final (c : Dev nD) : (dats m 0 c).arrAt 2 cfg0.N = product m c := by
  refine (dats m 0 c).arrAt_eq_of_covers 2 _ covers fun t _ y => ?_
  have hy : y = ix2 (y (0 : Fin 2)) (y (1 : Fin 2)) := eq_ix2 (n0 := 512) (n1 := 512) y
  refine (congrFun (after0_2 m c t) _).trans ?_
  refine ((congrArg (out0_2 (iblk m c 0 t) (iblk m c 1 t)) hy).trans (block_apply m c t _ _)).trans (congrArg (product m c) ?_)
  funext a; apply Fin.ext
  match a with
  | ⟨0, _⟩ =>
    refine Eq.symm (((cfg0.win 2).rect_emb_val t y (0 : Fin 2)).trans ?_)
    exact congrArg (fun n => n * 512 + (y (0 : Fin 2)).val) (row_word (grid0.coords t))
  | ⟨1, _⟩ =>
    refine Eq.symm (((cfg0.win 2).rect_emb_val t y (1 : Fin 2)).trans ?_)
    exact congrArg (fun n => n * 512 + (y (1 : Fin 2)).val) (col_word (grid0.coords t))

/-! ## Around the region -/

/-- Where the filled weight is read below column 4112 it is the weight. -/
theorem weight_apply (c : Dev nD) (k : Fin 1024) (d : Fin 4112) :
    weight m c (ix2 k ⟨d.val, by have := d.isLt; omega⟩) = (m ((c : Thread nD τ).loc main_arg1) : S1024x4112.Idx → EReal) (ix2 k d) := by
  unfold weight
  rw [show V m c main_v0 = pad S1024x4608 ![0, 0] ![0, 496] ![0, 0] (m ((c : Thread nD τ).loc main_arg1) : S1024x4112.Idx → EReal)
      (sitofp (F := Ideal) .f32 (constantI S_ 32 0#32)) pads_S1024x4112_S1024x4608_000_04960 h_S_ from by
    show StableHlo.after (List.flatten [hostOps0, hostOps0_1]) (fun b => m (c, b)) (Proc.devRef .tc main_v0) = _
    simp only [hostOps0, hostOps0_1, List.flatten_cons, List.flatten_nil, List.append_nil, List.cons_append, List.nil_append,
      StableHlo.TRef.binary, StableHlo.TRef.unary, StableHlo.TRef.toBuf, StableHlo.TRef.ofBuf, cast_eq]
    after_results_simp <;> rfl]
  refine pad_apply_of_inside _ _ _ _ _ _ _ _ (ix2 k d) fun a => ?_
  match a with
  | ⟨0, _⟩ => show k.val = 0 + k.val * (0 + 1); omega
  | ⟨1, _⟩ => show d.val = 0 + d.val * (0 + 1); omega

/-- A launch's two argument arrays. -/
def arg0 (c : Dev nD) : S32768x1024.Idx → EReal := m ((c : Thread nD τ).loc main_arg0)
def arg1 (c : Dev nD) : S1024x4112.Idx → EReal := m ((c : Thread nD τ).loc main_arg1)

/-- Their product. -/
def plain (c : Dev nD) : S32768x4112.Idx → EReal := fun i =>
  ∑ k : Fin 1024, arg0 m c (ix2 (i 0) k) * arg1 m c (ix2 k (i 1))

/-- The operation after the region, from any contents before it. -/
theorem tail_of (W : Valuation τ sig (Elt Ideal)) : StableHlo.after hostOps1 W (Proc.devRef .tc main_v2)
    = extractStridedSlice S32768x4112 ![0, 0] (W (Proc.devRef .tc main_v1)) slices_S32768x4608_S32768x4112_0_0 := by
  simp only [hostOps1]
  after_results_simp <;> rfl

/-- The array the program returns: the first 4112 columns of the grid's. -/
theorem tail_eq (c : Dev nD) : Pipeline.afterTail₀ cfgs (dats m) 0 (V0 m) [hostOps1] c main_v2 = plain m c := by
  have e : Pipeline.afterTail₀ cfgs (dats m) 0 (V0 m) [hostOps1] c main_v2
      = extractStridedSlice S32768x4112 ![0, 0] (product m c) slices_S32768x4608_S32768x4112_0_0 := by
    unfold Pipeline.afterTail₀
    rw [show List.flatten [hostOps1] = (hostOps1 : List (HloOp τ sig (Elt Ideal))) from rfl]
    refine (tail_of _).trans (congrArg (fun z : S32768x4608.Idx → EReal => extractStridedSlice S32768x4112 ![0, 0] z slices_S32768x4608_S32768x4112_0_0) ?_)
    exact (Pipeline.withArrays_arr spec0 launch0.win.arr_inj c (V0 m c) (fun w => (dats m 0 c).arrAt w cfg0.N) 2).trans (final m c)
  refine e.trans (funext fun i => ?_)
  have h1 : (i (1 : Fin 2)).val < 4112 := (i (1 : Fin 2)).isLt
  refine (extractStridedSlice_apply _ _ _ i (ix2 (i (0 : Fin 2)) (⟨(i (1 : Fin 2)).val, by omega⟩ : Fin 4608)) fun a => ?_).trans ?_
  · match a with
    | ⟨0, _⟩ => show (i (0 : Fin 2)).val = 0 + (i (0 : Fin 2)).val; omega
    | ⟨1, _⟩ => show (i (1 : Fin 2)).val = 0 + (i (1 : Fin 2)).val; omega
  · exact Finset.sum_congr rfl fun k _ => congrArg₂ (fun p q : EReal => p * q) (congrFun (V_main_arg0 m c) _) (weight_apply m c k (i (1 : Fin 2)))

theorem run_plain : θ_run (defs (F := Ideal)) (onTc (τ := τ) (main (F := Ideal))) ⟨m, fun _ => 0, ρ⟩ (fun r => ∀ c : Dev nD,
    r.2.mem ((c : Thread nD τ).loc main_v2) = plain m c
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

/-- The kernel and the reference end with the same array. -/
theorem algebraic : Cert.algebraic_EvenInIdeal_EvenInRefIdeal (hEvenInIdeal := Cert.EvenInIdeal.Gen.facts) (hEvenInRefIdeal := Cert.EvenInRefIdeal.Gen.facts) := by
  intro m g m' g' _ hargs
  refine ⟨fun c => plain m c, ?_, ?_⟩
  · exact run_plain m g
  · refine (θ_run _ _ _).mono (fun r h c => ⟨((h c).1).trans ?_, (h c).2⟩) (Cert.EvenInRefIdeal.Value.run m' g')
    refine (Cert.EvenInRefIdeal.Read.val_main_v0_eq _ _).trans ?_
    funext i
    refine (Cert.EvenInRefIdeal.Read.val_main_v0_apply _ _ i).trans ?_
    rw [(hargs c).1, (hargs c).2]
    refine Finset.sum_congr rfl fun k _ => congrArg₂ (fun p q : EReal => p * q) (congrArg (arg0 m c) ?_) (congrArg (arg1 m c) ?_)
    · funext a; match a with
      | ⟨0, _⟩ => rfl
      | ⟨1, _⟩ => rfl
    · funext a; match a with
      | ⟨0, _⟩ => rfl
      | ⟨1, _⟩ => rfl

end Cert.EvenInIdeal.Product

end
-- ==== Proof.OddInProduct.lean ====
/- The input projection of an odd layer: the blocked product the kernel computes is the one product of the reference, at the
   ideal floats. -/
module

public import proofs.«01_k».proof.Defs
public import proofs.«01_k».proof.Proof.Gen.OddInIdeal.Value
public import proofs.«01_k».proof.Proof.Gen.OddInRefIdeal.Run
public import proofs.«01_k».proof.Proof.Gen.OddInRefIdeal.Read
public import Idealize.ShloMosaic.Lib.MatmulPlain
public import Idealize.ShloMosaic.Lib.Pipeline.Covers

@[expose] public section

set_option maxRecDepth 16384

noncomputable section

namespace Cert.OddInIdeal.Product

open Cert.OddInIdeal Cert.OddInIdeal.Gen
open Idealize.ShloMosaic Idealize.ShloMosaic.TcCoe Idealize.SL.Sem Idealize.ShloMosaic.ValueIdx
open scoped BigOperators

/-! ## One block -/

/-- The body's stored value: the product of the two loaded blocks. -/
theorem pay1_apply (x : Vec Ideal S512x1024 .f32) (w : Vec Ideal S1024x512 .f32) (r d : Fin 512) :
    k0_pay1 (F := Ideal) x w (ix2 r d) = ∑ k : Fin 1024, (x (ix2 r k) * w (ix2 k d) : EReal) := by
  refine (Ideal.matmul_plain_apply none _ _ _ r d).trans ?_
  rw [show constant (F := Ideal) S512x512 .f32 0x00000000#32 (ix2 r d) = 0 from by
    show Ideal.ofBits .f32 0x00000000#32 = 0
    simp [Ideal.ofBits, Ideal.ieee], zero_add]
  exact Finset.sum_congr rfl fun k _ => rfl

theorem hz : (![0, 0] : Fin 2 → Nat) = fun _ => 0 := funext fun a => by fin_cases a <;> rfl

theorem out_eq (x : Vec Ideal S512x1024 .f32) (w : Vec Ideal S1024x512 .f32) : out0_2 x w = k0_pay1 (F := Ideal) x w := by
  unfold out0_2
  rw [View.canon_unit_zero hz, View.ld_unit_zero hz, View.ld_unit_zero hz]

variable (m : (ℓ : Loc nD τ sig) → Buf (Elt Ideal) ℓ) (ρ : Dev nD → PrngReg)

/-- A launch's two argument arrays. -/
def rows (c : Dev nD) : S32768x1024.Idx → EReal := m ((c : Thread nD τ).loc main_arg0)
def weight (c : Dev nD) : S1024x3584.Idx → EReal := m ((c : Thread nD τ).loc main_arg1)

/-- Their product. -/
def product (c : Dev nD) : S32768x3584.Idx → EReal := fun i =>
  ∑ k : Fin 1024, rows m c (ix2 (i 0) k) * weight m c (ix2 k (i 1))

/-- The block row and block column of grid point `t`. -/
abbrev brow (t : Fin cfg0.N) : Fin 64 := grid0.coords t 0
abbrev bcol (t : Fin cfg0.N) : Fin 7 := grid0.coords t 1

theorem row_word (i : grid0.Coords) : (BitVec.ofNat 32 (i 0).val).toNat = (i 0).val := by
  have : (i 0).val < 64 := (i 0).isLt
  rw [BitVec.toNat_ofNat]; omega
theorem col_word (i : grid0.Coords) : (BitVec.ofNat 32 (i 1).val).toNat = (i 1).val := by
  have : (i 1).val < 7 := (i 1).isLt
  rw [BitVec.toNat_ofNat]; omega

/-- The rows a point reads. -/
theorem rows_read (c : Dev nD) (t : Fin cfg0.N) (r : Fin 512) (k : Fin 1024) :
    (iblk m c 0 t : S512x1024.Idx → EReal) (ix2 r k)
      = rows m c (ix2 ⟨(brow t).val * 512 + r.val, by have := (brow t).isLt; have := r.isLt; omega⟩ k) := by
  refine congrArg (rows m c) (funext fun a => Fin.ext ?_)
  match a with
  | ⟨0, _⟩ =>
    refine ((cfg0.win 0).rect_emb_val t (ix2 r k) (0 : Fin 2)).trans ?_
    exact congrArg (fun n => n * 512 + r.val) (row_word (grid0.coords t))
  | ⟨1, _⟩ =>
    refine ((cfg0.win 0).rect_emb_val t (ix2 r k) (1 : Fin 2)).trans ?_
    show 0 * 1024 + k.val = k.val
    omega

/-- The columns a point reads. -/
theorem cols_read (c : Dev nD) (t : Fin cfg0.N) (k : Fin 1024) (d : Fin 512) :
    (iblk m c 1 t : S1024x512.Idx → EReal) (ix2 k d)
      = weight m c (ix2 k ⟨(bcol t).val * 512 + d.val, by have := (bcol t).isLt; have := d.isLt; omega⟩) := by
  refine congrArg (weight m c) (funext fun a => Fin.ext ?_)
  match a with
  | ⟨0, _⟩ =>
    refine ((cfg0.win 1).rect_emb_val t (ix2 k d) (0 : Fin 2)).trans ?_
    show 0 * 1024 + k.val = k.val
    omega
  | ⟨1, _⟩ =>
    refine ((cfg0.win 1).rect_emb_val t (ix2 k d) (1 : Fin 2)).trans ?_
    exact congrArg (fun n => n * 512 + d.val) (col_word (grid0.coords t))

/-- What a point leaves is its block of the product. -/
theorem block_apply (c : Dev nD) (t : Fin cfg0.N) (r d : Fin 512) :
    out0_2 (iblk m c 0 t) (iblk m c 1 t) (ix2 r d)
      = product m c (ix2 ⟨(brow t).val * 512 + r.val, by have := (brow t).isLt; have := r.isLt; omega⟩
          ⟨(bcol t).val * 512 + d.val, by have := (bcol t).isLt; have := d.isLt; omega⟩) := by
  refine (congrFun (out_eq _ _) _).trans ((pay1_apply _ _ r d).trans ?_)
  exact Finset.sum_congr rfl fun k _ => congrArg₂ (fun p q : EReal => p * q) (rows_read m c t r k) (cols_read m c t k d)

/-- The points' blocks tile the result. -/
theorem covers : (cfg0.win 2).Covers :=
  (cfg0.win 2).covers_of_indexMap_surj rfl
    (fun a => by
      match a with
      | ⟨0, _⟩ => show 0 < 512; omega
      | ⟨1, _⟩ => show 0 < 512; omega)
    fun β =>
    have b0 : (β (0 : Fin 2)).val < 64 := lt_of_lt_of_eq (β (0 : Fin 2)).isLt (show (32768 + (512 - 1)) / 512 = 64 by omega)
    have b1 : (β (1 : Fin 2)).val < 7 := lt_of_lt_of_eq (β (1 : Fin 2)).isLt (show (3584 + (512 - 1)) / 512 = 7 by omega)
    let i : grid0.Coords := fun a => match a with
      | ⟨0, _⟩ => ⟨(β (0 : Fin 2)).val, b0⟩
      | ⟨1, _⟩ => ⟨(β (1 : Fin 2)).val, b1⟩
    ⟨i, fun a => by
      match a with
      | ⟨0, _⟩ => exact row_word i
      | ⟨1, _⟩ => exact col_word i⟩

/-- After the grid the result array is the product. -/
theorem final (c : Dev nD) : (dats m 0 c).arrAt 2 cfg0.N = product m c := by
  refine (dats m 0 c).arrAt_eq_of_covers 2 _ covers fun t _ y => ?_
  have hy : y = ix2 (y (0 : Fin 2)) (y (1 : Fin 2)) := eq_ix2 (n0 := 512) (n1 := 512) y
  refine (congrFun (after0_2 m c t) _).trans ?_
  refine ((congrArg (out0_2 (iblk m c 0 t) (iblk m c 1 t)) hy).trans (block_apply m c t _ _)).trans (congrArg (product m c) ?_)
  funext a; apply Fin.ext
  match a with
  | ⟨0, _⟩ =>
    refine Eq.symm (((cfg0.win 2).rect_emb_val t y (0 : Fin 2)).trans ?_)
    exact congrArg (fun n => n * 512 + (y (0 : Fin 2)).val) (row_word (grid0.coords t))
  | ⟨1, _⟩ =>
    refine Eq.symm (((cfg0.win 2).rect_emb_val t y (1 : Fin 2)).trans ?_)
    exact congrArg (fun n => n * 512 + (y (1 : Fin 2)).val) (col_word (grid0.coords t))

/-- The kernel and the reference end with the same array. -/
theorem algebraic : Cert.algebraic_OddInIdeal_OddInRefIdeal (hOddInIdeal := Cert.OddInIdeal.Gen.facts) (hOddInRefIdeal := Cert.OddInRefIdeal.Gen.facts) := by
  intro m g m' g' _ hargs
  refine ⟨fun c => product m c, ?_, ?_⟩
  · exact (θ_run _ _ _).mono (fun r h c => ⟨((h c).1).trans (final m c), (h c).2⟩) (Cert.OddInIdeal.Value.run_blocks m g)
  · refine (θ_run _ _ _).mono (fun r h c => ⟨((h c).1).trans ?_, (h c).2⟩) (Cert.OddInRefIdeal.Value.run m' g')
    refine (Cert.OddInRefIdeal.Read.val_main_v0_eq _ _).trans ?_
    funext i
    refine (Cert.OddInRefIdeal.Read.val_main_v0_apply _ _ i).trans ?_
    rw [(hargs c).1, (hargs c).2]
    refine Finset.sum_congr rfl fun k _ => congrArg₂ (fun p q : EReal => p * q) (congrArg (rows m c) ?_) (congrArg (weight m c) ?_)
    · funext a; match a with
      | ⟨0, _⟩ => rfl
      | ⟨1, _⟩ => rfl
    · funext a; match a with
      | ⟨0, _⟩ => rfl
      | ⟨1, _⟩ => rfl

end Cert.OddInIdeal.Product

end
-- ==== Proof.OutProjProduct.lean ====
/- The output projection of a layer: the blocked product the kernel computes is the one product of the reference, at the
   ideal floats. -/
module

public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.MatmulPlain
public import Idealize.ShloMosaic.Lib.Pipeline.Covers

@[expose] public section

set_option maxRecDepth 16384

noncomputable section

namespace Cert.OutProjIdeal.Product

open Cert.OutProjIdeal Cert.OutProjIdeal.Gen
open Idealize.ShloMosaic Idealize.ShloMosaic.TcCoe Idealize.SL.Sem Idealize.ShloMosaic.ValueIdx
open scoped BigOperators

/-! ## One block -/

/-- The body's stored value: the product of the two loaded blocks. -/
theorem pay1_apply (x : Vec Ideal S512x1024 .f32) (w : Vec Ideal S1024x512 .f32) (r d : Fin 512) :
    k0_pay1 (F := Ideal) x w (ix2 r d) = ∑ k : Fin 1024, (x (ix2 r k) * w (ix2 k d) : EReal) := by
  refine (Ideal.matmul_plain_apply none _ _ _ r d).trans ?_
  rw [show constant (F := Ideal) S512x512 .f32 0x00000000#32 (ix2 r d) = 0 from by
    show Ideal.ofBits .f32 0x00000000#32 = 0
    simp [Ideal.ofBits, Ideal.ieee], zero_add]
  exact Finset.sum_congr rfl fun k _ => rfl

theorem hz : (![0, 0] : Fin 2 → Nat) = fun _ => 0 := funext fun a => by fin_cases a <;> rfl

theorem out_eq (x : Vec Ideal S512x1024 .f32) (w : Vec Ideal S1024x512 .f32) : out0_2 x w = k0_pay1 (F := Ideal) x w := by
  unfold out0_2
  rw [View.canon_unit_zero hz, View.ld_unit_zero hz, View.ld_unit_zero hz]

variable (m : (ℓ : Loc nD τ sig) → Buf (Elt Ideal) ℓ) (ρ : Dev nD → PrngReg)

/-- A launch's two argument arrays. -/
def rows (c : Dev nD) : S32768x1024.Idx → EReal := m ((c : Thread nD τ).loc main_arg0)
def weight (c : Dev nD) : S1024x1024.Idx → EReal := m ((c : Thread nD τ).loc main_arg1)

/-- Their product. -/
def product (c : Dev nD) : S32768x1024.Idx → EReal := fun i =>
  ∑ k : Fin 1024, rows m c (ix2 (i 0) k) * weight m c (ix2 k (i 1))

/-- The block row and block column of grid point `t`. -/
abbrev brow (t : Fin cfg0.N) : Fin 64 := grid0.coords t 0
abbrev bcol (t : Fin cfg0.N) : Fin 2 := grid0.coords t 1

theorem row_word (i : grid0.Coords) : (BitVec.ofNat 32 (i 0).val).toNat = (i 0).val := by
  have : (i 0).val < 64 := (i 0).isLt
  rw [BitVec.toNat_ofNat]; omega
theorem col_word (i : grid0.Coords) : (BitVec.ofNat 32 (i 1).val).toNat = (i 1).val := by
  have : (i 1).val < 2 := (i 1).isLt
  rw [BitVec.toNat_ofNat]; omega

/-- The rows a point reads. -/
theorem rows_read (c : Dev nD) (t : Fin cfg0.N) (r : Fin 512) (k : Fin 1024) :
    (iblk m c 0 t : S512x1024.Idx → EReal) (ix2 r k)
      = rows m c (ix2 ⟨(brow t).val * 512 + r.val, by have := (brow t).isLt; have := r.isLt; omega⟩ k) := by
  refine congrArg (rows m c) (funext fun a => Fin.ext ?_)
  match a with
  | ⟨0, _⟩ =>
    refine ((cfg0.win 0).rect_emb_val t (ix2 r k) (0 : Fin 2)).trans ?_
    exact congrArg (fun n => n * 512 + r.val) (row_word (grid0.coords t))
  | ⟨1, _⟩ =>
    refine ((cfg0.win 0).rect_emb_val t (ix2 r k) (1 : Fin 2)).trans ?_
    show 0 * 1024 + k.val = k.val
    omega

/-- The columns a point reads. -/
theorem cols_read (c : Dev nD) (t : Fin cfg0.N) (k : Fin 1024) (d : Fin 512) :
    (iblk m c 1 t : S1024x512.Idx → EReal) (ix2 k d)
      = weight m c (ix2 k ⟨(bcol t).val * 512 + d.val, by have := (bcol t).isLt; have := d.isLt; omega⟩) := by
  refine congrArg (weight m c) (funext fun a => Fin.ext ?_)
  match a with
  | ⟨0, _⟩ =>
    refine ((cfg0.win 1).rect_emb_val t (ix2 k d) (0 : Fin 2)).trans ?_
    show 0 * 1024 + k.val = k.val
    omega
  | ⟨1, _⟩ =>
    refine ((cfg0.win 1).rect_emb_val t (ix2 k d) (1 : Fin 2)).trans ?_
    exact congrArg (fun n => n * 512 + d.val) (col_word (grid0.coords t))

/-- What a point leaves is its block of the product. -/
theorem block_apply (c : Dev nD) (t : Fin cfg0.N) (r d : Fin 512) :
    out0_2 (iblk m c 0 t) (iblk m c 1 t) (ix2 r d)
      = product m c (ix2 ⟨(brow t).val * 512 + r.val, by have := (brow t).isLt; have := r.isLt; omega⟩
          ⟨(bcol t).val * 512 + d.val, by have := (bcol t).isLt; have := d.isLt; omega⟩) := by
  refine (congrFun (out_eq _ _) _).trans ((pay1_apply _ _ r d).trans ?_)
  exact Finset.sum_congr rfl fun k _ => congrArg₂ (fun p q : EReal => p * q) (rows_read m c t r k) (cols_read m c t k d)

/-- The points' blocks tile the result. -/
theorem covers : (cfg0.win 2).Covers :=
  (cfg0.win 2).covers_of_indexMap_surj rfl
    (fun a => by
      match a with
      | ⟨0, _⟩ => show 0 < 512; omega
      | ⟨1, _⟩ => show 0 < 512; omega)
    fun β =>
    have b0 : (β (0 : Fin 2)).val < 64 := lt_of_lt_of_eq (β (0 : Fin 2)).isLt (show (32768 + (512 - 1)) / 512 = 64 by omega)
    have b1 : (β (1 : Fin 2)).val < 2 := lt_of_lt_of_eq (β (1 : Fin 2)).isLt (show (1024 + (512 - 1)) / 512 = 2 by omega)
    let i : grid0.Coords := fun a => match a with
      | ⟨0, _⟩ => ⟨(β (0 : Fin 2)).val, b0⟩
      | ⟨1, _⟩ => ⟨(β (1 : Fin 2)).val, b1⟩
    ⟨i, fun a => by
      match a with
      | ⟨0, _⟩ => exact row_word i
      | ⟨1, _⟩ => exact col_word i⟩

/-- After the grid the result array is the product. -/
theorem final (c : Dev nD) : (dats m 0 c).arrAt 2 cfg0.N = product m c := by
  refine (dats m 0 c).arrAt_eq_of_covers 2 _ covers fun t _ y => ?_
  have hy : y = ix2 (y (0 : Fin 2)) (y (1 : Fin 2)) := eq_ix2 (n0 := 512) (n1 := 512) y
  refine (congrFun (after0_2 m c t) _).trans ?_
  refine ((congrArg (out0_2 (iblk m c 0 t) (iblk m c 1 t)) hy).trans (block_apply m c t _ _)).trans (congrArg (product m c) ?_)
  funext a; apply Fin.ext
  match a with
  | ⟨0, _⟩ =>
    refine Eq.symm (((cfg0.win 2).rect_emb_val t y (0 : Fin 2)).trans ?_)
    exact congrArg (fun n => n * 512 + (y (0 : Fin 2)).val) (row_word (grid0.coords t))
  | ⟨1, _⟩ =>
    refine Eq.symm (((cfg0.win 2).rect_emb_val t y (1 : Fin 2)).trans ?_)
    exact congrArg (fun n => n * 512 + (y (1 : Fin 2)).val) (col_word (grid0.coords t))

/-- The kernel and the reference end with the same array. -/
theorem algebraic : Cert.algebraic_OutProjIdeal_OutProjRefIdeal (hOutProjIdeal := Cert.OutProjIdeal.Gen.facts) (hOutProjRefIdeal := Cert.OutProjRefIdeal.Gen.facts) := by
  intro m g m' g' _ hargs
  refine ⟨fun c => product m c, ?_, ?_⟩
  · exact (θ_run _ _ _).mono (fun r h c => ⟨((h c).1).trans (final m c), (h c).2⟩) (Cert.OutProjIdeal.Value.run_blocks m g)
  · refine (θ_run _ _ _).mono (fun r h c => ⟨((h c).1).trans ?_, (h c).2⟩) (Cert.OutProjRefIdeal.Value.run m' g')
    refine (Cert.OutProjRefIdeal.Read.val_main_v0_eq _ _).trans ?_
    funext i
    refine (Cert.OutProjRefIdeal.Read.val_main_v0_apply _ _ i).trans ?_
    rw [(hargs c).1, (hargs c).2]
    refine Finset.sum_congr rfl fun k _ => congrArg₂ (fun p q : EReal => p * q) (congrArg (rows m c) ?_) (congrArg (weight m c) ?_)
    · funext a; match a with
      | ⟨0, _⟩ => rfl
      | ⟨1, _⟩ => rfl
    · funext a; match a with
      | ⟨0, _⟩ => rfl
      | ⟨1, _⟩ => rfl

end Cert.OutProjIdeal.Product

end
-- ==== Proof.EvenInCtxProduct.lean ====
/- The input projection of an even layer over the context rows: the blocked product the kernel computes is the one product of the reference, at the
   ideal floats. -/
module

public import proofs.«01_k».proof.Defs
public import proofs.«01_k».proof.Proof.Gen.EvenInCtxIdeal.Frame
public import proofs.«01_k».proof.Proof.Gen.EvenInCtxRefIdeal.Run
public import proofs.«01_k».proof.Proof.Gen.EvenInCtxRefIdeal.Read
public import Idealize.ShloMosaic.Lib.MatmulPlain
public import Idealize.ShloMosaic.Lib.Pipeline.Covers
public import Idealize.ShloMosaic.Lib.KernelVsHost

@[expose] public section

set_option maxRecDepth 16384

noncomputable section

namespace Cert.EvenInCtxIdeal.Product

open Cert.EvenInCtxIdeal Cert.EvenInCtxIdeal.Gen
open Idealize.ShloMosaic Idealize.ShloMosaic.TcCoe Idealize.SL.Sem Idealize.ShloMosaic.ValueIdx
open scoped BigOperators

/-! ## One block -/

/-- The body's stored value: the product of the two loaded blocks. -/
theorem pay1_apply (x : Vec Ideal S512x1024 .f32) (w : Vec Ideal S1024x512 .f32) (r d : Fin 512) :
    k0_pay1 (F := Ideal) x w (ix2 r d) = ∑ k : Fin 1024, (x (ix2 r k) * w (ix2 k d) : EReal) := by
  refine (Ideal.matmul_plain_apply none _ _ _ r d).trans ?_
  rw [show constant (F := Ideal) S512x512 .f32 0x00000000#32 (ix2 r d) = 0 from by
    show Ideal.ofBits .f32 0x00000000#32 = 0
    simp [Ideal.ofBits, Ideal.ieee], zero_add]
  exact Finset.sum_congr rfl fun k _ => congrArg (fun z : S1024x512.Idx → EReal => (x (ix2 r k) * z (ix2 k d) : EReal)) (shapeCast_self w _)

theorem hz : (![0, 0] : Fin 2 → Nat) = fun _ => 0 := funext fun a => by fin_cases a <;> rfl

theorem out_eq (x : Vec Ideal S512x1024 .f32) (w : Vec Ideal S1024x512 .f32) : out0_2 x w = k0_pay1 (F := Ideal) x w := by
  unfold out0_2
  rw [View.canon_unit_zero hz, View.ld_unit_zero hz, View.ld_unit_zero hz]

variable (m : (ℓ : Loc nD τ sig) → Buf (Elt Ideal) ℓ) (ρ : Dev nD → PrngReg)

/-- A launch's rows, and its weight as the region finds it: filled up to 4608 columns. -/
def rows (c : Dev nD) : S2048x1024.Idx → EReal := V m c main_arg0
def weight (c : Dev nD) : S1024x4608.Idx → EReal := V m c main_v0

/-- Their product. -/
def product (c : Dev nD) : S2048x4608.Idx → EReal := fun i =>
  ∑ k : Fin 1024, rows m c (ix2 (i 0) k) * weight m c (ix2 k (i 1))

/-- The block row and block column of grid point `t`. -/
abbrev brow (t : Fin cfg0.N) : Fin 4 := grid0.coords t 0
abbrev bcol (t : Fin cfg0.N) : Fin 9 := grid0.coords t 1

theorem row_word (i : grid0.Coords) : (BitVec.ofNat 32 (i 0).val).toNat = (i 0).val := by
  have : (i 0).val < 4 := (i 0).isLt
  rw [BitVec.toNat_ofNat]; omega
theorem col_word (i : grid0.Coords) : (BitVec.ofNat 32 (i 1).val).toNat = (i 1).val := by
  have : (i 1).val < 9 := (i 1).isLt
  rw [BitVec.toNat_ofNat]; omega

/-- The rows a point reads. -/
theorem rows_read (c : Dev nD) (t : Fin cfg0.N) (r : Fin 512) (k : Fin 1024) :
    (iblk m c 0 t : S512x1024.Idx → EReal) (ix2 r k)
      = rows m c (ix2 ⟨(brow t).val * 512 + r.val, by have := (brow t).isLt; have := r.isLt; omega⟩ k) := by
  refine congrArg (rows m c) (funext fun a => Fin.ext ?_)
  match a with
  | ⟨0, _⟩ =>
    refine ((cfg0.win 0).rect_emb_val t (ix2 r k) (0 : Fin 2)).trans ?_
    exact congrArg (fun n => n * 512 + r.val) (row_word (grid0.coords t))
  | ⟨1, _⟩ =>
    refine ((cfg0.win 0).rect_emb_val t (ix2 r k) (1 : Fin 2)).trans ?_
    show 0 * 1024 + k.val = k.val
    omega

/-- The columns a point reads. -/
theorem cols_read (c : Dev nD) (t : Fin cfg0.N) (k : Fin 1024) (d : Fin 512) :
    (iblk m c 1 t : S1024x512.Idx → EReal) (ix2 k d)
      = weight m c (ix2 k ⟨(bcol t).val * 512 + d.val, by have := (bcol t).isLt; have := d.isLt; omega⟩) := by
  refine congrArg (weight m c) (funext fun a => Fin.ext ?_)
  match a with
  | ⟨0, _⟩ =>
    refine ((cfg0.win 1).rect_emb_val t (ix2 k d) (0 : Fin 2)).trans ?_
    show 0 * 1024 + k.val = k.val
    omega
  | ⟨1, _⟩ =>
    refine ((cfg0.win 1).rect_emb_val t (ix2 k d) (1 : Fin 2)).trans ?_
    exact congrArg (fun n => n * 512 + d.val) (col_word (grid0.coords t))

/-- What a point leaves is its block of the product. -/
theorem block_apply (c : Dev nD) (t : Fin cfg0.N) (r d : Fin 512) :
    out0_2 (iblk m c 0 t) (iblk m c 1 t) (ix2 r d)
      = product m c (ix2 ⟨(brow t).val * 512 + r.val, by have := (brow t).isLt; have := r.isLt; omega⟩
          ⟨(bcol t).val * 512 + d.val, by have := (bcol t).isLt; have := d.isLt; omega⟩) := by
  refine (congrFun (out_eq _ _) _).trans ((pay1_apply _ _ r d).trans ?_)
  exact Finset.sum_congr rfl fun k _ => congrArg₂ (fun p q : EReal => p * q) (rows_read m c t r k) (cols_read m c t k d)

/-- The points' blocks tile the result. -/
theorem covers : (cfg0.win 2).Covers :=
  (cfg0.win 2).covers_of_indexMap_surj rfl
    (fun a => by
      match a with
      | ⟨0, _⟩ => show 0 < 512; omega
      | ⟨1, _⟩ => show 0 < 512; omega)
    fun β =>
    have b0 : (β (0 : Fin 2)).val < 4 := lt_of_lt_of_eq (β (0 : Fin 2)).isLt (show (2048 + (512 - 1)) / 512 = 4 by omega)
    have b1 : (β (1 : Fin 2)).val < 9 := lt_of_lt_of_eq (β (1 : Fin 2)).isLt (show (4608 + (512 - 1)) / 512 = 9 by omega)
    let i : grid0.Coords := fun a => match a with
      | ⟨0, _⟩ => ⟨(β (0 : Fin 2)).val, b0⟩
      | ⟨1, _⟩ => ⟨(β (1 : Fin 2)).val, b1⟩
    ⟨i, fun a => by
      match a with
      | ⟨0, _⟩ => exact row_word i
      | ⟨1, _⟩ => exact col_word i⟩

/-- After the grid the result array is the product. -/
theorem final (c : Dev nD) : (dats m 0 c).arrAt 2 cfg0.N = product m c := by
  refine (dats m 0 c).arrAt_eq_of_covers 2 _ covers fun t _ y => ?_
  have hy : y = ix2 (y (0 : Fin 2)) (y (1 : Fin 2)) := eq_ix2 (n0 := 512) (n1 := 512) y
  refine (congrFun (after0_2 m c t) _).trans ?_
  refine ((congrArg (out0_2 (iblk m c 0 t) (iblk m c 1 t)) hy).trans (block_apply m c t _ _)).trans (congrArg (product m c) ?_)
  funext a; apply Fin.ext
  match a with
  | ⟨0, _⟩ =>
    refine Eq.symm (((cfg0.win 2).rect_emb_val t y (0 : Fin 2)).trans ?_)
    exact congrArg (fun n => n * 512 + (y (0 : Fin 2)).val) (row_word (grid0.coords t))
  | ⟨1, _⟩ =>
    refine Eq.symm (((cfg0.win 2).rect_emb_val t y (1 : Fin 2)).trans ?_)
    exact congrArg (fun n => n * 512 + (y (1 : Fin 2)).val) (col_word (grid0.coords t))

/-! ## Around the region -/

/-- Where the filled weight is read below column 4112 it is the weight. -/
theorem weight_apply (c : Dev nD) (k : Fin 1024) (d : Fin 4112) :
    weight m c (ix2 k ⟨d.val, by have := d.isLt; omega⟩) = (m ((c : Thread nD τ).loc main_arg1) : S1024x4112.Idx → EReal) (ix2 k d) := by
  unfold weight
  rw [show V m c main_v0 = pad S1024x4608 ![0, 0] ![0, 496] ![0, 0] (m ((c : Thread nD τ).loc main_arg1) : S1024x4112.Idx → EReal)
      (sitofp (F := Ideal) .f32 (constantI S_ 32 0#32)) pads_S1024x4112_S1024x4608_000_04960 h_S_ from by
    show StableHlo.after (List.flatten [hostOps0, hostOps0_1]) (fun b => m (c, b)) (Proc.devRef .tc main_v0) = _
    simp only [hostOps0, hostOps0_1, List.flatten_cons, List.flatten_nil, List.append_nil, List.cons_append, List.nil_append,
      StableHlo.TRef.binary, StableHlo.TRef.unary, StableHlo.TRef.toBuf, StableHlo.TRef.ofBuf, cast_eq]
    after_results_simp <;> rfl]
  refine pad_apply_of_inside _ _ _ _ _ _ _ _ (ix2 k d) fun a => ?_
  match a with
  | ⟨0, _⟩ => show k.val = 0 + k.val * (0 + 1); omega
  | ⟨1, _⟩ => show d.val = 0 + d.val * (0 + 1); omega

/-- A launch's two argument arrays. -/
def arg0 (c : Dev nD) : S2048x1024.Idx → EReal := m ((c : Thread nD τ).loc main_arg0)
def arg1 (c : Dev nD) : S1024x4112.Idx → EReal := m ((c : Thread nD τ).loc main_arg1)

/-- Their product. -/
def plain (c : Dev nD) : S2048x4112.Idx → EReal := fun i =>
  ∑ k : Fin 1024, arg0 m c (ix2 (i 0) k) * arg1 m c (ix2 k (i 1))

/-- The operation after the region, from any contents before it. -/
theorem tail_of (W : Valuation τ sig (Elt Ideal)) : StableHlo.after hostOps1 W (Proc.devRef .tc main_v2)
    = extractStridedSlice S2048x4112 ![0, 0] (W (Proc.devRef .tc main_v1)) slices_S2048x4608_S2048x4112_0_0 := by
  simp only [hostOps1]
  after_results_simp <;> rfl

/-- The array the program returns: the first 4112 columns of the grid's. -/
theorem tail_eq (c : Dev nD) : Pipeline.afterTail₀ cfgs (dats m) 0 (V0 m) [hostOps1] c main_v2 = plain m c := by
  have e : Pipeline.afterTail₀ cfgs (dats m) 0 (V0 m) [hostOps1] c main_v2
      = extractStridedSlice S2048x4112 ![0, 0] (product m c) slices_S2048x4608_S2048x4112_0_0 := by
    unfold Pipeline.afterTail₀
    rw [show List.flatten [hostOps1] = (hostOps1 : List (HloOp τ sig (Elt Ideal))) from rfl]
    refine (tail_of _).trans (congrArg (fun z : S2048x4608.Idx → EReal => extractStridedSlice S2048x4112 ![0, 0] z slices_S2048x4608_S2048x4112_0_0) ?_)
    exact (Pipeline.withArrays_arr spec0 launch0.win.arr_inj c (V0 m c) (fun w => (dats m 0 c).arrAt w cfg0.N) 2).trans (final m c)
  refine e.trans (funext fun i => ?_)
  have h1 : (i (1 : Fin 2)).val < 4112 := (i (1 : Fin 2)).isLt
  refine (extractStridedSlice_apply _ _ _ i (ix2 (i (0 : Fin 2)) (⟨(i (1 : Fin 2)).val, by omega⟩ : Fin 4608)) fun a => ?_).trans ?_
  · match a with
    | ⟨0, _⟩ => show (i (0 : Fin 2)).val = 0 + (i (0 : Fin 2)).val; omega
    | ⟨1, _⟩ => show (i (1 : Fin 2)).val = 0 + (i (1 : Fin 2)).val; omega
  · exact Finset.sum_congr rfl fun k _ => congrArg₂ (fun p q : EReal => p * q) (congrFun (V_main_arg0 m c) _) (weight_apply m c k (i (1 : Fin 2)))

theorem run_plain : θ_run (defs (F := Ideal)) (onTc (τ := τ) (main (F := Ideal))) ⟨m, fun _ => 0, ρ⟩ (fun r => ∀ c : Dev nD,
    r.2.mem ((c : Thread nD τ).loc main_v2) = plain m c
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

/-- The kernel and the reference end with the same array. -/
theorem algebraic : Cert.algebraic_EvenInCtxIdeal_EvenInCtxRefIdeal (hEvenInCtxIdeal := Cert.EvenInCtxIdeal.Gen.facts) (hEvenInCtxRefIdeal := Cert.EvenInCtxRefIdeal.Gen.facts) := by
  intro m g m' g' _ hargs
  refine ⟨fun c => plain m c, ?_, ?_⟩
  · exact run_plain m g
  · refine (θ_run _ _ _).mono (fun r h c => ⟨((h c).1).trans ?_, (h c).2⟩) (Cert.EvenInCtxRefIdeal.Value.run m' g')
    refine (Cert.EvenInCtxRefIdeal.Read.val_main_v0_eq _ _).trans ?_
    funext i
    refine (Cert.EvenInCtxRefIdeal.Read.val_main_v0_apply _ _ i).trans ?_
    rw [(hargs c).1, (hargs c).2]
    refine Finset.sum_congr rfl fun k _ => congrArg₂ (fun p q : EReal => p * q) (congrArg (arg0 m c) ?_) (congrArg (arg1 m c) ?_)
    · funext a; match a with
      | ⟨0, _⟩ => rfl
      | ⟨1, _⟩ => rfl
    · funext a; match a with
      | ⟨0, _⟩ => rfl
      | ⟨1, _⟩ => rfl

end Cert.EvenInCtxIdeal.Product

end
-- ==== Proof.OddInCtxProduct.lean ====
/- The input projection of an odd layer over the context rows: the blocked product the kernel computes is the one product of the reference, at the
   ideal floats. -/
module

public import proofs.«01_k».proof.Defs
public import proofs.«01_k».proof.Proof.Gen.OddInCtxIdeal.Value
public import proofs.«01_k».proof.Proof.Gen.OddInCtxRefIdeal.Run
public import proofs.«01_k».proof.Proof.Gen.OddInCtxRefIdeal.Read
public import Idealize.ShloMosaic.Lib.MatmulPlain
public import Idealize.ShloMosaic.Lib.Pipeline.Covers

@[expose] public section

set_option maxRecDepth 16384

noncomputable section

namespace Cert.OddInCtxIdeal.Product

open Cert.OddInCtxIdeal Cert.OddInCtxIdeal.Gen
open Idealize.ShloMosaic Idealize.ShloMosaic.TcCoe Idealize.SL.Sem Idealize.ShloMosaic.ValueIdx
open scoped BigOperators

/-! ## One block -/

/-- The body's stored value: the product of the two loaded blocks. -/
theorem pay1_apply (x : Vec Ideal S512x1024 .f32) (w : Vec Ideal S1024x512 .f32) (r d : Fin 512) :
    k0_pay1 (F := Ideal) x w (ix2 r d) = ∑ k : Fin 1024, (x (ix2 r k) * w (ix2 k d) : EReal) := by
  refine (Ideal.matmul_plain_apply none _ _ _ r d).trans ?_
  rw [show constant (F := Ideal) S512x512 .f32 0x00000000#32 (ix2 r d) = 0 from by
    show Ideal.ofBits .f32 0x00000000#32 = 0
    simp [Ideal.ofBits, Ideal.ieee], zero_add]
  exact Finset.sum_congr rfl fun k _ => rfl

theorem hz : (![0, 0] : Fin 2 → Nat) = fun _ => 0 := funext fun a => by fin_cases a <;> rfl

theorem out_eq (x : Vec Ideal S512x1024 .f32) (w : Vec Ideal S1024x512 .f32) : out0_2 x w = k0_pay1 (F := Ideal) x w := by
  unfold out0_2
  rw [View.canon_unit_zero hz, View.ld_unit_zero hz, View.ld_unit_zero hz]

variable (m : (ℓ : Loc nD τ sig) → Buf (Elt Ideal) ℓ) (ρ : Dev nD → PrngReg)

/-- A launch's two argument arrays. -/
def rows (c : Dev nD) : S2048x1024.Idx → EReal := m ((c : Thread nD τ).loc main_arg0)
def weight (c : Dev nD) : S1024x3584.Idx → EReal := m ((c : Thread nD τ).loc main_arg1)

/-- Their product. -/
def product (c : Dev nD) : S2048x3584.Idx → EReal := fun i =>
  ∑ k : Fin 1024, rows m c (ix2 (i 0) k) * weight m c (ix2 k (i 1))

/-- The block row and block column of grid point `t`. -/
abbrev brow (t : Fin cfg0.N) : Fin 4 := grid0.coords t 0
abbrev bcol (t : Fin cfg0.N) : Fin 7 := grid0.coords t 1

theorem row_word (i : grid0.Coords) : (BitVec.ofNat 32 (i 0).val).toNat = (i 0).val := by
  have : (i 0).val < 4 := (i 0).isLt
  rw [BitVec.toNat_ofNat]; omega
theorem col_word (i : grid0.Coords) : (BitVec.ofNat 32 (i 1).val).toNat = (i 1).val := by
  have : (i 1).val < 7 := (i 1).isLt
  rw [BitVec.toNat_ofNat]; omega

/-- The rows a point reads. -/
theorem rows_read (c : Dev nD) (t : Fin cfg0.N) (r : Fin 512) (k : Fin 1024) :
    (iblk m c 0 t : S512x1024.Idx → EReal) (ix2 r k)
      = rows m c (ix2 ⟨(brow t).val * 512 + r.val, by have := (brow t).isLt; have := r.isLt; omega⟩ k) := by
  refine congrArg (rows m c) (funext fun a => Fin.ext ?_)
  match a with
  | ⟨0, _⟩ =>
    refine ((cfg0.win 0).rect_emb_val t (ix2 r k) (0 : Fin 2)).trans ?_
    exact congrArg (fun n => n * 512 + r.val) (row_word (grid0.coords t))
  | ⟨1, _⟩ =>
    refine ((cfg0.win 0).rect_emb_val t (ix2 r k) (1 : Fin 2)).trans ?_
    show 0 * 1024 + k.val = k.val
    omega

/-- The columns a point reads. -/
theorem cols_read (c : Dev nD) (t : Fin cfg0.N) (k : Fin 1024) (d : Fin 512) :
    (iblk m c 1 t : S1024x512.Idx → EReal) (ix2 k d)
      = weight m c (ix2 k ⟨(bcol t).val * 512 + d.val, by have := (bcol t).isLt; have := d.isLt; omega⟩) := by
  refine congrArg (weight m c) (funext fun a => Fin.ext ?_)
  match a with
  | ⟨0, _⟩ =>
    refine ((cfg0.win 1).rect_emb_val t (ix2 k d) (0 : Fin 2)).trans ?_
    show 0 * 1024 + k.val = k.val
    omega
  | ⟨1, _⟩ =>
    refine ((cfg0.win 1).rect_emb_val t (ix2 k d) (1 : Fin 2)).trans ?_
    exact congrArg (fun n => n * 512 + d.val) (col_word (grid0.coords t))

/-- What a point leaves is its block of the product. -/
theorem block_apply (c : Dev nD) (t : Fin cfg0.N) (r d : Fin 512) :
    out0_2 (iblk m c 0 t) (iblk m c 1 t) (ix2 r d)
      = product m c (ix2 ⟨(brow t).val * 512 + r.val, by have := (brow t).isLt; have := r.isLt; omega⟩
          ⟨(bcol t).val * 512 + d.val, by have := (bcol t).isLt; have := d.isLt; omega⟩) := by
  refine (congrFun (out_eq _ _) _).trans ((pay1_apply _ _ r d).trans ?_)
  exact Finset.sum_congr rfl fun k _ => congrArg₂ (fun p q : EReal => p * q) (rows_read m c t r k) (cols_read m c t k d)

/-- The points' blocks tile the result. -/
theorem covers : (cfg0.win 2).Covers :=
  (cfg0.win 2).covers_of_indexMap_surj rfl
    (fun a => by
      match a with
      | ⟨0, _⟩ => show 0 < 512; omega
      | ⟨1, _⟩ => show 0 < 512; omega)
    fun β =>
    have b0 : (β (0 : Fin 2)).val < 4 := lt_of_lt_of_eq (β (0 : Fin 2)).isLt (show (2048 + (512 - 1)) / 512 = 4 by omega)
    have b1 : (β (1 : Fin 2)).val < 7 := lt_of_lt_of_eq (β (1 : Fin 2)).isLt (show (3584 + (512 - 1)) / 512 = 7 by omega)
    let i : grid0.Coords := fun a => match a with
      | ⟨0, _⟩ => ⟨(β (0 : Fin 2)).val, b0⟩
      | ⟨1, _⟩ => ⟨(β (1 : Fin 2)).val, b1⟩
    ⟨i, fun a => by
      match a with
      | ⟨0, _⟩ => exact row_word i
      | ⟨1, _⟩ => exact col_word i⟩

/-- After the grid the result array is the product. -/
theorem final (c : Dev nD) : (dats m 0 c).arrAt 2 cfg0.N = product m c := by
  refine (dats m 0 c).arrAt_eq_of_covers 2 _ covers fun t _ y => ?_
  have hy : y = ix2 (y (0 : Fin 2)) (y (1 : Fin 2)) := eq_ix2 (n0 := 512) (n1 := 512) y
  refine (congrFun (after0_2 m c t) _).trans ?_
  refine ((congrArg (out0_2 (iblk m c 0 t) (iblk m c 1 t)) hy).trans (block_apply m c t _ _)).trans (congrArg (product m c) ?_)
  funext a; apply Fin.ext
  match a with
  | ⟨0, _⟩ =>
    refine Eq.symm (((cfg0.win 2).rect_emb_val t y (0 : Fin 2)).trans ?_)
    exact congrArg (fun n => n * 512 + (y (0 : Fin 2)).val) (row_word (grid0.coords t))
  | ⟨1, _⟩ =>
    refine Eq.symm (((cfg0.win 2).rect_emb_val t y (1 : Fin 2)).trans ?_)
    exact congrArg (fun n => n * 512 + (y (1 : Fin 2)).val) (col_word (grid0.coords t))

/-- The kernel and the reference end with the same array. -/
theorem algebraic : Cert.algebraic_OddInCtxIdeal_OddInCtxRefIdeal (hOddInCtxIdeal := Cert.OddInCtxIdeal.Gen.facts) (hOddInCtxRefIdeal := Cert.OddInCtxRefIdeal.Gen.facts) := by
  intro m g m' g' _ hargs
  refine ⟨fun c => product m c, ?_, ?_⟩
  · exact (θ_run _ _ _).mono (fun r h c => ⟨((h c).1).trans (final m c), (h c).2⟩) (Cert.OddInCtxIdeal.Value.run_blocks m g)
  · refine (θ_run _ _ _).mono (fun r h c => ⟨((h c).1).trans ?_, (h c).2⟩) (Cert.OddInCtxRefIdeal.Value.run m' g')
    refine (Cert.OddInCtxRefIdeal.Read.val_main_v0_eq _ _).trans ?_
    funext i
    refine (Cert.OddInCtxRefIdeal.Read.val_main_v0_apply _ _ i).trans ?_
    rw [(hargs c).1, (hargs c).2]
    refine Finset.sum_congr rfl fun k _ => congrArg₂ (fun p q : EReal => p * q) (congrArg (rows m c) ?_) (congrArg (weight m c) ?_)
    · funext a; match a with
      | ⟨0, _⟩ => rfl
      | ⟨1, _⟩ => rfl
    · funext a; match a with
      | ⟨0, _⟩ => rfl
      | ⟨1, _⟩ => rfl

end Cert.OddInCtxIdeal.Product

end
-- ==== Proof.OutProjCtxProduct.lean ====
/- The output projection of a layer over the context rows: the blocked product the kernel computes is the one product of the reference, at the
   ideal floats. -/
module

public import proofs.«01_k».proof.Defs
public import proofs.«01_k».proof.Proof.Gen.OutProjCtxIdeal.Value
public import proofs.«01_k».proof.Proof.Gen.OutProjCtxRefIdeal.Run
public import proofs.«01_k».proof.Proof.Gen.OutProjCtxRefIdeal.Read
public import Idealize.ShloMosaic.Lib.MatmulPlain
public import Idealize.ShloMosaic.Lib.Pipeline.Covers

@[expose] public section

set_option maxRecDepth 16384

noncomputable section

namespace Cert.OutProjCtxIdeal.Product

open Cert.OutProjCtxIdeal Cert.OutProjCtxIdeal.Gen
open Idealize.ShloMosaic Idealize.ShloMosaic.TcCoe Idealize.SL.Sem Idealize.ShloMosaic.ValueIdx
open scoped BigOperators

/-! ## One block -/

/-- The body's stored value: the product of the two loaded blocks. -/
theorem pay1_apply (x : Vec Ideal S512x1024 .f32) (w : Vec Ideal S1024x512 .f32) (r d : Fin 512) :
    k0_pay1 (F := Ideal) x w (ix2 r d) = ∑ k : Fin 1024, (x (ix2 r k) * w (ix2 k d) : EReal) := by
  refine (Ideal.matmul_plain_apply none _ _ _ r d).trans ?_
  rw [show constant (F := Ideal) S512x512 .f32 0x00000000#32 (ix2 r d) = 0 from by
    show Ideal.ofBits .f32 0x00000000#32 = 0
    simp [Ideal.ofBits, Ideal.ieee], zero_add]
  exact Finset.sum_congr rfl fun k _ => rfl

theorem hz : (![0, 0] : Fin 2 → Nat) = fun _ => 0 := funext fun a => by fin_cases a <;> rfl

theorem out_eq (x : Vec Ideal S512x1024 .f32) (w : Vec Ideal S1024x512 .f32) : out0_2 x w = k0_pay1 (F := Ideal) x w := by
  unfold out0_2
  rw [View.canon_unit_zero hz, View.ld_unit_zero hz, View.ld_unit_zero hz]

variable (m : (ℓ : Loc nD τ sig) → Buf (Elt Ideal) ℓ) (ρ : Dev nD → PrngReg)

/-- A launch's two argument arrays. -/
def rows (c : Dev nD) : S2048x1024.Idx → EReal := m ((c : Thread nD τ).loc main_arg0)
def weight (c : Dev nD) : S1024x1024.Idx → EReal := m ((c : Thread nD τ).loc main_arg1)

/-- Their product. -/
def product (c : Dev nD) : S2048x1024.Idx → EReal := fun i =>
  ∑ k : Fin 1024, rows m c (ix2 (i 0) k) * weight m c (ix2 k (i 1))

/-- The block row and block column of grid point `t`. -/
abbrev brow (t : Fin cfg0.N) : Fin 4 := grid0.coords t 0
abbrev bcol (t : Fin cfg0.N) : Fin 2 := grid0.coords t 1

theorem row_word (i : grid0.Coords) : (BitVec.ofNat 32 (i 0).val).toNat = (i 0).val := by
  have : (i 0).val < 4 := (i 0).isLt
  rw [BitVec.toNat_ofNat]; omega
theorem col_word (i : grid0.Coords) : (BitVec.ofNat 32 (i 1).val).toNat = (i 1).val := by
  have : (i 1).val < 2 := (i 1).isLt
  rw [BitVec.toNat_ofNat]; omega

/-- The rows a point reads. -/
theorem rows_read (c : Dev nD) (t : Fin cfg0.N) (r : Fin 512) (k : Fin 1024) :
    (iblk m c 0 t : S512x1024.Idx → EReal) (ix2 r k)
      = rows m c (ix2 ⟨(brow t).val * 512 + r.val, by have := (brow t).isLt; have := r.isLt; omega⟩ k) := by
  refine congrArg (rows m c) (funext fun a => Fin.ext ?_)
  match a with
  | ⟨0, _⟩ =>
    refine ((cfg0.win 0).rect_emb_val t (ix2 r k) (0 : Fin 2)).trans ?_
    exact congrArg (fun n => n * 512 + r.val) (row_word (grid0.coords t))
  | ⟨1, _⟩ =>
    refine ((cfg0.win 0).rect_emb_val t (ix2 r k) (1 : Fin 2)).trans ?_
    show 0 * 1024 + k.val = k.val
    omega

/-- The columns a point reads. -/
theorem cols_read (c : Dev nD) (t : Fin cfg0.N) (k : Fin 1024) (d : Fin 512) :
    (iblk m c 1 t : S1024x512.Idx → EReal) (ix2 k d)
      = weight m c (ix2 k ⟨(bcol t).val * 512 + d.val, by have := (bcol t).isLt; have := d.isLt; omega⟩) := by
  refine congrArg (weight m c) (funext fun a => Fin.ext ?_)
  match a with
  | ⟨0, _⟩ =>
    refine ((cfg0.win 1).rect_emb_val t (ix2 k d) (0 : Fin 2)).trans ?_
    show 0 * 1024 + k.val = k.val
    omega
  | ⟨1, _⟩ =>
    refine ((cfg0.win 1).rect_emb_val t (ix2 k d) (1 : Fin 2)).trans ?_
    exact congrArg (fun n => n * 512 + d.val) (col_word (grid0.coords t))

/-- What a point leaves is its block of the product. -/
theorem block_apply (c : Dev nD) (t : Fin cfg0.N) (r d : Fin 512) :
    out0_2 (iblk m c 0 t) (iblk m c 1 t) (ix2 r d)
      = product m c (ix2 ⟨(brow t).val * 512 + r.val, by have := (brow t).isLt; have := r.isLt; omega⟩
          ⟨(bcol t).val * 512 + d.val, by have := (bcol t).isLt; have := d.isLt; omega⟩) := by
  refine (congrFun (out_eq _ _) _).trans ((pay1_apply _ _ r d).trans ?_)
  exact Finset.sum_congr rfl fun k _ => congrArg₂ (fun p q : EReal => p * q) (rows_read m c t r k) (cols_read m c t k d)

/-- The points' blocks tile the result. -/
theorem covers : (cfg0.win 2).Covers :=
  (cfg0.win 2).covers_of_indexMap_surj rfl
    (fun a => by
      match a with
      | ⟨0, _⟩ => show 0 < 512; omega
      | ⟨1, _⟩ => show 0 < 512; omega)
    fun β =>
    have b0 : (β (0 : Fin 2)).val < 4 := lt_of_lt_of_eq (β (0 : Fin 2)).isLt (show (2048 + (512 - 1)) / 512 = 4 by omega)
    have b1 : (β (1 : Fin 2)).val < 2 := lt_of_lt_of_eq (β (1 : Fin 2)).isLt (show (1024 + (512 - 1)) / 512 = 2 by omega)
    let i : grid0.Coords := fun a => match a with
      | ⟨0, _⟩ => ⟨(β (0 : Fin 2)).val, b0⟩
      | ⟨1, _⟩ => ⟨(β (1 : Fin 2)).val, b1⟩
    ⟨i, fun a => by
      match a with
      | ⟨0, _⟩ => exact row_word i
      | ⟨1, _⟩ => exact col_word i⟩

/-- After the grid the result array is the product. -/
theorem final (c : Dev nD) : (dats m 0 c).arrAt 2 cfg0.N = product m c := by
  refine (dats m 0 c).arrAt_eq_of_covers 2 _ covers fun t _ y => ?_
  have hy : y = ix2 (y (0 : Fin 2)) (y (1 : Fin 2)) := eq_ix2 (n0 := 512) (n1 := 512) y
  refine (congrFun (after0_2 m c t) _).trans ?_
  refine ((congrArg (out0_2 (iblk m c 0 t) (iblk m c 1 t)) hy).trans (block_apply m c t _ _)).trans (congrArg (product m c) ?_)
  funext a; apply Fin.ext
  match a with
  | ⟨0, _⟩ =>
    refine Eq.symm (((cfg0.win 2).rect_emb_val t y (0 : Fin 2)).trans ?_)
    exact congrArg (fun n => n * 512 + (y (0 : Fin 2)).val) (row_word (grid0.coords t))
  | ⟨1, _⟩ =>
    refine Eq.symm (((cfg0.win 2).rect_emb_val t y (1 : Fin 2)).trans ?_)
    exact congrArg (fun n => n * 512 + (y (1 : Fin 2)).val) (col_word (grid0.coords t))

/-- The kernel and the reference end with the same array. -/
theorem algebraic : Cert.algebraic_OutProjCtxIdeal_OutProjCtxRefIdeal (hOutProjCtxIdeal := Cert.OutProjCtxIdeal.Gen.facts) (hOutProjCtxRefIdeal := Cert.OutProjCtxRefIdeal.Gen.facts) := by
  intro m g m' g' _ hargs
  refine ⟨fun c => product m c, ?_, ?_⟩
  · exact (θ_run _ _ _).mono (fun r h c => ⟨((h c).1).trans (final m c), (h c).2⟩) (Cert.OutProjCtxIdeal.Value.run_blocks m g)
  · refine (θ_run _ _ _).mono (fun r h c => ⟨((h c).1).trans ?_, (h c).2⟩) (Cert.OutProjCtxRefIdeal.Value.run m' g')
    refine (Cert.OutProjCtxRefIdeal.Read.val_main_v0_eq _ _).trans ?_
    funext i
    refine (Cert.OutProjCtxRefIdeal.Read.val_main_v0_apply _ _ i).trans ?_
    rw [(hargs c).1, (hargs c).2]
    refine Finset.sum_congr rfl fun k _ => congrArg₂ (fun p q : EReal => p * q) (congrArg (rows m c) ?_) (congrArg (weight m c) ?_)
    · funext a; match a with
      | ⟨0, _⟩ => rfl
      | ⟨1, _⟩ => rfl
    · funext a; match a with
      | ⟨0, _⟩ => rfl
      | ⟨1, _⟩ => rfl

end Cert.OutProjCtxIdeal.Product

end
-- ==== Proof.RouteRounds.lean ====
/- The router's body, round by round: what each of the eight rounds reads and leaves, as functions of the scores still in play, and the
   four blocks the body stores written with them. -/
module

public import proofs.«01_k».proof.Defs
public import proofs.«01_k».proof.Proof.Gen.RouteIdeal.Value
public import Idealize.ShloMosaic.Lib.MatmulPlain
public import Idealize.ShloMosaic.Lib.VecWindow

@[expose] public section

set_option maxRecDepth 16384

noncomputable section

namespace Cert.RouteIdeal.Rounds

open Cert.RouteIdeal Cert.RouteIdeal.Gen
open Idealize.ShloMosaic Idealize.ShloMosaic.TcCoe Idealize.SL.Sem Idealize.ShloMosaic.ValueIdx

/-! ## One round -/

/-- The experts' numbers along a row, and the ranks' numbers along a row. -/
def lanes : IVec S512x64 32 := iota .tc S512x64 32 [1] iota_S512x64_d1_w32
def cols : IVec S512x8 32 := iota .tc S512x8 32 [1] iota_S512x8_d1_w32

/-- Each row's greatest score. -/
def peak (X : FVec Ideal S512x64 .f32) : FVec Ideal S512 .f32 :=
  multiReduction .maximumf [1] S512 X 0xFF800000#32 reduces_S512x64_S512 (.inl rfl) rfl

/-- Each row's first expert of the greatest score. -/
def pick (X : FVec Ideal S512x64 .f32) : IVec S512x1 32 :=
  shapeCast S512x1 (multiReductionI .minsi [1] S512
    (select (cmpf .oeq X (broadcastTo S512x64 (shapeCast S512x1 (peak X) shapeCasts_S512_S512x1) broadcasts_S512x1_S512x64)) lanes
      (broadcast S512x64 64#32)) 2147483647#32 reduces_S512x64_S512 rfl) shapeCasts_S512_S512x1

/-- The cell of that expert. -/
def hit (X : FVec Ideal S512x64 .f32) : IVec S512x64 1 :=
  cmpi .eq lanes (broadcastTo S512x64 (pick X) broadcasts_S512x1_S512x64)

/-- The scores with that expert taken out. -/
def rest (X : FVec Ideal S512x64 .f32) : FVec Ideal S512x64 .f32 :=
  select (hit X) (broadcast S512x64 (Scalar.ofBits .f32 0xFF800000#32)) X

/-- Each row's sum of `Y` over the cells of `H`. -/
def masked (H : IVec S512x64 1) (Y : FVec Ideal S512x64 .f32) : FVec Ideal S512x64 .f32 :=
  select H Y (broadcast S512x64 (Scalar.ofBits .f32 0x00000000#32))
def share (H : IVec S512x64 1) (Y : FVec Ideal S512x64 .f32) : FVec Ideal S512x1 .f32 :=
  shapeCast S512x1 (multiReduction .add [1] S512 (masked H Y) 0x00000000#32 reduces_S512x64_S512 (.inl rfl) rfl) shapeCasts_S512_S512x1

/-- A column written into the result. -/
def put {α : Type} (k : BitVec 32) (v : S512x1.Idx → α) (out : S512x8.Idx → α) : S512x8.Idx → α :=
  select (cmpi .eq cols (broadcast S512x8 k))
    (broadcastTo S512x8 (shapeCast S512x1 v shapeCasts_S512x1_S512x1) broadcasts_S512x1_S512x8) out

/-- A round's cells added to the count of the chosen experts. -/
def tally (H : IVec S512x64 1) (M : FVec Ideal S512x64 .f32) : FVec Ideal S512x64 .f32 :=
  addf M (sitofp .f32 (extui 32 H natLt_1_32))

/-- The tokens before each row of the block that chose the expert, after those of the earlier blocks. -/
def before (T : FVec Ideal S512x64 .f32) (c : FVec Ideal S1x64 .f32) : FVec Ideal S512x64 .f32 :=
  addf (matmul dot_S512x512_S512x64_S512x64_1_0_0_1_n_n none
    (truncf .bf16 (sitofp .f32 (extui 32 (cmpi .sgt (iota .tc S512x512 32 [0] iota_S512x512_d0_w32)
      (iota .tc S512x512 32 [1] iota_S512x512_d1_w32)) natLt_1_32)) bitsLt_bf16_f32 : FVec Ideal S512x512 .bf16)
    (truncf .bf16 T bitsLt_bf16_f32 : FVec Ideal S512x64 .bf16) (constant S512x64 .f32 0x00000000#32))
    (broadcastTo S512x64 c broadcasts_S1x64_S512x64)

/-! ## The body's values, round by round -/

section
variable (x : FVec Ideal S512x1024 .f32) (w : FVec Ideal S1024x64 .f32) (b : FVec Ideal S1x64 .f32)
  (W X S : FVec Ideal S512x64 .f32) (E : IVec S512x8 32) (G : FVec Ideal S512x8 .f32) (M : FVec Ideal S512x64 .f32)
  (H H1 H2 H3 H4 : IVec S512x64 1) (g : FVec Ideal S512x1 .f32) (c : FVec Ideal S1x64 .f32) (R : FVec Ideal S512x64 .f32)

theorem pay8_eq : k0_pay8 (F := Ideal) x w b = pick (k0_pay4 x w b) := rfl
theorem pay9_eq : k0_pay9 (F := Ideal) x w b = hit (k0_pay4 x w b) := rfl
theorem pay10_eq : k0_pay10 (F := Ideal) x w b = masked (hit (k0_pay4 x w b)) (k0_pay3 x w) := rfl
theorem pay13_eq : k0_pay13 (F := Ideal) W lanes (hit W) = hit (rest W) := rfl
theorem pay14_eq : k0_pay14 (F := Ideal) W lanes cols E (pick W) (hit W) = put 1#32 (pick (rest W)) (put 0#32 (pick W) E) := rfl
theorem pay15_eq : k0_pay15 (F := Ideal) S W lanes cols G (hit W) (masked (hit W) S) = put 1#32 (share (hit (rest W)) S) (put 0#32 (share (hit W) S) G) := rfl
theorem pay16_eq : k0_pay16 (F := Ideal) W lanes (hit W) = rest (rest W) := rfl
theorem pay17_eq : k0_pay17 (F := Ideal) W lanes M (hit W) = tally (hit (rest W)) (tally (hit W) M) := rfl
theorem pay18_eq : k0_pay18 (F := Ideal) W lanes (hit W) = peak (rest (rest W)) := rfl
theorem pay20_eq : k0_pay20 (F := Ideal) lanes X (peak X) = hit X := rfl
theorem pay21_eq : k0_pay21 (F := Ideal) S lanes cols G X (peak X) = put 2#32 (share (hit X) S) G := rfl
theorem pay22_eq : k0_pay22 (F := Ideal) lanes X (peak X) = rest X := rfl
theorem pay23_eq : k0_pay23 (F := Ideal) lanes X M (peak X) = tally (hit X) M := rfl
theorem pay25_eq : k0_pay25 (F := Ideal) lanes X (peak X) = hit (rest X) := rfl
theorem pay26_eq : k0_pay26 (F := Ideal) S lanes X (peak X) = share (hit (rest X)) S := rfl
theorem pay27_eq : k0_pay27 (F := Ideal) lanes cols E X (peak X) = put 3#32 (pick (rest X)) (put 2#32 (pick X) E) := rfl
theorem pay30_eq : k0_pay30 (F := Ideal) lanes X (hit X) = hit (rest X) := rfl
theorem pay31_eq : k0_pay31 (F := Ideal) lanes cols X (hit X) E = put 4#32 (pick (rest X)) E := rfl
theorem pay32_eq : k0_pay32 (F := Ideal) S lanes cols G X (hit X) g = put 4#32 (share (hit (rest X)) S) (put 3#32 g G) := rfl
theorem pay33_eq : k0_pay33 (F := Ideal) lanes X (hit X) = rest (rest X) := rfl
theorem pay34_eq : k0_pay34 (F := Ideal) lanes X M (hit X) = tally (hit (rest X)) (tally (hit X) M) := rfl
theorem pay35_eq : k0_pay35 (F := Ideal) lanes X (hit X) = pick (rest (rest X)) := rfl
theorem pay36_eq : k0_pay36 lanes (pick X) = hit X := rfl
theorem pay38_eq : k0_pay38 (F := Ideal) lanes M (pick X) = tally (hit X) M := rfl
theorem pay40_eq : k0_pay40 (F := Ideal) lanes X (pick X) = hit (rest X) := rfl
theorem pay41_eq : k0_pay41 lanes cols E X (pick X) = put 6#32 (pick (rest X)) (put 5#32 (pick X) E) := rfl
theorem pay42_eq : k0_pay42 (F := Ideal) S lanes cols G X (pick X) = put 6#32 (share (hit (rest X)) S) (put 5#32 (share (hit X) S) G) := rfl
theorem pay43_eq : k0_pay43 (F := Ideal) lanes X (pick X) = rest (rest X) := rfl
theorem pay45_eq : k0_pay45 (F := Ideal) lanes X = hit X := rfl
theorem pay46_eq : k0_pay46 lanes cols E X = put 7#32 (pick X) E := rfl
theorem pay47_eq : k0_pay47 (F := Ideal) S lanes cols G X = put 7#32 (share (hit X) S) G := rfl
theorem pay48_eq : k0_pay48 (F := Ideal) lanes M H X = tally (hit X) (tally H M) := rfl
theorem pay49_eq : k0_pay49 (F := Ideal) lanes M H X c = before (tally (hit X) (tally H M)) c := rfl
theorem pay51_eq : k0_pay51 (F := Ideal) lanes H1 M H X c = share H1 (before (tally (hit X) (tally H M)) c) := rfl
theorem pay52_eq : k0_pay52 (F := Ideal) cols H1 H2 H3 H4 R E g 0#32 = put 4#32 (fptosi 32 (share H4 R)) (put 3#32 (fptosi 32 (share H3 R)) (put 2#32 (fptosi 32 (share H2 R)) (put 1#32 (fptosi 32 (share H1 R)) (put 0#32 (fptosi 32 g) E)))) := rfl
theorem pay54_eq : k0_pay54 (F := Ideal) cols H1 H2 H3 R E k0_pay53 = put 7#32 (fptosi 32 (share H3 R)) (put 6#32 (fptosi 32 (share H2 R)) (put 5#32 (fptosi 32 (share H1 R)) E)) := rfl

end

end Cert.RouteIdeal.Rounds
-- ==== Proof.RouteBlocks.lean ====
/- What the router's body stores at one point of the grid: the experts chosen, their ranks, their gates and the running counts. -/
module

public import proofs.«01_k».proof.Proof.RouteRounds

@[expose] public section

set_option maxRecDepth 16384

noncomputable section

namespace Cert.RouteIdeal.Rounds

open Cert.RouteIdeal Cert.RouteIdeal.Gen
open Idealize.ShloMosaic Idealize.ShloMosaic.TcCoe Idealize.SL.Sem Idealize.ShloMosaic.ValueIdx

/-- The scores still in play after `k` rounds. -/
def after (W : FVec Ideal S512x64 .f32) : ℕ → FVec Ideal S512x64 .f32
  | 0 => W
  | k + 1 => rest (after W k)

/-- Eight columns written one after the other. -/
def columns {α : Type} (v : ℕ → S512x1.Idx → α) (out : S512x8.Idx → α) : S512x8.Idx → α :=
  put 7#32 (v 7) (put 6#32 (v 6) (put 5#32 (v 5) (put 4#32 (v 4) (put 3#32 (v 3) (put 2#32 (v 2) (put 1#32 (v 1) (put 0#32 (v 0) out)))))))

/-- How often each cell of the block was chosen in the eight rounds. -/
def taken (W : FVec Ideal S512x64 .f32) : FVec Ideal S512x64 .f32 :=
  tally (hit (after W 7)) (tally (hit (after W 6)) (tally (hit (after W 5)) (tally (hit (after W 4)) (tally (hit (after W 3))
    (tally (hit (after W 2)) (tally (hit (after W 1)) (tally (hit (after W 0)) (k0_pay7 (F := Ideal)))))))))

/-- The four stored blocks, from the biased scores, the scores and the running counts. -/
def chosen (W : FVec Ideal S512x64 .f32) : IVec S512x8 32 := columns (fun k => pick (after W k)) k0_pay5
def shares (W S : FVec Ideal S512x64 .f32) : FVec Ideal S512x8 .f32 := columns (fun k => share (hit (after W k)) S) (k0_pay6 (F := Ideal))
def gates (W S : FVec Ideal S512x64 .f32) : FVec Ideal S512x8 .f32 := k0_pay1 (F := Ideal) (shares W S) (k0_pay56 (F := Ideal))
def ranks (W : FVec Ideal S512x64 .f32) (c : FVec Ideal S1x64 .f32) : IVec S512x8 32 :=
  columns (fun k => fptosi 32 (share (hit (after W k)) (before (taken W) c))) k0_pay50
def counts (W : FVec Ideal S512x64 .f32) (c : FVec Ideal S1x64 .f32) : FVec Ideal S1x64 .f32 := k0_pay55 (F := Ideal) (taken W) c

variable (c : Dev nD) (i : grid0.Coords) (arg1 : Memref sig .tc .vmem S512x1024 .f32) (harg1 : arg1.IsWhole) (arg2 : Memref sig .tc .vmem S1024x64 .f32) (harg2 : arg2.IsWhole) (arg3 : Memref sig .tc .vmem S1x64 .f32) (harg3 : arg3.IsWhole) (arg4 : Memref sig .tc .vmem S512x8 .i32) (harg4 : arg4.IsWhole) (arg5 : Memref sig .tc .vmem S512x8 .i32) (harg5 : arg5.IsWhole) (arg6 : Memref sig .tc .vmem S512x8 .f32) (harg6 : arg6.IsWhole) (arg7 : Memref sig .tc .vmem S1x64 .f32) (harg7 : arg7.IsWhole) (arg8 : Memref sig .tc .vmem S1x64 .f32) (harg8 : arg8.IsWhole)
  (x0 : Vec Ideal S512x1024 .f32) (x1 : Vec Ideal S1024x64 .f32) (x2 : Vec Ideal S1x64 .f32)

theorem v23_A : kernelRun0_A.sl.v23 = lanes := rfl
theorem v24_A : kernelRun0_A.sl.v24 = cols := rfl
theorem v23_B : kernelRun0_B.sl.v23 = lanes := rfl
theorem v24_B : kernelRun0_B.sl.v24 = cols := rfl

theorem load_x : View.readAt (Elt Ideal) arg1.view (Rect.unit (s := S512x1024) ![0, 0] ![512, 1024] inb_S512x1024_S512x1024_0_0).toLoadRect (harg1.unread x0) = x0 := by
  exact (View.readAt_full _ _ _).trans (harg1.read_unread _)
theorem load_w : View.readAt (Elt Ideal) arg2.view (Rect.unit (s := S1024x64) ![0, 0] ![1024, 64] inb_S1024x64_S1024x64_0_0).toLoadRect (harg2.unread x1) = x1 := by
  exact (View.readAt_full _ _ _).trans (harg2.read_unread _)
theorem load_b : View.readAt (Elt Ideal) arg3.view (Rect.unit (s := S1x64) ![0, 0] ![1, 64] inb_S1x64_S1x64_0_0).toLoadRect (harg3.unread x2) = x2 := by
  exact (View.readAt_full _ _ _).trans (harg3.read_unread _)

theorem load_last (L : List (View.Piece (Elt Ideal) S1x64 .f32)) (v : FVec Ideal S1x64 .f32) :
    arg8.view.readCov (⟨Rect.unit ![0, 0] S1x64.size inb_S1x64_S1x64_0_0, v⟩ :: L)
      (Rect.unit (s := S1x64) ![0, 0] ![1, 64] inb_S1x64_S1x64_0_0).toLoadRect = v := View.readCov_full _ _ _ _ _

theorem load_run : arg8.view.readCov (kernelRun0_A.sl.HS0_1 (F := Ideal)) (Rect.unit (s := S1x64) ![0, 0] ![1, 64] inb_S1x64_S1x64_0_0).toLoadRect
    = k0_pay2 (F := Ideal) := View.readCov_full _ _ _ _ _

set_option maxHeartbeats 800000 in
theorem out0_A_3_eq (hc : cond0_0 i) :
    out0_A_3 c i arg1 harg1 arg2 harg2 arg3 harg3 arg4 harg4 arg5 harg5 arg6 harg6 arg7 harg7 arg8 harg8 hc x0 x1 x2
      = chosen (k0_pay4 (F := Ideal) x0 x1 x2) := by
  unfold out0_A_3
  refine (View.read_writes_full _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, v23_A, v24_A, kernelRun0_A.sl.v266, load_x, load_w, load_b, pay8_eq, pay9_eq, pay10_eq, pay13_eq, pay14_eq, pay15_eq, pay16_eq, pay17_eq, pay18_eq, pay20_eq, pay21_eq, pay22_eq, pay23_eq, pay25_eq, pay26_eq, pay27_eq, pay30_eq, pay31_eq, pay32_eq, pay33_eq, pay34_eq, pay35_eq, pay36_eq, pay38_eq, pay40_eq, pay41_eq, pay42_eq, pay43_eq, pay45_eq, pay46_eq, pay47_eq, pay48_eq, pay49_eq, pay51_eq, pay52_eq, pay54_eq, load_run]
  simp only [chosen, ranks, gates, shares, counts, taken, columns, after]

set_option maxHeartbeats 800000 in
theorem out0_A_4_eq (hc : cond0_0 i) :
    out0_A_4 c i arg1 harg1 arg2 harg2 arg3 harg3 arg4 harg4 arg5 harg5 arg6 harg6 arg7 harg7 arg8 harg8 hc x0 x1 x2
      = ranks (k0_pay4 (F := Ideal) x0 x1 x2) (k0_pay2 (F := Ideal)) := by
  unfold out0_A_4
  refine (View.read_writes_full _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, v23_A, v24_A, kernelRun0_A.sl.v266, load_x, load_w, load_b, pay8_eq, pay9_eq, pay10_eq, pay13_eq, pay14_eq, pay15_eq, pay16_eq, pay17_eq, pay18_eq, pay20_eq, pay21_eq, pay22_eq, pay23_eq, pay25_eq, pay26_eq, pay27_eq, pay30_eq, pay31_eq, pay32_eq, pay33_eq, pay34_eq, pay35_eq, pay36_eq, pay38_eq, pay40_eq, pay41_eq, pay42_eq, pay43_eq, pay45_eq, pay46_eq, pay47_eq, pay48_eq, pay49_eq, pay51_eq, pay52_eq, pay54_eq, load_run]
  simp only [chosen, ranks, gates, shares, counts, taken, columns, after]

set_option maxHeartbeats 800000 in
theorem out0_A_5_eq (hc : cond0_0 i) :
    out0_A_5 c i arg1 harg1 arg2 harg2 arg3 harg3 arg4 harg4 arg5 harg5 arg6 harg6 arg7 harg7 arg8 harg8 hc x0 x1 x2
      = gates (k0_pay4 (F := Ideal) x0 x1 x2) (k0_pay3 (F := Ideal) x0 x1) := by
  unfold out0_A_5
  refine (View.read_writes_full _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, v23_A, v24_A, kernelRun0_A.sl.v266, load_x, load_w, load_b, pay8_eq, pay9_eq, pay10_eq, pay13_eq, pay14_eq, pay15_eq, pay16_eq, pay17_eq, pay18_eq, pay20_eq, pay21_eq, pay22_eq, pay23_eq, pay25_eq, pay26_eq, pay27_eq, pay30_eq, pay31_eq, pay32_eq, pay33_eq, pay34_eq, pay35_eq, pay36_eq, pay38_eq, pay40_eq, pay41_eq, pay42_eq, pay43_eq, pay45_eq, pay46_eq, pay47_eq, pay48_eq, pay49_eq, pay51_eq, pay52_eq, pay54_eq, load_run]
  simp only [chosen, ranks, gates, shares, counts, taken, columns, after]

set_option maxHeartbeats 800000 in
theorem out0_A_6_eq (hc : cond0_0 i) :
    out0_A_6 c i arg1 harg1 arg2 harg2 arg3 harg3 arg4 harg4 arg5 harg5 arg6 harg6 arg7 harg7 arg8 harg8 hc x0 x1 x2
      = counts (k0_pay4 (F := Ideal) x0 x1 x2) (k0_pay2 (F := Ideal)) := by
  unfold out0_A_6
  refine (View.read_writes_full _ _ _ _ _).trans ?_
  simp only [kernelRun0_A.sl.v366, kernelRun0_A.sl.HS0_2, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, v23_A, v24_A, kernelRun0_A.sl.v266, load_x, load_w, load_b, pay8_eq, pay9_eq, pay10_eq, pay13_eq, pay14_eq, pay15_eq, pay16_eq, pay17_eq, pay18_eq, pay20_eq, pay21_eq, pay22_eq, pay23_eq, pay25_eq, pay26_eq, pay27_eq, pay30_eq, pay31_eq, pay32_eq, pay33_eq, pay34_eq, pay35_eq, pay36_eq, pay38_eq, pay40_eq, pay41_eq, pay42_eq, pay43_eq, pay45_eq, pay46_eq, pay47_eq, pay48_eq, pay49_eq, pay51_eq, pay52_eq, pay54_eq, load_run]
  simp only [chosen, ranks, gates, shares, counts, taken, columns, after]
  exact load_last _ _ _

set_option maxHeartbeats 800000 in
theorem sout0_A_0_eq (hc : cond0_0 i) :
    sout0_A_0 c i arg1 harg1 arg2 harg2 arg3 harg3 arg4 harg4 arg5 harg5 arg6 harg6 arg7 harg7 arg8 harg8 hc x0 x1 x2
      = counts (k0_pay4 (F := Ideal) x0 x1 x2) (k0_pay2 (F := Ideal)) := by
  unfold sout0_A_0
  refine (View.read_writes_full _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, v23_A, v24_A, kernelRun0_A.sl.v266, load_x, load_w, load_b, pay8_eq, pay9_eq, pay10_eq, pay13_eq, pay14_eq, pay15_eq, pay16_eq, pay17_eq, pay18_eq, pay20_eq, pay21_eq, pay22_eq, pay23_eq, pay25_eq, pay26_eq, pay27_eq, pay30_eq, pay31_eq, pay32_eq, pay33_eq, pay34_eq, pay35_eq, pay36_eq, pay38_eq, pay40_eq, pay41_eq, pay42_eq, pay43_eq, pay45_eq, pay46_eq, pay47_eq, pay48_eq, pay49_eq, pay51_eq, pay52_eq, pay54_eq, load_run]
  simp only [chosen, ranks, gates, shares, counts, taken, columns, after]

end Cert.RouteIdeal.Rounds
-- ==== Proof.RouteOrder.lean ====
/- Choosing the greatest, then the greatest of the others, and so on, with the earlier place first among equals: the places come in
   the order a stable sort by falling value puts them. -/
module

public import Idealize.ShloMosaic.Lib.SortFacts
public import Idealize.ShloMosaic.PureOps.Reduce
public import Mathlib.Data.EReal.Basic
public import Mathlib.Data.Finset.Fold
public import Mathlib.Order.Interval.Finset.Fin

@[expose] public section

noncomputable section

namespace Cert.RouteIdeal.Order

open Idealize.ShloMosaic

variable {n : ℕ} (w : Fin n → EReal)

/-- Place `a` comes ahead of place `b`: a greater value, or the same value at an earlier place. -/
def Ahead (a b : Fin n) : Prop := w b < w a ∨ (w a = w b ∧ a < b)

theorem Ahead.asymm {a b : Fin n} (h : Ahead w a b) (h' : Ahead w b a) : False := by
  rcases h with h | ⟨e, h⟩ <;> rcases h' with h' | ⟨e', h'⟩
  · exact lt_asymm h h'
  · exact absurd e' h.ne
  · exact absurd e h'.ne
  · exact lt_asymm h h'

theorem ahead_of_not {a b : Fin n} (hne : a ≠ b) (h : ¬ Ahead w a b) : Ahead w b a := by
  unfold Ahead at h ⊢
  push Not at h
  rcases lt_or_eq_of_le h.1 with h1 | h1
  · exact .inl h1
  · exact .inr ⟨h1.symm, lt_of_le_of_ne (h.2 h1) (Ne.symm hne)⟩

theorem ahead_negTrans {a b c : Fin n} (h1 : ¬ Ahead w a b) (h2 : ¬ Ahead w b c) : ¬ Ahead w a c := by
  unfold Ahead at *
  push Not at *
  refine ⟨h1.1.trans h2.1, fun e => ?_⟩
  have hab : w a = w b := le_antisymm h1.1 (e ▸ h2.1)
  have hbc : w b = w c := hab.symm.trans e
  exact (h2.2 hbc).trans (h1.2 hab)

open Classical in
/-- On a list in rising order the sort by falling value alone is the sort by `Ahead`: the value that is put in stands before the rest. -/
theorem stableSort_ahead (R : Fin n → Fin n → Bool) (hR : ∀ a b, R a b = true ↔ w b < w a) (l : List (Fin n)) (hl : l.Pairwise (· < ·)) :
    stableSort R l = stableSort (fun a b => decide (Ahead w a b)) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    rw [Bool.eq_iff_iff, hR, decide_eq_true_iff]
    exact ⟨.inl, fun h => h.resolve_right fun h' => lt_asymm hab h'.2⟩

/-- The sort's places come in the order `Ahead`. -/
theorem sortedFrom_ahead (R : Fin n → Fin n → Bool) (hR : ∀ a b, R a b = true ↔ w b < w a) (i j : Fin n) (hij : i < j) :
    Ahead w (sortedFrom R i) (sortedFrom R j) := by
  classical
  have hl : sortPositions n R = sortPositions n (fun a b => decide (Ahead w a b)) :=
    stableSort_ahead w R hR _ (List.pairwise_lt_finRange n)
  have hs : sortedFrom R = sortedFrom (fun a b => decide (Ahead w a b)) := by
    funext k
    unfold sortedFrom
    rw [List.get_of_eq hl]
    rfl
  have hinj := sortedFrom_injective (fun a b => decide (Ahead w a b))
  rw [hs]
  have := sortedFrom_noInversion (fun a b => decide (Ahead w a b)) (fun a b => decide (Ahead w a b))
    (fun a b h => decide_eq_false fun h' => (of_decide_eq_true h).asymm w h') (fun a b h => h)
    (fun a b c h h' => decide_eq_false (ahead_negTrans w (of_decide_eq_false h) (of_decide_eq_false h'))) i j hij
  exact ahead_of_not w (fun e => absurd (hinj e) (ne_of_gt hij)) (of_decide_eq_false this)

/-! ## Round by round -/

/-- The greatest value, and the number of the first place that has it: the kernel's two folds along a row. -/
def rowMax (w : Fin 64 → EReal) : EReal := Finset.univ.fold max ⊥ w
def rowArg (w : Fin 64 → EReal) : BitVec 32 :=
  Finset.univ.fold IKind.minsi.op 2147483647#32 (fun e => if w e = rowMax w then BitVec.ofNat 32 e.val else 64#32)
/-- The row with that place taken out. -/
def rowRest (w : Fin 64 → EReal) : Fin 64 → EReal := fun e => if BitVec.ofNat 32 e.val = rowArg w then ⊥ else w e

theorem rowMax_eq (w : Fin 64 → EReal) (e0 : Fin 64) (h : ∀ e, w e ≤ w e0) : rowMax w = w e0 := by
  refine le_antisymm ?_ ?_
  · exact (Finset.fold_max_le _).mpr ⟨bot_le, fun e _ => h e⟩
  · exact (Finset.le_fold_max _).mpr (.inr ⟨e0, Finset.mem_univ _, le_rfl⟩)

theorem le_minsi (c x y : BitVec 32) : c.toInt ≤ (IntOp.minsi x y).toInt ↔ c.toInt ≤ x.toInt ∧ c.toInt ≤ y.toInt := by
  unfold IntOp.minsi
  have := BitVec.slt_iff_toInt_lt (x := x) (y := y)
  split <;> rename_i h
  · have := this.mp h; omega
  · have : ¬ x.toInt < y.toInt := fun h' => h (this.mpr h')
    omega

theorem le_fold_minsi (c b : BitVec 32) (f : Fin 64 → BitVec 32) (s : Finset (Fin 64)) :
    c.toInt ≤ (s.fold IKind.minsi.op b f).toInt ↔ c.toInt ≤ b.toInt ∧ ∀ e ∈ s, c.toInt ≤ (f e).toInt :=
  Finset.fold_op_rel_iff_and (r := fun x y : BitVec 32 => x.toInt ≤ y.toInt) (fun {x y z} => le_minsi x y z)

theorem toInt_ofNat_small (k : ℕ) (h : k ≤ 64) : (BitVec.ofNat 32 k).toInt = k := by
  rw [BitVec.toInt_ofNat']
  · simp [Int.bmod]; omega

theorem rowArg_eq (w : Fin 64 → EReal) (e0 : Fin 64) (h : ∀ e, w e ≤ w e0) (h' : ∀ e < e0, w e ≠ w e0) :
    rowArg w = BitVec.ofNat 32 e0.val := by
  have hm := rowMax_eq w e0 h
  have he0 : (BitVec.ofNat 32 e0.val).toInt = e0.val := toInt_ofNat_small _ (by omega)
  refine BitVec.eq_of_toInt_eq (le_antisymm ?_ ?_)
  · have := ((le_fold_minsi (rowArg w) 2147483647#32 (fun e => if w e = rowMax w then BitVec.ofNat 32 e.val else 64#32) Finset.univ).mp
      (le_refl _)).2 e0 (Finset.mem_univ _)
    simpa [hm] using this
  · refine (le_fold_minsi _ _ _ _).mpr ⟨?_, fun e _ => ?_⟩
    · rw [he0, show (2147483647#32).toInt = 2147483647 from by decide]; omega
    · rw [he0]
      split
      · rename_i he
        rw [toInt_ofNat_small _ (by omega)]
        have : e0 ≤ e := not_lt.mp fun hlt => h' e hlt (he.trans hm)
        exact_mod_cast this
      · rw [show (64#32).toInt = 64 from by decide]; omega

theorem ofNat_inj (a b : Fin 64) : BitVec.ofNat 32 a.val = BitVec.ofNat 32 b.val ↔ a = b := by
  refine ⟨fun h => Fin.ext ?_, fun h => h ▸ rfl⟩
  have := congrArg BitVec.toNat h
  simp only [BitVec.toNat_ofNat] at this
  omega

/-- The row after `k` rounds. -/
def rowAfter (w : Fin 64 → EReal) : ℕ → Fin 64 → EReal
  | 0 => w
  | k + 1 => rowRest (rowAfter w k)

open Classical in
theorem rowAfter_eq (w : Fin 64 → EReal) (hb : ∀ e, w e ≠ ⊥) (σ : Fin 64 → Fin 64) (hs : Function.Surjective σ)
    (hσ : ∀ i j, i < j → Ahead w (σ i) (σ j)) (k : ℕ) (hk : k < 64) :
    (rowAfter w k = fun e => if ∃ i : Fin 64, i.val < k ∧ σ i = e then ⊥ else w e)
      ∧ rowArg (rowAfter w k) = BitVec.ofNat 32 (σ ⟨k, hk⟩).val := by
  have hinj : Function.Injective σ := Finite.injective_iff_surjective.mpr hs
  have second : ∀ k (hk : k < 64), (rowAfter w k = fun e => if ∃ i : Fin 64, i.val < k ∧ σ i = e then ⊥ else w e) →
      rowArg (rowAfter w k) = BitVec.ofNat 32 (σ ⟨k, hk⟩).val := by
    intro k hk hw
    have here : rowAfter w k (σ ⟨k, hk⟩) = w (σ ⟨k, hk⟩) := by
      rw [hw]
      exact if_neg fun ⟨i, hi, he⟩ => by have := congrArg Fin.val (hinj he); simp at this; omega
    refine rowArg_eq _ _ (fun e => ?_) (fun e he => ?_)
    · rw [here, hw]
      dsimp only
      split
      · exact bot_le
      · rename_i hn
        obtain ⟨i, rfl⟩ := hs e
        have hki : k ≤ i.val := not_lt.mp fun h => hn ⟨i, h, rfl⟩
        rcases eq_or_lt_of_le hki with h | h
        · exact le_of_eq (congrArg (fun x => w (σ x)) (Fin.ext h.symm))
        · rcases hσ ⟨k, hk⟩ i h with h | h
          · exact h.le
          · exact h.1.symm.le
    · rw [here, hw]
      dsimp only
      split
      · exact fun h => hb _ h.symm
      · rename_i hn
        obtain ⟨i, rfl⟩ := hs e
        have hki : k ≤ i.val := not_lt.mp fun h => hn ⟨i, h, rfl⟩
        rcases eq_or_lt_of_le hki with h | h
        · exact absurd (congrArg σ (Fin.ext h : (⟨k, hk⟩ : Fin 64) = i)) (ne_of_gt he)
        · rcases hσ ⟨k, hk⟩ i h with h | h
          · exact h.ne
          · exact absurd he (lt_asymm h.2)
  have first : ∀ k, k < 64 → (rowAfter w k = fun e => if ∃ i : Fin 64, i.val < k ∧ σ i = e then ⊥ else w e) := by
    intro k
    induction k with
    | zero => intro _; funext e; exact (if_neg fun ⟨i, hi, _⟩ => absurd hi (Nat.not_lt_zero _)).symm
    | succ k ih =>
      intro hk
      have ih := ih (by omega)
      have harg := second k (by omega) ih
      funext e
      show (if BitVec.ofNat 32 e.val = rowArg (rowAfter w k) then ⊥ else rowAfter w k e) = _
      simp only [harg, ofNat_inj]
      rw [ih]
      dsimp only
      by_cases he : e = σ ⟨k, by omega⟩
      · rw [if_pos he, if_pos ⟨⟨k, by omega⟩, Nat.lt_succ_self k, he.symm⟩]
      · rw [if_neg he]
        refine if_congr ⟨fun ⟨i, hi, h⟩ => ⟨i, by omega, h⟩, fun ⟨i, hi, h⟩ => ⟨i, ?_, h⟩⟩ rfl rfl
        rcases Nat.lt_succ_iff_lt_or_eq.mp hi with h' | h'
        · exact h'
        · exact absurd (h.symm.trans (congrArg σ (Fin.ext h'))) he
  exact ⟨first k hk, second k hk (first k hk)⟩

end Cert.RouteIdeal.Order
-- ==== Proof.RouteRows.lean ====
/- The router's rounds read row by row: the kernel's reductions along a row are the folds the order's mathematics speaks of. -/
module

public import proofs.«01_k».proof.Proof.RouteBlocks
public import proofs.«01_k».proof.Proof.RouteOrder
public import Idealize.ShloMosaic.Lib.ValueLayout
public import Idealize.ShloMosaic.Lib.ValueLayoutCasts

@[expose] public section

set_option maxRecDepth 16384

noncomputable section

namespace Cert.RouteIdeal.Rounds

open Cert.RouteIdeal Cert.RouteIdeal.Gen Cert.RouteIdeal.Order
open Idealize.ShloMosaic Idealize.ShloMosaic.TcCoe Idealize.SL.Sem Idealize.ShloMosaic.ValueIdx
open scoped BigOperators

theorem ofBits_zero : (Scalar.ofBits (F := Ideal) .f32 0x00000000#32 : EReal) = 0 := by
  show Ideal.ofBits .f32 0x00000000#32 = 0
  simp [Ideal.ofBits, Ideal.ieee]
theorem ofBits_bot : (Scalar.ofBits (F := Ideal) .f32 0xFF800000#32 : EReal) = ⊥ := by
  show Ideal.ofBits .f32 0xFF800000#32 = ⊥
  simp [Ideal.ofBits, Ideal.ieee]

theorem lift_row (h : S512x64.Reduces [1] S512) (r : Fin 512) (e : Fin 64) : h.lift (ix1 r) e = ix2 r e := by
  funext a
  match a with
  | ⟨0, _⟩ => rfl
  | ⟨1, _⟩ => rfl
theorem lift_row8 (h : S512x8.Reduces [1] S512) (r : Fin 512) (e : Fin 8) : h.lift (ix1 r) e = ix2 r e := by
  funext a
  match a with
  | ⟨0, _⟩ => rfl
  | ⟨1, _⟩ => rfl
theorem lift_col (h : S512x64.Reduces [0] S64) (e : Fin 64) (r : Fin 512) : h.lift (ix1 e) r = ix2 r e := by
  funext a
  match a with
  | ⟨0, _⟩ => rfl
  | ⟨1, _⟩ => rfl

theorem spread_apply {α : Type} {b : ℕ} (v : S512x1.Idx → α) (h : S512x1.Broadcasts ⟨2, ![512, b]⟩) (r : Fin 512) (e : Fin b) :
    broadcastTo ⟨2, ![512, b]⟩ v h (ix2 r e) = v (ix2 r (0 : Fin 1)) := by
  refine broadcastTo_apply v h (ix2 r e) (ix2 r (0 : Fin 1)) fun a => ?_
  match a with
  | ⟨0, _⟩ => rfl
  | ⟨1, _⟩ => rfl

theorem lanes_apply (r : Fin 512) (e : Fin 64) : lanes (ix2 r e) = BitVec.ofNat 32 e.val := by
  show BitVec.ofNat 32 (0 * 64 + e.val) = _
  rw [Nat.zero_mul, Nat.zero_add]
theorem cols_apply (r : Fin 512) (j : Fin 8) : cols (ix2 r j) = BitVec.ofNat 32 j.val := by
  show BitVec.ofNat 32 (0 * 8 + j.val) = _
  rw [Nat.zero_mul, Nat.zero_add]

/-- A row of scores. -/
def row (X : FVec Ideal S512x64 .f32) (r : Fin 512) : Fin 64 → EReal := fun e => X (ix2 r e)
theorem row_apply (X : FVec Ideal S512x64 .f32) (r : Fin 512) (e : Fin 64) : row X r e = X (ix2 r e) := rfl

theorem peak_apply (X : FVec Ideal S512x64 .f32) (r : Fin 512) : peak X (ix1 r) = rowMax (row X r) := by
  refine (Ideal.multiReduction_maximumf_single X _ _ _ _ (ix1 r)).trans ?_
  rw [show (FloatOps.ofBits (F := Ideal) .f32 0xFF800000#32 : EReal) = ⊥ from ofBits_bot]
  refine congrArg (fun f : Fin 64 → EReal => Finset.univ.fold max (⊥ : EReal) f) (funext fun e => ?_)
  exact congrArg X (lift_row _ r e)

theorem select_one {α : Type} {s : Shape} (p : IVec s 1) (x y : s.Idx → α) (i : s.Idx) :
    select p x y i = if p i = 1#1 then x i else y i := rfl

theorem pick_apply (X : FVec Ideal S512x64 .f32) (r : Fin 512) : pick X (ix2 r (0 : Fin 1)) = rowArg (row X r) := by
  refine (shapeCast_a_a1_apply _ _ r 0).trans ?_
  refine (multiReductionI_eq_fold _ _ _ _ _ _).trans ((Shape.Reduces.fold_filter_drop_single _ _ _ _ _).trans ?_)
  refine congrArg (fun f : Fin 64 → BitVec 32 => Finset.univ.fold IKind.minsi.op 2147483647#32 f) (funext fun e => ?_)
  refine (congrArg _ (lift_row _ r e)).trans ?_
  have hb : broadcastTo S512x64 (shapeCast S512x1 (peak X) shapeCasts_S512_S512x1) broadcasts_S512x1_S512x64 (ix2 r e) = rowMax (row X r) :=
    (spread_apply _ _ r e).trans ((shapeCast_a_a1_apply _ _ r 0).trans (peak_apply X r))
  refine (select_one _ _ _ _).trans ?_
  have hc : (cmpf .oeq X (broadcastTo S512x64 (shapeCast S512x1 (peak X) shapeCasts_S512_S512x1) broadcasts_S512x1_S512x64) (ix2 r e) = 1#1)
      ↔ row X r e = rowMax (row X r) := by
    rw [show cmpf .oeq X (broadcastTo S512x64 (shapeCast S512x1 (peak X) shapeCasts_S512_S512x1) broadcasts_S512x1_S512x64) (ix2 r e)
      = BitVec.ofBool (decide ((X (ix2 r e) : EReal) = rowMax (row X r))) from
        congrArg (fun y : EReal => BitVec.ofBool (decide ((X (ix2 r e) : EReal) = y))) hb]
    by_cases h : (X (ix2 r e) : EReal) = rowMax (row X r)
    · simp [h, row]
    · simp [h, row]
  by_cases h : row X r e = rowMax (row X r)
  · rw [if_pos (hc.mpr h), if_pos h]; exact lanes_apply r e
  · rw [if_neg (fun h' => h (hc.mp h')), if_neg h]; rfl

theorem cmpi_eq_one {w : ℕ} {s : Shape} (x y : IVec s w) (i : s.Idx) : cmpi .eq x y i = 1#1 ↔ x i = y i := by
  show BitVec.ofBool (x i == y i) = 1#1 ↔ _
  by_cases h : x i = y i
  · simp [h]
  · rw [beq_eq_false_iff_ne.mpr h]; simp [h]

theorem hit_apply (X : FVec Ideal S512x64 .f32) (r : Fin 512) (e : Fin 64) :
    hit X (ix2 r e) = 1#1 ↔ BitVec.ofNat 32 e.val = rowArg (row X r) := by
  refine (cmpi_eq_one _ _ _).trans ?_
  rw [lanes_apply, show broadcastTo S512x64 (pick X) broadcasts_S512x1_S512x64 (ix2 r e) = rowArg (row X r) from
    (spread_apply _ _ r e).trans (pick_apply X r)]

theorem rest_apply (X : FVec Ideal S512x64 .f32) (r : Fin 512) : row (rest X) r = rowRest (row X r) := by
  funext e
  rw [row_apply]
  unfold rest rowRest
  rw [select_one]
  by_cases h : BitVec.ofNat 32 e.val = rowArg (row X r)
  · rw [if_pos h, if_pos ((hit_apply X r e).mpr h)]; exact ofBits_bot
  · rw [if_neg h, if_neg (fun h' => h ((hit_apply X r e).mp h'))]; rfl

theorem after_apply (W : FVec Ideal S512x64 .f32) (r : Fin 512) (k : ℕ) : row (after W k) r = rowAfter (row W r) k := by
  induction k with
  | zero => rfl
  | succ k ih => exact (rest_apply _ r).trans (congrArg rowRest ih)

theorem share_apply (H : IVec S512x64 1) (Y : FVec Ideal S512x64 .f32) (r : Fin 512) :
    (share H Y (ix2 r (0 : Fin 1)) : EReal) = ∑ e : Fin 64, (if H (ix2 r e) = 1#1 then (Y (ix2 r e) : EReal) else 0) := by
  refine (shapeCast_a_a1_apply _ _ r 0).trans ((Ideal.multiReduction_add_single _ _ _ _ _ (ix1 r)).trans ?_)
  refine Finset.sum_congr rfl fun e _ => ?_
  refine (congrArg (masked H Y) (lift_row _ r e)).trans ((select_one _ _ _ _).trans ?_)
  exact congrArg (fun z : EReal => if H (ix2 r e) = 1#1 then (Y (ix2 r e) : EReal) else z) ofBits_zero

theorem put_apply {α : Type} (k : BitVec 32) (v : S512x1.Idx → α) (out : S512x8.Idx → α) (r : Fin 512) (j : Fin 8) :
    put k v out (ix2 r j) = if BitVec.ofNat 32 j.val = k then v (ix2 r (0 : Fin 1)) else out (ix2 r j) := by
  refine (select_one _ _ _ _).trans ?_
  have h : cmpi .eq cols (broadcast S512x8 k) (ix2 r j) = 1#1 ↔ BitVec.ofNat 32 j.val = k := by
    refine (cmpi_eq_one _ _ _).trans ?_
    rw [cols_apply]; rfl
  have hv : broadcastTo S512x8 (shapeCast S512x1 v shapeCasts_S512x1_S512x1) broadcasts_S512x1_S512x8 (ix2 r j) = v (ix2 r (0 : Fin 1)) :=
    (spread_apply _ _ r j).trans (shapeCast_apply v _ _ _ rfl)
  rw [hv]
  exact if_congr h rfl rfl

theorem columns_apply {α : Type} (v : ℕ → S512x1.Idx → α) (out : S512x8.Idx → α) (r : Fin 512) (j : Fin 8) :
    columns v out (ix2 r j) = v j.val (ix2 r (0 : Fin 1)) := by
  unfold columns
  simp only [put_apply]
  fin_cases j <;> rfl

theorem tally_apply (H : IVec S512x64 1) (M : FVec Ideal S512x64 .f32) (i : S512x64.Idx) :
    (tally H M i : EReal) = M i + (if H i = 1#1 then 1 else 0) := by
  show (M i : EReal) + (((((H i).setWidth 32).toInt : ℤ) : ℝ) : EReal) = _
  have : H i = 0#1 ∨ H i = 1#1 := by
    generalize H i = b
    revert b; decide
  rcases this with h | h <;> rw [h] <;> simp

theorem taken_apply (W : FVec Ideal S512x64 .f32) (i : S512x64.Idx) :
    (taken W i : EReal) = ∑ k : Fin 8, (if hit (after W k.val) i = 1#1 then (1 : EReal) else 0) := by
  unfold taken
  simp only [tally_apply]
  rw [show (k0_pay7 (F := Ideal) i : EReal) = 0 from ofBits_zero, zero_add, Fin.sum_univ_eight]
  rfl

theorem before_apply (T : FVec Ideal S512x64 .f32) (c : FVec Ideal S1x64 .f32) (r : Fin 512) (e : Fin 64) :
    (before T c (ix2 r e) : EReal)
      = (∑ k : Fin 512, (if k < r then (1 : EReal) else 0) * (T (ix2 k e) : EReal)) + (c (ix2 (0 : Fin 1) e) : EReal) := by
  refine congrArg₂ (fun p q : EReal => p + q) ?_ (broadcastTo_1b_ab_apply c _ r e)
  refine (Ideal.matmul_plain_apply none _ _ _ r e).trans ?_
  rw [show constant (F := Ideal) S512x64 .f32 0x00000000#32 (ix2 r e) = 0 from ofBits_zero, zero_add]
  refine Finset.sum_congr rfl fun k _ => congrArg (fun p : EReal => p * (T (ix2 k e) : EReal)) ?_
  show ((((BitVec.ofBool ((BitVec.ofNat 32 (0 * 512 + k.val)).slt (BitVec.ofNat 32 (0 * 512 + r.val)))).setWidth 32).toInt : ℝ) : EReal) = _
  have hk := k.isLt
  have hr := r.isLt
  have : (BitVec.ofNat 32 (0 * 512 + k.val)).slt (BitVec.ofNat 32 (0 * 512 + r.val)) = decide (k < r) := by
    rw [Bool.eq_iff_iff, BitVec.slt_iff_toInt_lt, decide_eq_true_iff, Fin.lt_def, BitVec.toInt_ofNat', BitVec.toInt_ofNat']
    simp [Int.bmod]; omega
  rw [this]
  by_cases h : k < r
  · simp [h]
  · simp [h]

theorem counts_apply (W : FVec Ideal S512x64 .f32) (c : FVec Ideal S1x64 .f32) (e : Fin 64) :
    (counts W c (ix2 (0 : Fin 1) e) : EReal) = (c (ix2 (0 : Fin 1) e) : EReal) + ∑ r : Fin 512, (taken W (ix2 r e) : EReal) := by
  refine (shapeCast_apply (s := S1x64) (t := S1x64) (addf (F := Ideal) (φ := .f32) c _) shapeCasts_S1x64_S1x64 (ix2 0 e) (ix2 0 e) rfl).trans ?_
  refine congrArg (fun q : EReal => (c (ix2 (0 : Fin 1) e) : EReal) + q) ?_
  refine (shapeCast_a_1a_apply _ _ 0 e).trans ((Ideal.multiReduction_add_single _ _ _ _ _ (ix1 e)).trans ?_)
  exact Finset.sum_congr rfl fun r _ => congrArg (taken W) (lift_col _ e r)

theorem gates_apply (W S : FVec Ideal S512x64 .f32) (r : Fin 512) (j : Fin 8) :
    (gates W S (ix2 r j) : EReal)
      = Ideal.div ((Scalar.ofBits (F := Ideal) .f32 0x40200000#32 : EReal) * (shares W S (ix2 r j) : EReal))
          (∑ k : Fin 8, (shares W S (ix2 r k) : EReal)) := by
  refine congrArg (fun q : EReal => Ideal.div ((Scalar.ofBits (F := Ideal) .f32 0x40200000#32 : EReal) * (shares W S (ix2 r j) : EReal)) q) ?_
  refine (spread_apply _ _ r j).trans ((shapeCast_a_a1_apply _ _ r 0).trans ((Ideal.multiReduction_add_single _ _ _ _ _ (ix1 r)).trans ?_))
  exact Finset.sum_congr rfl fun k _ => congrArg (shares W S) (lift_row8 _ r k)

end Cert.RouteIdeal.Rounds
-- ==== Proof.RouteSpec.lean ====
/- What the router gives each token, said once for the kernel and the reference: the experts in the order of falling biased score,
   the first eight of them, the gate of each, and each expert's count of tokens. -/
module

public import proofs.«01_k».proof.Proof.RouteOrder
public import Idealize.ShloMosaic.PureOps.Ideal.Laws

@[expose] public section

noncomputable section

namespace Cert.RouteIdeal.Spec

open Idealize.ShloMosaic Cert.RouteIdeal.Order
open scoped BigOperators

/-- The experts by falling biased score, the lower number first among equals. -/
def order (w : Fin 64 → EReal) : Fin 64 → Fin 64 := sortedFrom fun a b => decide (w b < w a)

/-- The `j`-th of a token's eight experts. -/
def choice (w : Fin 64 → EReal) (j : Fin 8) : Fin 64 := order w ⟨j.val, by omega⟩

/-- Of a token's eight choices, those that are expert `e`. -/
def hits (w : Fin 64 → EReal) (e : Fin 64) : ℕ := ∑ j : Fin 8, if choice w j = e then 1 else 0

/-- The choices of expert `e` by the tokens before `t`. -/
def earlier {T : ℕ} (w : Fin T → Fin 64 → EReal) (t : Fin T) (e : Fin 64) : ℕ := ∑ t' : Fin T, if t' < t then hits (w t') e else 0

/-- The choices of expert `e` by all tokens. -/
def total {T : ℕ} (w : Fin T → Fin 64 → EReal) (e : Fin 64) : ℕ := ∑ t : Fin T, hits (w t) e

/-- The `j`-th gate: the scaled score of that expert over the sum of the eight scores. -/
def gate (w s : Fin 64 → EReal) (j : Fin 8) : EReal :=
  Ideal.div ((Scalar.ofBits (F := Ideal) .f32 0x40200000#32 : EReal) * s (choice w j)) (∑ k : Fin 8, s (choice w k))

theorem order_injective (w : Fin 64 → EReal) : Function.Injective (order w) := sortedFrom_injective _
theorem order_surjective (w : Fin 64 → EReal) : Function.Surjective (order w) := sortedFrom_surjective _
theorem order_ahead (w : Fin 64 → EReal) (i j : Fin 64) (h : i < j) : Ahead w (order w i) (order w j) :=
  sortedFrom_ahead w _ (fun a b => by simp) i j h

theorem choice_injective (w : Fin 64 → EReal) : Function.Injective (choice w) := fun a b h => by
  exact Fin.ext (Fin.mk.inj (order_injective w h))

theorem hits_le (w : Fin 64 → EReal) (e : Fin 64) : hits w e ≤ 1 := by
  unfold hits
  rw [Finset.sum_boole, Nat.cast_id]
  refine Finset.card_le_one.2 fun a ha b hb => choice_injective w ?_
  rw [(Finset.mem_filter.1 ha).2, (Finset.mem_filter.1 hb).2]

theorem earlier_le {T : ℕ} (w : Fin T → Fin 64 → EReal) (t : Fin T) (e : Fin 64) : earlier w t e ≤ T := by
  refine (Finset.sum_le_card_nsmul _ _ 1 fun t' _ => ?_).trans (by simp)
  split
  · exact hits_le _ _
  · exact Nat.zero_le _

theorem total_le {T : ℕ} (w : Fin T → Fin 64 → EReal) (e : Fin 64) : total w e ≤ T :=
  (Finset.sum_le_card_nsmul _ _ 1 fun t' _ => hits_le _ _).trans (by simp)

/-- A sum of words that hold naturals holds the sum of the naturals. -/
theorem sum_ofNat {ι : Type} (S : Finset ι) (g : ι → BitVec 32) (f : ι → ℕ) (h : ∀ k, g k = BitVec.ofNat 32 (f k)) :
    S.fold IntOp.addi 0#32 g = BitVec.ofNat 32 (∑ k ∈ S, f k) := by
  induction S using Finset.cons_induction with
  | empty => rfl
  | cons a S ha ih =>
    rw [Finset.fold_cons, Finset.sum_cons, ih, h a, BitVec.ofNat_add]
    rfl

end Cert.RouteIdeal.Spec
-- ==== Proof.RouteChoice.lean ====
/- The kernel's rounds over one block, row by row: the rounds choose the experts in the order of falling biased score, so the cells
   they mark are the token's eight experts, and the counts they keep are counts of choices. -/
module

public import proofs.«01_k».proof.Proof.RouteRows
public import proofs.«01_k».proof.Proof.RouteSpec

@[expose] public section

set_option maxRecDepth 16384

noncomputable section

namespace Cert.RouteIdeal.Spec

open Idealize.ShloMosaic
open scoped BigOperators

/-- The sum of the first `n` of `T` naturals. -/
def below {T : ℕ} (f : Fin T → ℕ) (n : ℕ) : ℕ := ∑ k : Fin T, if k.val < n then f k else 0

theorem below_zero {T : ℕ} (f : Fin T → ℕ) : below f 0 = 0 := by simp [below]

theorem below_all {T : ℕ} (f : Fin T → ℕ) : below f T = ∑ k, f k := by simp [below]

theorem below_succ {T : ℕ} (f : Fin T → ℕ) (n : ℕ) (h : n < T) : below f (n + 1) = below f n + f ⟨n, h⟩ := by
  unfold below
  rw [← Finset.sum_ite_eq' Finset.univ (⟨n, h⟩ : Fin T) f |>.trans (if_pos (Finset.mem_univ _)), ← Finset.sum_add_distrib]
  refine Finset.sum_congr rfl fun k _ => ?_
  have he : k = ⟨n, h⟩ ↔ k.val = n := Fin.ext_iff
  by_cases h1 : k.val < n
  · rw [if_pos (by omega), if_pos h1, if_neg (by rw [he]; omega), add_zero]
  · by_cases h2 : k.val = n
    · rw [if_pos (by omega), if_neg h1, if_pos (he.2 h2), zero_add]
    · rw [if_neg (by omega), if_neg h1, if_neg (by rw [he]; omega), add_zero]

/-- The first `b + s`: the first `b` and `s` of the block after them. -/
theorem below_add {T N : ℕ} (f : Fin T → ℕ) (b s : ℕ) (hb : b + N ≤ T) (hs : s ≤ N) :
    below f (b + s) = below f b + below (fun k : Fin N => f ⟨b + k.val, by omega⟩) s := by
  induction s with
  | zero => rw [below_zero]; rfl
  | succ s ih => rw [← Nat.add_assoc, below_succ _ _ (by omega), ih (by omega), below_succ _ _ (by omega), Nat.add_assoc]

theorem below_le {T : ℕ} (f : Fin T → ℕ) (hf : ∀ k, f k ≤ 1) (n : ℕ) : below f n ≤ T := by
  refine (Finset.sum_le_card_nsmul _ _ 1 fun k _ => ?_).trans (by simp)
  split
  · exact hf k
  · exact Nat.zero_le _

theorem earlier_eq {T : ℕ} (w : Fin T → Fin 64 → EReal) (t : Fin T) (e : Fin 64) : earlier w t e = below (fun t => hits (w t) e) t.val := rfl

theorem total_eq {T : ℕ} (w : Fin T → Fin 64 → EReal) (e : Fin 64) : total w e = below (fun t => hits (w t) e) T := (below_all _).symm

theorem below_cast {T : ℕ} (f : Fin T → ℕ) (r : Fin T) :
    ((below f r.val : ℕ) : EReal) = ∑ k : Fin T, (if k < r then (1 : EReal) else 0) * ((f k : ℕ) : EReal) := by
  unfold below
  rw [Nat.cast_sum]
  refine Finset.sum_congr rfl fun k _ => ?_
  by_cases h : k < r
  · rw [if_pos h, if_pos (Fin.lt_def.1 h), one_mul]
  · rw [if_neg h, if_neg (fun h' => h (Fin.lt_def.2 h')), zero_mul, Nat.cast_zero]

/-- A count below the greatest word, turned into an integer, is that count. -/
theorem fptosi_count (n : ℕ) (hn : n < 2147483648) : Ideal.fptosi 32 ((n : ℕ) : EReal) = BitVec.ofNat 32 n := by
  unfold Ideal.fptosi
  rw [show ((n : ℕ) : EReal) = ((n : ℝ) : EReal) from rfl, Ideal.toIntClamped_coe, if_pos (Nat.cast_nonneg n), Int.floor_natCast]
  rw [min_eq_right (by norm_num; omega), max_eq_right (by norm_num)]
  exact BitVec.ofInt_natCast 32 n

end Cert.RouteIdeal.Spec

namespace Cert.RouteIdeal.Rounds

open Cert.RouteIdeal Cert.RouteIdeal.Gen Cert.RouteIdeal.Order Cert.RouteIdeal.Spec
open Idealize.ShloMosaic Idealize.ShloMosaic.TcCoe Idealize.SL.Sem Idealize.ShloMosaic.ValueIdx
open scoped BigOperators

section OneRow

variable (W S : FVec Ideal S512x64 .f32) (r : Fin 512) (hb : ∀ e, row W r e ≠ ⊥)

include hb

theorem arg_apply (j : Fin 8) : rowArg (row (after W j.val) r) = BitVec.ofNat 32 (choice (row W r) j).val := by
  rw [after_apply]
  exact (rowAfter_eq (row W r) hb _ (order_surjective _) (order_ahead _) j.val (by omega)).2

theorem hit_iff (j : Fin 8) (e : Fin 64) : hit (after W j.val) (ix2 r e) = 1#1 ↔ choice (row W r) j = e := by
  rw [hit_apply, arg_apply W r hb, ofNat_inj]
  exact eq_comm

theorem chosen_apply (j : Fin 8) : chosen W (ix2 r j) = BitVec.ofNat 32 (choice (row W r) j).val :=
  (columns_apply _ _ r j).trans ((pick_apply _ r).trans (arg_apply W r hb j))

/-- The masked sum of a row is the entry at the chosen expert. -/
theorem share_hit (Y : FVec Ideal S512x64 .f32) (j : Fin 8) :
    (share (hit (after W j.val)) Y (ix2 r (0 : Fin 1)) : EReal) = Y (ix2 r (choice (row W r) j)) := by
  rw [share_apply]
  refine (Finset.sum_congr rfl fun e _ => ?_ : _ = ∑ e : Fin 64, (if choice (row W r) j = e then (Y (ix2 r e) : EReal) else 0)).trans ?_
  · exact if_congr (hit_iff W r hb j e) rfl rfl
  · exact (Finset.sum_ite_eq _ _ _).trans (if_pos (Finset.mem_univ _))

theorem shares_apply (j : Fin 8) : (shares W S (ix2 r j) : EReal) = S (ix2 r (choice (row W r) j)) :=
  (columns_apply _ _ r j).trans (share_hit W r hb S j)

theorem gates_eq (j : Fin 8) : (gates W S (ix2 r j) : EReal) = gate (row W r) (row S r) j := by
  rw [gates_apply, shares_apply W S r hb]
  simp only [shares_apply W S r hb]
  rfl

theorem taken_eq (e : Fin 64) : (taken W (ix2 r e) : EReal) = ((hits (row W r) e : ℕ) : EReal) := by
  rw [taken_apply]
  unfold hits
  rw [Nat.cast_sum]
  refine Finset.sum_congr rfl fun j _ => ?_
  rw [Nat.cast_ite, Nat.cast_one, Nat.cast_zero]
  exact if_congr (hit_iff W r hb j e) rfl rfl

end OneRow

section AllRows

variable (W : FVec Ideal S512x64 .f32) (hb : ∀ r e, row W r e ≠ ⊥) (c : FVec Ideal S1x64 .f32)

include hb

theorem before_eq (r : Fin 512) (e : Fin 64) : (before (taken W) c (ix2 r e) : EReal)
    = ((below (fun k : Fin 512 => hits (row W k) e) r.val : ℕ) : EReal) + (c (ix2 (0 : Fin 1) e) : EReal) := by
  rw [before_apply, below_cast]
  refine congrArg (fun q : EReal => q + (c (ix2 (0 : Fin 1) e) : EReal)) (Finset.sum_congr rfl fun k _ => ?_)
  rw [taken_eq W k (hb k)]

theorem ranks_eq (r : Fin 512) (j : Fin 8) (n : Fin 64 → ℕ) (hc : ∀ e, (c (ix2 (0 : Fin 1) e) : EReal) = ((n e : ℕ) : EReal))
    (hn : ∀ e, n e < 1000000) : ranks W c (ix2 r j)
      = BitVec.ofNat 32 (n (choice (row W r) j) + below (fun k : Fin 512 => hits (row W k) (choice (row W r) j)) r.val) := by
  refine (columns_apply _ _ r j).trans ?_
  refine (congrArg (Ideal.fptosi 32) ((share_hit W r (hb r) _ j).trans (before_eq W hb c r _))).trans ?_
  rw [hc, add_comm, ← Nat.cast_add]
  refine fptosi_count _ ?_
  have h1 := hn (choice (row W r) j)
  have h2 : below (fun k : Fin 512 => hits (row W k) (choice (row W r) j)) r.val ≤ 512 :=
    below_le _ (fun k => hits_le _ _) _
  omega

theorem counts_eq (e : Fin 64) (n : ℕ) (hc : (c (ix2 (0 : Fin 1) e) : EReal) = ((n : ℕ) : EReal)) :
    (counts W c (ix2 (0 : Fin 1) e) : EReal) = ((n + below (fun k : Fin 512 => hits (row W k) e) 512 : ℕ) : EReal) := by
  rw [counts_apply, hc, Nat.cast_add, below_all, Nat.cast_sum]
  exact congrArg (fun q : EReal => ((n : ℕ) : EReal) + q) (Finset.sum_congr rfl fun r _ => taken_eq W r (hb r) e)

end AllRows

end Cert.RouteIdeal.Rounds
-- ==== Proof.RouteReference.lean ====
/- The reference's router read entry by entry: its top eight of a row, the scores taken along them, the counts of a one-hot sum and
   their running sums. -/
module

public import proofs.«01_k».proof.Proof.RouteSpec
public import proofs.«01_k».proof.Proof.Gen.RouteRefIdeal.Read
public import Idealize.ShloMosaic.Lib.WordSum
public import Idealize.ShloMosaic.Lib.Routing.OpsOne
public import Idealize.ShloMosaic.Lib.ValueIdxCore

@[expose] public section

set_option maxRecDepth 16384

noncomputable section

namespace Cert.RouteRefIdeal.Counts

open Cert.RouteRefIdeal Cert.RouteRefIdeal.Gen Cert.RouteRefIdeal.Read Cert.RouteIdeal.Spec
open Idealize.ShloMosaic Idealize.ShloMosaic.TcCoe Idealize.SL.Sem Idealize.ShloMosaic.ValueIdx
open scoped BigOperators

/-- The row and the place a slice of the first eight columns reads. -/
def place {T : ℕ} (h : (⟨2, ![T, 64]⟩ : Shape).Slices (fun _ => 0) ⟨2, ![T, 8]⟩) (t : Fin T) (j : Fin 8) : (⟨2, ![T, 64]⟩ : Shape).Idx :=
  fun a => ⟨0 + ((ix2 t j : (⟨2, ![T, 8]⟩ : Shape).Idx) (a.cast h.1.symm)).val,
    Nat.lt_of_lt_of_le (Nat.add_lt_add_left ((ix2 t j : (⟨2, ![T, 8]⟩ : Shape).Idx) _).isLt _) (h.2 a)⟩

theorem place_along {T : ℕ} (h : (⟨2, ![T, 64]⟩ : Shape).Slices (fun _ => 0) ⟨2, ![T, 8]⟩) (t : Fin T) (j : Fin 8) (k : Fin 64) :
    (place h t j).along (1 : Fin 2) k = ix2 t k := by
  funext a
  match a with
  | ⟨0, _⟩ => exact Fin.ext (Nat.zero_add _)
  | ⟨1, _⟩ => rfl

theorem place_one {T : ℕ} (h : (⟨2, ![T, 64]⟩ : Shape).Slices (fun _ => 0) ⟨2, ![T, 8]⟩) (t : Fin T) (j : Fin 8) :
    place h t j (1 : Fin 2) = (⟨j.val, by omega⟩ : Fin 64) := Fin.ext (Nat.zero_add _)

theorem greater_word (a b : EReal) : (Ideal.cmpTotal .gt a b == 1#1) = decide (b < a) := by
  show (BitVec.ofBool (decide (b < a)) == 1#1) = decide (b < a)
  cases decide (b < a) <;> rfl

theorem along_one {T : ℕ} (q : (⟨2, ![T, 64]⟩ : Shape).Idx) (k : Fin 64) : q.along (1 : Fin 2) k (1 : Fin 2) = k := rfl

theorem sort_second {s : Shape} {α β : Type} (cmp : α × β → α × β → BitVec 1) (x : s.Idx → α) (y : s.Idx → β) (a : Fin s.rank)
    (j : s.Idx) : (Host.sort2 s a.val cmp x y).2 j = y (j.along a (sortedFrom
      (fun k k' => cmp (x (j.along a k), y (j.along a k)) (x (j.along a k'), y (j.along a k')) == 1#1) (j a))) := by
  unfold Host.sort2
  rw [dif_pos a.isLt]

/-- The positions of a row's eight greatest entries. -/
theorem top_apply {T : ℕ} (X : (⟨2, ![T, 64]⟩ : Shape).Idx → EReal) (h : (⟨2, ![T, 64]⟩ : Shape).Slices (fun _ => 0) ⟨2, ![T, 8]⟩)
    (t : Fin T) (j : Fin 8) :
    (Host.topK ⟨2, ![T, 8]⟩ 1 (Ideal.cmpTotal .gt) X h).2 (ix2 t j)
      = BitVec.ofNat 32 (choice (fun e => X (ix2 t e)) j).val := by
  have hR : (fun k k' : Fin 64 => Ideal.cmpTotal .gt (X ((place h t j).along (1 : Fin 2) k)) (X ((place h t j).along (1 : Fin 2) k')) == 1#1)
      = fun k k' : Fin 64 => decide (X (ix2 t k') < X (ix2 t k)) := by
    funext k k'
    rw [place_along, place_along]
    exact greater_word _ _
  unfold Host.topK extractStridedSlice
  dsimp only
  refine Eq.trans (sort_second (s := ⟨2, ![T, 64]⟩) _ X _ (1 : Fin 2) (place h t j)) ?_
  refine (dif_pos (show 1 < 2 by decide)).trans ?_
  refine congrArg (fun n : Fin 64 => BitVec.ofNat 32 n.val) ?_
  unfold choice order
  rw [← hR, ← place_one h t j]
  exact along_one _ _

section
variable (x0 : (⟨S34816x1024, .f32⟩ : BufTy).Contents (Elt Ideal)) (x1 : (⟨S1024x64, .f32⟩ : BufTy).Contents (Elt Ideal))
  (x2 : (⟨S64, .f32⟩ : BufTy).Contents (Elt Ideal))

/-- A token's scores. -/
def score (t : Fin 34816) (e : Fin 64) : EReal := val_main_v6 (F := Ideal) x0 x1 (ix2 t e)
/-- A token's scores with the bias. -/
def biased (t : Fin 34816) (e : Fin 64) : EReal := val_main_v9 (F := Ideal) x0 x1 x2 (ix2 t e)

theorem indices_apply (t : Fin 34816) (j : Fin 8) :
    val_main_indices (F := Ideal) x0 x1 x2 (ix2 t j) = BitVec.ofNat 32 (choice (biased x0 x1 x2 t) j).val :=
  top_apply _ _ t j

/-- A word that holds an expert's number is not negative and at most 63. -/
theorem small_word (n : Fin 64) : (IntOp.cmpi .slt (BitVec.ofNat 32 n.val) 0#32 = 0#1)
    ∧ IntOp.cmpi .sge (BitVec.ofNat 32 n.val) 0#32 = 1#1 ∧ IntOp.cmpi .sle (BitVec.ofNat 32 n.val) 63#32 = 1#1
    ∧ (BitVec.ofNat 32 n.val).toInt.toNat = n.val := by
  revert n
  decide

/-- The start indices the scores are taken at. -/
theorem starts_apply (t : Fin 34816) (j : Fin 8) (z : Fin 1) :
    val_main_call0_v5 (F := Ideal) x0 x1 x2 (ix3 t j z) = BitVec.ofNat 32 (choice (biased x0 x1 x2 t) j).val := by
  have hi : idx_main_call0_v5 (ix3 t j z) = ix2 t j := by
    funext a
    match a with
    | ⟨0, _⟩ => exact Fin.ext (by show ((t.val * 8 + j.val) * 1 + z.val) / 8 = t.val; omega)
    | ⟨1, _⟩ => exact Fin.ext (by show ((t.val * 8 + j.val) * 1 + z.val) % 8 = j.val; omega)
  rw [val_main_call0_v5_apply, hi, val_main_call0_v4_apply, val_main_call0_v1_apply, val_main_call0_v0_apply,
    val_main_call0_c_apply, indices_apply, (small_word _).1]
  rfl

theorem starts_apply' (t : Fin 34816) (j : Fin 8) (z : Fin 1) :
    val_main_call3_v5 (F := Ideal) x0 x1 x2 (ix3 t j z) = BitVec.ofNat 32 (choice (biased x0 x1 x2 t) j).val := by
  have hi : idx_main_call3_v5 (ix3 t j z) = ix2 t j := by
    funext a
    match a with
    | ⟨0, _⟩ => exact Fin.ext (by show ((t.val * 8 + j.val) * 1 + z.val) / 8 = t.val; omega)
    | ⟨1, _⟩ => exact Fin.ext (by show ((t.val * 8 + j.val) * 1 + z.val) % 8 = j.val; omega)
  rw [val_main_call3_v5_apply, hi, val_main_call3_v4_apply, val_main_call3_v1_apply, val_main_call3_v0_apply,
    val_main_call3_c_apply, indices_apply, (small_word _).1]
  rfl

/-- A conjunction of ones is one. -/
theorem all_ones {s t u : Shape} {axes : List (Fin s.rank)} (x : IVec s 1) (init : IVec u 1) (h : s.ReducesTo axes t) (hu : 0 < u.numel)
    (hx : ∀ i, x i = 1#1) (hi : ∀ i, init i = 1#1) (j : t.Idx) : Host.reduce IntOp.andi x init h hu j = 1#1 := by
  unfold Host.reduce
  rw [hi]
  generalize List.filter _ _ = l
  induction l with
  | nil => rfl
  | cons a l ih => rw [List.foldl_cons, hx]; exact ih

theorem inside (i : S34816x8.Idx) : val_main_call0_v12 (F := Ideal) x0 x1 x2 i = 1#1 := by
  refine all_ones _ _ _ _ (fun p => ?_) (fun p => val_main_call0_c_3_apply p) i
  have hp : val_main_call0_v5 (F := Ideal) x0 x1 x2 p = BitVec.ofNat 32 (choice (biased x0 x1 x2 (p 0)) (p 1)).val :=
    (congrArg (val_main_call0_v5 (F := Ideal) x0 x1 x2) (eq_ix3 p)).trans (starts_apply x0 x1 x2 (p 0) (p 1) (p 2))
  rw [val_main_call0_v11_apply, val_main_call0_v7_apply, val_main_call0_v10_apply, val_main_call0_v6_apply, val_main_call0_v9_apply,
    val_main_call0_v8_apply, val_main_call0_c_2_apply, val_main_call0_c_1_apply, hp, (small_word _).2.1,
    (small_word _).2.2.1]
  rfl

theorem inside' (i : S34816x8.Idx) : val_main_call3_v12 (F := Ideal) x0 x1 x2 i = 1#1 := by
  refine all_ones _ _ _ _ (fun p => ?_) (fun p => val_main_call3_c_3_apply p) i
  have hp : val_main_call3_v5 (F := Ideal) x0 x1 x2 p = BitVec.ofNat 32 (choice (biased x0 x1 x2 (p 0)) (p 1)).val :=
    (congrArg (val_main_call3_v5 (F := Ideal) x0 x1 x2) (eq_ix3 p)).trans (starts_apply' x0 x1 x2 (p 0) (p 1) (p 2))
  rw [val_main_call3_v11_apply, val_main_call3_v7_apply, val_main_call3_v10_apply, val_main_call3_v6_apply, val_main_call3_v9_apply,
    val_main_call3_v8_apply, val_main_call3_c_2_apply, val_main_call3_c_1_apply, hp, (small_word _).2.1,
    (small_word _).2.2.1]
  rfl

/-- Entries taken along a row: the entry of the row at the start index. -/
theorem take_apply {α : Type} (x : S34816x64.Idx → α) (idx : IVec S34816x8x1 32) (t : Fin 34816) (j : Fin 8) (e : Fin 64)
    (h : idx (ix3 t j (0 : Fin 1)) = BitVec.ofNat 32 e.val) :
    Host.gather gather_S34816x64_S34816x8x1_S34816x8_n_1_0_0_1_2_11 x idx (ix2 t j) = x (ix2 t e) := by
  unfold Host.gather
  refine congrArg x (funext fun a => Fin.ext ?_)
  show (gather_S34816x64_S34816x8x1_S34816x8_n_1_0_0_1_2_11).start (ix2 t j) idx a
    + (gather_S34816x64_S34816x8x1_S34816x8_n_1_0_0_1_2_11).batchCoord (ix2 t j) a
    + (gather_S34816x64_S34816x8x1_S34816x8_n_1_0_0_1_2_11).offCoord (ix2 t j) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (show (0 : Fin 2) ∈ (gather_S34816x64_S34816x8x1_S34816x8_n_1_0_0_1_2_11).operandBatchingDims
        from List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S34816x64_S34816x8x1_S34816x8_n_1_0_0_1_2_11).operandBatchingDims
        from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S34816x64_S34816x8x1_S34816x8_n_1_0_0_1_2_11).startIndexMap from List.mem_singleton.mpr rfl)]
    have hsi : (gather_S34816x64_S34816x8x1_S34816x8_n_1_0_0_1_2_11).siIdx (ix2 t j)
        ⟨List.idxOf (1 : Fin 2) (gather_S34816x64_S34816x8x1_S34816x8_n_1_0_0_1_2_11).startIndexMap,
          List.idxOf_lt_length_iff.2 (List.mem_singleton.mpr rfl)⟩ = ix3 t j (0 : Fin 1) := by
      funext b; refine Fin.ext ?_
      match b with
      | ⟨0, _⟩ => rfl
      | ⟨1, _⟩ => rfl
      | ⟨2, _⟩ => rfl
    refine (congrArg (fun p => min (idx p).toInt.toNat (64 - 1)) hsi).trans ?_
    show min (idx (ix3 t j (0 : Fin 1))).toInt.toNat (64 - 1) = e.val
    rw [h, (small_word e).2.2.2]
    omega

theorem scores_apply (t : Fin 34816) (j : Fin 8) :
    (val_main_v10 (F := Ideal) x0 x1 x2 (ix2 t j) : EReal) = score x0 x1 t (choice (biased x0 x1 x2 t) j) := by
  rw [val_main_v10_apply, inside]
  unfold val_main_call0_v13
  refine Eq.trans (if_pos rfl) ?_
  exact take_apply _ _ t j _ (starts_apply x0 x1 x2 t j 0)

theorem gates_apply (t : Fin 34816) (j : Fin 8) :
    (val_main_v16 (F := Ideal) x0 x1 x2 (ix2 t j) : EReal) = gate (biased x0 x1 x2 t) (score x0 x1 t) j := by
  have h0 : (Scalar.ofBits (F := Ideal) .f32 0x00000000#32 : EReal) = 0 := by
    show Ideal.ofBits .f32 0x00000000#32 = 0
    simp [Ideal.ofBits, Ideal.ieee]
  have hs : (val_main_v15 (F := Ideal) x0 x1 x2 (ix2 t j) : EReal) = ∑ k : Fin 8, score x0 x1 t (choice (biased x0 x1 x2 t) k) := by
    rw [val_main_v15_apply, val_main_v14_apply, val_main_v13_apply, val_main_cst_2_apply]
    refine (congrArg₂ (fun a b : EReal => a + b) h0 (Finset.sum_congr rfl fun k _ => ?_)).trans (zero_add _)
    refine Eq.trans (congrArg (val_main_v10 (F := Ideal) x0 x1 x2) ?_) (scores_apply x0 x1 x2 t k)
    funext a
    match a with
    | ⟨0, _⟩ => rfl
    | ⟨1, _⟩ => rfl
  rw [val_main_v16_apply, val_main_v12_apply, val_main_v11_apply, val_main_cst_1_apply]
  exact congrArg₂ (fun a b : EReal => Ideal.div ((Scalar.ofBits (F := Ideal) .f32 0x40200000#32 : EReal) * a) b) (scores_apply x0 x1 x2 t j) hs

/-- One entry of the one-hot array. -/
theorem onehot_apply (t : Fin 34816) (j : Fin 8) (e : Fin 64) :
    val_main_v17 (F := Ideal) x0 x1 x2 (ix3 t j e) = BitVec.ofNat 32 (if choice (biased x0 x1 x2 t) j = e then 1 else 0) := by
  have h2 : val_main_call1_v2 (F := Ideal) x0 x1 x2 (ix3 t j e) = BitVec.ofNat 32 (choice (biased x0 x1 x2 t) j).val := by
    rw [val_main_call1_v2_apply, val_main_call1_v0_apply]
    refine Eq.trans (congrArg (val_main_indices (F := Ideal) x0 x1 x2) ?_) (indices_apply x0 x1 x2 t j)
    funext a
    match a with
    | ⟨0, _⟩ => rfl
    | ⟨1, _⟩ => rfl
  have h3 : val_main_call1_v3 (F := Ideal) (ix3 t j e) = BitVec.ofNat 32 e.val := by
    rw [val_main_call1_v3_apply]
    rfl
  rw [val_main_v17_apply, val_main_call1_v4_apply, h2, h3]
  generalize choice (biased x0 x1 x2 t) j = n
  by_cases hn : n = e
  · subst hn
    rw [if_pos rfl]
    show (BitVec.ofBool (BitVec.ofNat 32 n.val == BitVec.ofNat 32 n.val)).setWidth 32 = _
    rw [beq_self_eq_true]
    rfl
  · rw [if_neg hn]
    have : (BitVec.ofNat 32 n.val == BitVec.ofNat 32 e.val) = false :=
      beq_false_of_ne fun h => hn ((Cert.RouteIdeal.Order.ofNat_inj n e).1 h)
    show (BitVec.ofBool (BitVec.ofNat 32 n.val == BitVec.ofNat 32 e.val)).setWidth 32 = _
    rw [this]
    rfl

theorem lift_mid (h : S34816x8x64.Reduces [1] S34816x64) (t : Fin 34816) (e : Fin 64) (j : Fin 8) : h.lift (ix2 t e) j = ix3 t j e := by
  funext a
  match a with
  | ⟨0, _⟩ => rfl
  | ⟨1, _⟩ => rfl
  | ⟨2, _⟩ => rfl
theorem lift_top {T : ℕ} (h : (⟨2, ![T, 64]⟩ : Shape).Reduces [0] ⟨1, ![64]⟩) (e : Fin 64) (t : Fin T) : h.lift (ix1 e) t = ix2 t e := by
  funext a
  match a with
  | ⟨0, _⟩ => rfl
  | ⟨1, _⟩ => rfl

/-- A sum of words down a column that hold naturals. -/
theorem column_sum {T : ℕ} {u : Shape} (x : IVec ⟨2, ![T, 64]⟩ 32) (f : Fin T → Fin 64 → ℕ)
    (hx : ∀ t e, x (ix2 t e) = BitVec.ofNat 32 (f t e)) (init : IVec u 32) (hu : 0 < u.numel) (hi : ∀ p, init p = 0#32)
    (h' : (⟨2, ![T, 64]⟩ : Shape).ReducesTo [0] ⟨1, ![64]⟩) (h : (⟨2, ![T, 64]⟩ : Shape).Reduces [0] ⟨1, ![64]⟩) (e : Fin 64) :
    Host.reduce IntOp.addi x init h' hu (ix1 e) = BitVec.ofNat 32 (∑ t : Fin T, f t e) := by
  rw [Host.reduce_eq_fold_single IntOp.addi x init h' h hu, hi]
  exact sum_ofNat (ι := Fin T) Finset.univ _ _ fun t => (congrArg x (lift_top h e t)).trans (hx t e)

theorem hits_apply (t : Fin 34816) (e : Fin 64) :
    val_main_v18 (F := Ideal) x0 x1 x2 (ix2 t e) = BitVec.ofNat 32 (hits (biased x0 x1 x2 t) e) := by
  unfold val_main_v18
  rw [Host.reduce_eq_fold_single IntOp.addi _ _ _ (by decide)]
  exact sum_ofNat _ _ _ fun j => (congrArg (val_main_v17 (F := Ideal) x0 x1 x2) (lift_mid _ t e j)).trans (onehot_apply x0 x1 x2 t j e)

theorem total_apply (i : S1x64.Idx) (e : Fin 64) (hi : i = ix2 (0 : Fin 1) e) :
    val_main_v23 (F := Ideal) x0 x1 x2 i = BitVec.ofNat 32 (total (biased x0 x1 x2) e) := by
  subst hi
  rw [val_main_v23_apply]
  refine (congrArg (val_main_v22 (F := Ideal) x0 x1 x2) (show idx_main_v23 (ix2 (0 : Fin 1) e) = ix1 e from funext fun a => match a with | ⟨0, _⟩ => rfl)).trans ?_
  unfold val_main_v22
  exact column_sum _ _ (fun t e => hits_apply x0 x1 x2 t e) _ _ (fun p => val_main_c_3_apply p) _ (by decide) e

theorem earlier_apply (t : Fin 34816) (e : Fin 64) :
    val_main_v20 (F := Ideal) x0 x1 x2 (ix2 t e) = BitVec.ofNat 32 (earlier (biased x0 x1 x2) t e) := by
  rw [val_main_v20_apply]
  unfold val_main_v19
  rw [Routing.cumsum_rows_sum (by decide) _ _ (by rw [val_main_call2_call0_v0_apply, val_main_call2_call0_c_apply])]
  refine (Routing.prefix_sub_last (fun t' => val_main_v18 (F := Ideal) x0 x1 x2 (ix2 t' e)) t).trans ?_
  refine sum_ofNat Finset.univ _ _ fun t' => ?_
  split
  · exact hits_apply x0 x1 x2 t' e
  · rfl

theorem ranks_apply (t : Fin 34816) (j : Fin 8) :
    val_main_v21 (F := Ideal) x0 x1 x2 (ix2 t j)
      = BitVec.ofNat 32 (earlier (biased x0 x1 x2) t (choice (biased x0 x1 x2 t) j)) := by
  rw [val_main_v21_apply, inside']
  unfold val_main_call3_v13
  refine Eq.trans (if_pos rfl) ?_
  exact (take_apply _ _ t j _ (starts_apply' x0 x1 x2 t j 0)).trans (earlier_apply x0 x1 x2 t _)

theorem counts_apply (e : Fin 64) :
    (val_main_v24 (F := Ideal) x0 x1 x2 (ix2 (0 : Fin 1) e) : EReal) = ((total (biased x0 x1 x2) e : ℕ) : ℝ) := by
  rw [val_main_v24_apply, total_apply x0 x1 x2 _ e rfl]
  have h := total_le (biased x0 x1 x2) e
  show (((BitVec.ofNat 32 (total (biased x0 x1 x2) e)).toInt : ℝ) : EReal) = _
  have : (BitVec.ofNat 32 (total (biased x0 x1 x2) e)).toInt = ((total (biased x0 x1 x2) e : ℕ) : ℤ) := by
    rw [BitVec.toInt_ofNat', Int.bmod_eq_of_le (by omega) (by omega)]
  rw [this, Int.cast_natCast]

end

end Cert.RouteRefIdeal.Counts
-- ==== Proof.RouteScores.lean ====
/- The kernel's scores and the reference's: the same logistic of the same product. The kernel splits each factor into a high and a low
   part; of a finite number the low part is zero, so the three products it adds are one. -/
module

public import proofs.«01_k».proof.Proof.RouteRows
public import proofs.«01_k».proof.Proof.RouteReference

@[expose] public section

set_option maxRecDepth 16384

noncomputable section

namespace Cert.RouteIdeal.Rounds

open Cert.RouteIdeal Cert.RouteIdeal.Gen Cert.RouteIdeal.Order
open Idealize.ShloMosaic Idealize.ShloMosaic.TcCoe Idealize.SL.Sem Idealize.ShloMosaic.ValueIdx
open scoped BigOperators

/-- Neither infinity. -/
def Finite (a : EReal) : Prop := a ≠ ⊤ ∧ a ≠ ⊥

theorem low_part {a : EReal} (h : Finite a) : a - a = 0 := EReal.sub_self h.1 h.2

theorem product_apply (x : FVec Ideal S512x1024 .bf16) (w : FVec Ideal S1024x64 .bf16) (r : Fin 512) (e : Fin 64) :
    (matmul dot_S512x1024_S1024x64_S512x64_1_0_0_1_n_n none x w (constant (F := Ideal) S512x64 .f32 0x00000000#32) (ix2 r e) : EReal)
      = ∑ k : Fin 1024, (x (ix2 r k) * w (ix2 k e) : EReal) := by
  refine (Ideal.matmul_plain_apply none _ _ _ r e).trans ?_
  rw [show constant (F := Ideal) S512x64 .f32 0x00000000#32 (ix2 r e) = 0 from ofBits_zero, zero_add]

theorem pay3_apply (x : FVec Ideal S512x1024 .f32) (w : FVec Ideal S1024x64 .f32) (hx : ∀ i, Finite (x i)) (hw : ∀ i, Finite (w i))
    (r : Fin 512) (e : Fin 64) :
    (k0_pay3 (F := Ideal) x w (ix2 r e) : EReal) = Ideal.logistic (∑ k : Fin 1024, (x (ix2 r k) * w (ix2 k e) : EReal)) := by
  have h2 := product_apply x (fun i => (w i : EReal) - w i) r e
  have h3 := product_apply (fun i => (x i : EReal) - x i) w r e
  refine congrArg Ideal.logistic ?_
  refine (congrArg₂ (fun a b : EReal => a + b) (product_apply x w r e) (congrArg₂ (fun a b : EReal => a + b) h2 h3)).trans ?_
  have z2 : (∑ k : Fin 1024, ((x (ix2 r k) : EReal) * ((w (ix2 k e) : EReal) - w (ix2 k e)))) = 0 :=
    Finset.sum_eq_zero fun k _ => by rw [low_part (hw _), mul_zero]
  have z3 : (∑ k : Fin 1024, (((x (ix2 r k) : EReal) - x (ix2 r k)) * (w (ix2 k e) : EReal))) = 0 :=
    Finset.sum_eq_zero fun k _ => by rw [low_part (hx _), zero_mul]
  refine (congrArg (fun q : EReal => (∑ k : Fin 1024, (x (ix2 r k) * w (ix2 k e) : EReal)) + q)
    (congrArg₂ (fun a b : EReal => a + b) z2 z3)).trans ?_
  simp

theorem pay4_apply (x : FVec Ideal S512x1024 .f32) (w : FVec Ideal S1024x64 .f32) (b : FVec Ideal S1x64 .f32) (r : Fin 512) (e : Fin 64) :
    (k0_pay4 (F := Ideal) x w b (ix2 r e) : EReal) = (k0_pay3 (F := Ideal) x w (ix2 r e) : EReal) + b (ix2 (0 : Fin 1) e) := by
  refine congrArg (fun q : EReal => (k0_pay3 (F := Ideal) x w (ix2 r e) : EReal) + q) ?_
  refine (broadcastTo_1b_ab_apply _ _ r e).trans ?_
  exact congrFun (shapeCast_self _ _) _

theorem logistic_ne_bot (a : EReal) : Ideal.logistic a ≠ ⊥ := by
  induction a using EReal.rec with
  | bot => simp
  | coe r => rw [Ideal.logistic_coe]; exact EReal.coe_ne_bot _
  | top => rw [Ideal.logistic_top, ← EReal.coe_one]; exact EReal.coe_ne_bot _

end Cert.RouteIdeal.Rounds

namespace Cert.RouteRefIdeal.Counts

open Cert.RouteRefIdeal Cert.RouteRefIdeal.Gen Cert.RouteRefIdeal.Read
open Idealize.ShloMosaic Idealize.ShloMosaic.TcCoe Idealize.SL.Sem Idealize.ShloMosaic.ValueIdx
open scoped BigOperators

variable (x0 : (⟨S34816x1024, .f32⟩ : BufTy).Contents (Elt Ideal)) (x1 : (⟨S1024x64, .f32⟩ : BufTy).Contents (Elt Ideal))
  (x2 : (⟨S64, .f32⟩ : BufTy).Contents (Elt Ideal))

theorem ofBits_one : (Scalar.ofBits (F := Ideal) .f32 0x3F800000#32 : EReal) = 1 := by
  show Ideal.ofBits .f32 0x3F800000#32 = 1
  simp [Ideal.ofBits, Ideal.ieee, -EReal.coe_mul]
  norm_num

theorem score_eq (t : Fin 34816) (e : Fin 64) :
    score x0 x1 t e = Ideal.logistic (∑ k : Fin 1024, ((x0 (ix2 t k) : EReal) * (x1 (ix2 k e) : EReal))) := by
  have hd : (val_main_v0 (F := Ideal) x0 x1 (ix2 t e) : EReal) = ∑ k : Fin 1024, ((x0 (ix2 t k) : EReal) * (x1 (ix2 k e) : EReal)) := by
    refine (val_main_v0_apply x0 x1 (ix2 t e)).trans (Finset.sum_congr rfl fun k _ => ?_)
    refine congrArg₂ (fun a b : EReal => a * b) (congrArg x0 ?_) (congrArg x1 ?_)
    · funext a
      match a with
      | ⟨0, _⟩ => rfl
      | ⟨1, _⟩ => rfl
    · funext a
      match a with
      | ⟨0, _⟩ => rfl
      | ⟨1, _⟩ => rfl
  unfold score
  rw [val_main_v6_apply, val_main_v5_apply, val_main_cst_0_apply, val_main_v4_apply, val_main_v3_apply, val_main_cst_apply,
    val_main_v2_apply, val_main_v1_apply]
  refine Eq.trans ?_ (congrArg Ideal.logistic hd)
  exact congrArg₂ (fun p q : EReal => Ideal.div p (q + Ideal.exp (-(val_main_v0 (F := Ideal) x0 x1 (ix2 t e) : EReal)))) ofBits_one ofBits_one

theorem biased_eq (t : Fin 34816) (e : Fin 64) : biased x0 x1 x2 t e = score x0 x1 t e + (x2 (ix1 e) : EReal) := by
  unfold biased
  rw [val_main_v9_apply, val_main_v8_apply, val_main_v7_apply]
  refine congrArg (fun q : EReal => score x0 x1 t e + q) (congrArg x2 ?_)
  funext a
  match a with
  | ⟨0, _⟩ => rfl

end Cert.RouteRefIdeal.Counts
-- ==== Proof.RouteBlocksNext.lean ====
/- The same four blocks at the later points of the grid, where the running counts are those the point before left. -/
module

public import proofs.«01_k».proof.Proof.RouteBlocks

@[expose] public section

set_option maxRecDepth 16384

noncomputable section

namespace Cert.RouteIdeal.Rounds

open Cert.RouteIdeal Cert.RouteIdeal.Gen
open Idealize.ShloMosaic Idealize.ShloMosaic.TcCoe Idealize.SL.Sem Idealize.ShloMosaic.ValueIdx

variable (c : Dev nD) (i : grid0.Coords) (arg1 : Memref sig .tc .vmem S512x1024 .f32) (harg1 : arg1.IsWhole) (arg2 : Memref sig .tc .vmem S1024x64 .f32) (harg2 : arg2.IsWhole) (arg3 : Memref sig .tc .vmem S1x64 .f32) (harg3 : arg3.IsWhole) (arg4 : Memref sig .tc .vmem S512x8 .i32) (harg4 : arg4.IsWhole) (arg5 : Memref sig .tc .vmem S512x8 .i32) (harg5 : arg5.IsWhole) (arg6 : Memref sig .tc .vmem S512x8 .f32) (harg6 : arg6.IsWhole) (arg7 : Memref sig .tc .vmem S1x64 .f32) (harg7 : arg7.IsWhole) (arg8 : Memref sig .tc .vmem S1x64 .f32) (harg8 : arg8.IsWhole)
  (x0 : Vec Ideal S512x1024 .f32) (x1 : Vec Ideal S1024x64 .f32) (x2 : Vec Ideal S1x64 .f32)

set_option maxHeartbeats 800000 in
theorem out0_B_3_eq (hc : ¬ cond0_0 i) (xs0 : Vec Ideal S1x64 .f32) :
    out0_B_3 c i arg1 harg1 arg2 harg2 arg3 harg3 arg4 harg4 arg5 harg5 arg6 harg6 arg7 harg7 arg8 harg8 hc x0 x1 x2 xs0
      = chosen (k0_pay4 (F := Ideal) x0 x1 x2) := by
  unfold out0_B_3
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, v23_B, v24_B, load_x, load_w, load_b, pay8_eq, pay9_eq, pay10_eq, pay13_eq, pay14_eq, pay15_eq, pay16_eq, pay17_eq, pay18_eq, pay20_eq, pay21_eq, pay22_eq, pay23_eq, pay25_eq, pay26_eq, pay27_eq, pay30_eq, pay31_eq, pay32_eq, pay33_eq, pay34_eq, pay35_eq, pay36_eq, pay38_eq, pay40_eq, pay41_eq, pay42_eq, pay43_eq, pay45_eq, pay46_eq, pay47_eq, pay48_eq, pay49_eq, pay51_eq, pay52_eq, pay54_eq]
  simp only [chosen, ranks, gates, shares, counts, taken, columns, after]

set_option maxHeartbeats 800000 in
theorem out0_B_4_eq (hc : ¬ cond0_0 i) (xs0 : Vec Ideal S1x64 .f32) :
    out0_B_4 c i arg1 harg1 arg2 harg2 arg3 harg3 arg4 harg4 arg5 harg5 arg6 harg6 arg7 harg7 arg8 harg8 hc x0 x1 x2 xs0
      = ranks (k0_pay4 (F := Ideal) x0 x1 x2) xs0 := by
  unfold out0_B_4
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, v23_B, v24_B, load_x, load_w, load_b, pay8_eq, pay9_eq, pay10_eq, pay13_eq, pay14_eq, pay15_eq, pay16_eq, pay17_eq, pay18_eq, pay20_eq, pay21_eq, pay22_eq, pay23_eq, pay25_eq, pay26_eq, pay27_eq, pay30_eq, pay31_eq, pay32_eq, pay33_eq, pay34_eq, pay35_eq, pay36_eq, pay38_eq, pay40_eq, pay41_eq, pay42_eq, pay43_eq, pay45_eq, pay46_eq, pay47_eq, pay48_eq, pay49_eq, pay51_eq, pay52_eq, pay54_eq]
  simp only [chosen, ranks, gates, shares, counts, taken, columns, after]

set_option maxHeartbeats 800000 in
theorem out0_B_5_eq (hc : ¬ cond0_0 i) (xs0 : Vec Ideal S1x64 .f32) :
    out0_B_5 c i arg1 harg1 arg2 harg2 arg3 harg3 arg4 harg4 arg5 harg5 arg6 harg6 arg7 harg7 arg8 harg8 hc x0 x1 x2 xs0
      = gates (k0_pay4 (F := Ideal) x0 x1 x2) (k0_pay3 (F := Ideal) x0 x1) := by
  unfold out0_B_5
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, v23_B, v24_B, load_x, load_w, load_b, pay8_eq, pay9_eq, pay10_eq, pay13_eq, pay14_eq, pay15_eq, pay16_eq, pay17_eq, pay18_eq, pay20_eq, pay21_eq, pay22_eq, pay23_eq, pay25_eq, pay26_eq, pay27_eq, pay30_eq, pay31_eq, pay32_eq, pay33_eq, pay34_eq, pay35_eq, pay36_eq, pay38_eq, pay40_eq, pay41_eq, pay42_eq, pay43_eq, pay45_eq, pay46_eq, pay47_eq, pay48_eq, pay49_eq, pay51_eq, pay52_eq, pay54_eq]
  simp only [chosen, ranks, gates, shares, counts, taken, columns, after]

set_option maxHeartbeats 800000 in
theorem out0_B_6_eq (hc : ¬ cond0_0 i) (xs0 : Vec Ideal S1x64 .f32) :
    out0_B_6 c i arg1 harg1 arg2 harg2 arg3 harg3 arg4 harg4 arg5 harg5 arg6 harg6 arg7 harg7 arg8 harg8 hc x0 x1 x2 xs0
      = counts (k0_pay4 (F := Ideal) x0 x1 x2) xs0 := by
  unfold out0_B_6
  refine (View.read_writes_full _ _ _ _ _).trans ?_
  simp only [kernelRun0_B.sl.v366, kernelRun0_B.sl.HS0_1, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, v23_B, v24_B, load_x, load_w, load_b, pay8_eq, pay9_eq, pay10_eq, pay13_eq, pay14_eq, pay15_eq, pay16_eq, pay17_eq, pay18_eq, pay20_eq, pay21_eq, pay22_eq, pay23_eq, pay25_eq, pay26_eq, pay27_eq, pay30_eq, pay31_eq, pay32_eq, pay33_eq, pay34_eq, pay35_eq, pay36_eq, pay38_eq, pay40_eq, pay41_eq, pay42_eq, pay43_eq, pay45_eq, pay46_eq, pay47_eq, pay48_eq, pay49_eq, pay51_eq, pay52_eq, pay54_eq]
  simp only [chosen, ranks, gates, shares, counts, taken, columns, after]
  exact load_last _ _ _

set_option maxHeartbeats 800000 in
theorem sout0_B_0_eq (hc : ¬ cond0_0 i) (xs0 : Vec Ideal S1x64 .f32) :
    sout0_B_0 c i arg1 harg1 arg2 harg2 arg3 harg3 arg4 harg4 arg5 harg5 arg6 harg6 arg7 harg7 arg8 harg8 hc x0 x1 x2 xs0
      = counts (k0_pay4 (F := Ideal) x0 x1 x2) xs0 := by
  unfold sout0_B_0
  refine (View.read_writes_full _ _ _ _ _).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, v23_B, v24_B, load_x, load_w, load_b, pay8_eq, pay9_eq, pay10_eq, pay13_eq, pay14_eq, pay15_eq, pay16_eq, pay17_eq, pay18_eq, pay20_eq, pay21_eq, pay22_eq, pay23_eq, pay25_eq, pay26_eq, pay27_eq, pay30_eq, pay31_eq, pay32_eq, pay33_eq, pay34_eq, pay35_eq, pay36_eq, pay38_eq, pay40_eq, pay41_eq, pay42_eq, pay43_eq, pay45_eq, pay46_eq, pay47_eq, pay48_eq, pay49_eq, pay51_eq, pay52_eq, pay54_eq]
  simp only [chosen, ranks, gates, shares, counts, taken, columns, after]

end Cert.RouteIdeal.Rounds
-- ==== Proof.RoutePoints.lean ====
/- The kernel's grid points: point `t` reads tokens `512 t` to `512 t + 511`, stores their experts, ranks and gates, and hands on the
   number of choices of each expert so far. -/
module

public import proofs.«01_k».proof.Proof.RouteChoice
public import proofs.«01_k».proof.Proof.RouteScores
public import proofs.«01_k».proof.Proof.RouteBlocks
public import proofs.«01_k».proof.Proof.RouteBlocksNext
public import proofs.«01_k».proof.Proof.Gen.RouteIdeal.Value

@[expose] public section

set_option maxRecDepth 16384

noncomputable section

namespace Cert.RouteIdeal.Points

open Cert.RouteIdeal Cert.RouteIdeal.Gen Cert.RouteIdeal.Order Cert.RouteIdeal.Spec Cert.RouteIdeal.Rounds
open Cert.RouteRefIdeal.Counts (score biased)
open Idealize.ShloMosaic Idealize.ShloMosaic.TcCoe Idealize.SL.Sem Idealize.ShloMosaic.ValueIdx
open scoped BigOperators

variable (m : (ℓ : Loc nD τ sig) → Buf (Elt Ideal) ℓ)

/-- A launch's three argument arrays. -/
def tokens (c : Dev nD) : S34816x1024.Idx → EReal := m ((c : Thread nD τ).loc main_arg0)
def weight (c : Dev nD) : S1024x64.Idx → EReal := m ((c : Thread nD τ).loc main_arg1)
def bias (c : Dev nD) : S64.Idx → EReal := m ((c : Thread nD τ).loc main_arg2)

/-- The token of a point's row. -/
def token (t : Fin cfg0.N) (r : Fin 512) : Fin 34816 :=
  ⟨512 * t.val + r.val, by have h := lt_of_lt_of_eq t.isLt N_0; have := r.isLt; omega⟩

theorem coord_val : ∀ t : Fin grid0.N, (grid0.coords t 0).val = t.val := by decide

theorem row_word (i : grid0.Coords) : (BitVec.ofNat 32 (i 0).val).toNat = (i 0).val := by
  have : (i 0).val < 68 := (i 0).isLt
  rw [BitVec.toNat_ofNat]; omega

theorem tokens_read (c : Dev nD) (t : Fin cfg0.N) (r : Fin 512) (k : Fin 1024) :
    (iblk m c 0 t : S512x1024.Idx → EReal) (ix2 r k) = tokens m c (ix2 (token t r) k) := by
  have hV : (iblk m c 0 t : S512x1024.Idx → EReal) (ix2 r k)
      = (((cfg0.win 0).blk t).view.read (Elt Ideal) (m ((c : Thread nD τ).loc main_arg0)) : S512x1024.Idx → EReal) (ix2 r k) :=
    congrArg (fun B : Buf (Elt Ideal) ((c : Thread nD τ).loc main_arg0) =>
      (((cfg0.win 0).blk t).view.read (Elt Ideal) B : S512x1024.Idx → EReal) (ix2 r k)) (V_main_arg0 m c)
  refine hV.trans (congrArg (tokens m c) (funext fun a => Fin.ext ?_))
  match a with
  | ⟨0, _⟩ =>
    refine ((cfg0.win 0).rect_emb_val t (ix2 r k) (0 : Fin 2)).trans ?_
    refine (congrArg (fun n => n * 512 + r.val) ((row_word (grid0.coords t)).trans (coord_val t))).trans ?_
    exact congrArg (· + r.val) (Nat.mul_comm t.val 512)
  | ⟨1, _⟩ =>
    refine ((cfg0.win 0).rect_emb_val t (ix2 r k) (1 : Fin 2)).trans ?_
    show 0 * 1024 + k.val = k.val
    omega

theorem weight_read (c : Dev nD) (t : Fin cfg0.N) (k : Fin 1024) (e : Fin 64) :
    (iblk m c 1 t : S1024x64.Idx → EReal) (ix2 k e) = weight m c (ix2 k e) := by
  have hV : (iblk m c 1 t : S1024x64.Idx → EReal) (ix2 k e)
      = (((cfg0.win 1).blk t).view.read (Elt Ideal) (m ((c : Thread nD τ).loc main_arg1)) : S1024x64.Idx → EReal) (ix2 k e) :=
    congrArg (fun B : Buf (Elt Ideal) ((c : Thread nD τ).loc main_arg1) =>
      (((cfg0.win 1).blk t).view.read (Elt Ideal) B : S1024x64.Idx → EReal) (ix2 k e)) (V_main_arg1 m c)
  refine hV.trans (congrArg (weight m c) (funext fun a => Fin.ext ?_))
  match a with
  | ⟨0, _⟩ =>
    refine ((cfg0.win 1).rect_emb_val t (ix2 k e) (0 : Fin 2)).trans ?_
    show 0 * 1024 + k.val = k.val
    omega
  | ⟨1, _⟩ =>
    refine ((cfg0.win 1).rect_emb_val t (ix2 k e) (1 : Fin 2)).trans ?_
    show 0 * 64 + e.val = e.val
    omega

/-- The bias as the row the region finds. -/
theorem V_bias (c : Dev nD) : (V m c main_v0 : S1x64.Idx → EReal) = shapeCast S1x64 (bias m c) shapeCasts_S64_S1x64 := by
  show (StableHlo.after hostOps0 (fun b => m (c, b)) (Proc.devRef .tc main_v0) : S1x64.Idx → EReal) = _
  rw [StableHlo.after_cons, StableHlo.after_nil]
  exact StableHlo.reshape_result main_arg2 main_v0 _ _ _ _ _

theorem bias_read (c : Dev nD) (t : Fin cfg0.N) (e : Fin 64) :
    (iblk m c 2 t : S1x64.Idx → EReal) (ix2 (0 : Fin 1) e) = bias m c (ix1 e) := by
  have hV : (iblk m c 2 t : S1x64.Idx → EReal) (ix2 (0 : Fin 1) e) = (V m c main_v0 : S1x64.Idx → EReal) (ix2 (0 : Fin 1) e) := by
    refine congrArg (V m c main_v0 : S1x64.Idx → EReal) (funext fun a => Fin.ext ?_)
    match a with
    | ⟨0, _⟩ =>
      refine ((cfg0.win 2).rect_emb_val t (ix2 (0 : Fin 1) e) (0 : Fin 2)).trans ?_
      show 0 * 1 + 0 = 0
      omega
    | ⟨1, _⟩ =>
      refine ((cfg0.win 2).rect_emb_val t (ix2 (0 : Fin 1) e) (1 : Fin 2)).trans ?_
      show 0 * 64 + e.val = e.val
      omega
  rw [hV, V_bias]
  exact shapeCast_a_1a_apply _ _ 0 e

/-- A launch with finite rows and weights, and no bias of minus infinity. -/
structure FiniteAt (c : Dev nD) : Prop where
  tokens : ∀ i, Finite (tokens m c i)
  weight : ∀ i, Finite (weight m c i)
  bias : ∀ i, bias m c i ≠ ⊥

/-- The launch's scores and biased scores. -/
def plain (c : Dev nD) (t : Fin 34816) (e : Fin 64) : EReal := score (tokens m c) (weight m c) t e
def tilted (c : Dev nD) (t : Fin 34816) (e : Fin 64) : EReal := biased (tokens m c) (weight m c) (bias m c) t e

/-- A point's block of biased scores and of scores. -/
def tiltedBlock (c : Dev nD) (t : Fin cfg0.N) : FVec Ideal S512x64 .f32 := k0_pay4 (F := Ideal) (iblk m c 0 t) (iblk m c 1 t) (iblk m c 2 t)
def plainBlock (c : Dev nD) (t : Fin cfg0.N) : FVec Ideal S512x64 .f32 := k0_pay3 (F := Ideal) (iblk m c 0 t) (iblk m c 1 t)

theorem plain_read (c : Dev nD) (hf : FiniteAt m c) (t : Fin cfg0.N) (r : Fin 512) (e : Fin 64) :
    (plainBlock m c t (ix2 r e) : EReal) = plain m c (token t r) e := by
  refine (pay3_apply (iblk m c 0 t) (iblk m c 1 t) (fun i => ?_) (fun i => ?_) r e).trans
    (Eq.trans ?_ (Cert.RouteRefIdeal.Counts.score_eq (tokens m c) (weight m c) (token t r) e).symm)
  · rw [show i = ix2 (i 0) (i 1) from eq_ix2 i]
    exact (tokens_read m c t (i 0) (i 1)).symm ▸ hf.tokens _
  · rw [show i = ix2 (i 0) (i 1) from eq_ix2 i]
    exact (weight_read m c t (i 0) (i 1)).symm ▸ hf.weight _
  · exact congrArg Ideal.logistic (Finset.sum_congr rfl fun k _ =>
      congrArg₂ (fun p q : EReal => p * q) (tokens_read m c t r k) (weight_read m c t k e))

theorem tilted_read (c : Dev nD) (hf : FiniteAt m c) (t : Fin cfg0.N) (r : Fin 512) (e : Fin 64) :
    (tiltedBlock m c t (ix2 r e) : EReal) = tilted m c (token t r) e := by
  refine (pay4_apply (iblk m c 0 t) (iblk m c 1 t) (iblk m c 2 t) r e).trans
    (Eq.trans ?_ (Cert.RouteRefIdeal.Counts.biased_eq (tokens m c) (weight m c) (bias m c) (token t r) e).symm)
  exact congrArg₂ (fun p q : EReal => p + q) (plain_read m c hf t r e) (bias_read m c t e)

theorem tilted_row (c : Dev nD) (hf : FiniteAt m c) (t : Fin cfg0.N) (r : Fin 512) : row (tiltedBlock m c t) r = tilted m c (token t r) :=
  funext fun e => tilted_read m c hf t r e

theorem plain_row (c : Dev nD) (hf : FiniteAt m c) (t : Fin cfg0.N) (r : Fin 512) : row (plainBlock m c t) r = plain m c (token t r) :=
  funext fun e => plain_read m c hf t r e

theorem tilted_ne_bot (c : Dev nD) (hf : FiniteAt m c) (t : Fin 34816) (e : Fin 64) : tilted m c t e ≠ ⊥ := by
  unfold tilted
  rw [Cert.RouteRefIdeal.Counts.biased_eq, Cert.RouteRefIdeal.Counts.score_eq]
  intro h
  rcases EReal.add_eq_bot_iff.1 h with h | h
  · exact logistic_ne_bot _ h
  · exact hf.bias _ h

theorem block_ne_bot (c : Dev nD) (hf : FiniteAt m c) (t : Fin cfg0.N) (r : Fin 512) (e : Fin 64) : row (tiltedBlock m c t) r e ≠ ⊥ := by
  rw [tilted_row m c hf]
  exact tilted_ne_bot m c hf _ _

/-! ## What a point stores -/

/-- The counts a point finds. -/
def found (c : Dev nD) (t : Fin cfg0.N) : FVec Ideal S1x64 .f32 :=
  if t.val % 68 = 0 then k0_pay2 (F := Ideal)
  else (outsAt0 m c (t.val - 1) (Nat.lt_of_le_of_lt (Nat.sub_le _ _) t.isLt)).2.2.2.2

theorem outs_eq (c : Dev nD) (t : Fin cfg0.N) : outsAt0 m c t.val t.isLt
    = (chosen (tiltedBlock m c t), ranks (tiltedBlock m c t) (found m c t), gates (tiltedBlock m c t) (plainBlock m c t),
        counts (tiltedBlock m c t) (found m c t), counts (tiltedBlock m c t) (found m c t)) := by
  unfold found
  by_cases h0 : t.val % 68 = 0
  · rw [outsAt0_A m c t h0, out0_A_3_eq, out0_A_4_eq, out0_A_5_eq, out0_A_6_eq, sout0_A_0_eq, if_pos h0]
    rfl
  · rw [outsAt0_B m c t h0, out0_B_3_eq, out0_B_4_eq, out0_B_5_eq, out0_B_6_eq, sout0_B_0_eq, if_neg h0]
    rfl

/-- The choices of expert `e` by the first `n` tokens. -/
def sofar (c : Dev nD) (e : Fin 64) (n : ℕ) : ℕ := below (fun t => hits (tilted m c t) e) n

theorem sofar_add (c : Dev nD) (hf : FiniteAt m c) (t : Fin cfg0.N) (e : Fin 64) (s : ℕ) (hs : s ≤ 512) :
    sofar m c e (512 * t.val + s)
      = sofar m c e (512 * t.val) + below (fun k : Fin 512 => hits (row (tiltedBlock m c t) k) e) s := by
  have ht := lt_of_lt_of_eq t.isLt N_0
  unfold sofar
  rw [below_add (N := 512) _ _ s (by omega) hs]
  refine congrArg (fun f : Fin 512 → ℕ => below (fun t => hits (tilted m c t) e) (512 * t.val) + below f s) (funext fun k => ?_)
  rw [tilted_row m c hf]
  rfl

theorem found_eq (c : Dev nD) (hf : FiniteAt m c) : ∀ (n : ℕ) (hn : n < cfg0.N) (e : Fin 64),
    (found m c ⟨n, hn⟩ (ix2 (0 : Fin 1) e) : EReal) = ((sofar m c e (512 * n) : ℕ) : EReal) := by
  intro n
  induction n with
  | zero =>
    intro hn e
    have h : found m c ⟨0, hn⟩ = k0_pay2 (F := Ideal) := if_pos rfl
    rw [h, Nat.mul_zero]
    unfold sofar
    rw [below_zero, Nat.cast_zero]
    exact ofBits_zero
  | succ n ih =>
    intro hn e
    have hN := lt_of_lt_of_eq hn N_0
    have hn' : n < cfg0.N := Nat.lt_of_succ_lt hn
    have h : found m c ⟨n + 1, hn⟩ = (outsAt0 m c n hn').2.2.2.2 := if_neg (show ¬ (n + 1) % 68 = 0 by omega)
    have h2 : (outsAt0 m c n hn').2.2.2.2 = counts (tiltedBlock m c ⟨n, hn'⟩) (found m c ⟨n, hn'⟩) :=
      congrArg (fun p => p.2.2.2.2) (outs_eq m c ⟨n, hn'⟩)
    rw [h, h2, counts_eq _ (block_ne_bot m c hf _) _ e _ (ih hn' e)]
    exact congrArg (Nat.cast (R := EReal)) (sofar_add m c hf ⟨n, hn'⟩ e 512 le_rfl).symm

theorem sofar_le (c : Dev nD) (e : Fin 64) (n : ℕ) : sofar m c e n ≤ 34816 :=
  below_le _ (fun _ => hits_le _ _) _

/-! ## The four stored blocks -/

variable (c : Dev nD) (hf : FiniteAt m c) (t : Fin cfg0.N)

include hf

theorem experts_stored (r : Fin 512) (j : Fin 8) :
    (outsAt0 m c t.val t.isLt).1 (ix2 r j) = BitVec.ofNat 32 (choice (tilted m c (token t r)) j).val := by
  rw [outs_eq, ← tilted_row m c hf]
  exact chosen_apply _ r (block_ne_bot m c hf t r) j

theorem ranks_stored (r : Fin 512) (j : Fin 8) : (outsAt0 m c t.val t.isLt).2.1 (ix2 r j)
    = BitVec.ofNat 32 (earlier (tilted m c) (token t r) (choice (tilted m c (token t r)) j)) := by
  rw [outs_eq]
  refine (ranks_eq _ (block_ne_bot m c hf t) _ r j (fun e => sofar m c e (512 * t.val)) (found_eq m c hf t.val t.isLt)
    (fun e => lt_of_le_of_lt (sofar_le m c e _) (by norm_num))).trans ?_
  refine congrArg (BitVec.ofNat 32) ?_
  refine (sofar_add m c hf t _ r.val r.isLt.le).symm.trans ?_
  rw [tilted_row m c hf]
  rfl

theorem gates_stored (r : Fin 512) (j : Fin 8) : ((outsAt0 m c t.val t.isLt).2.2.1 (ix2 r j) : EReal)
    = gate (tilted m c (token t r)) (plain m c (token t r)) j := by
  rw [outs_eq, ← tilted_row m c hf, ← plain_row m c hf]
  exact gates_eq _ _ r (block_ne_bot m c hf t r) j

theorem counts_stored (e : Fin 64) : ((outsAt0 m c t.val t.isLt).2.2.2.1 (ix2 (0 : Fin 1) e) : EReal)
    = ((sofar m c e (512 * (t.val + 1)) : ℕ) : EReal) := by
  rw [outs_eq]
  refine (counts_eq _ (block_ne_bot m c hf t) _ e _ (found_eq m c hf t.val t.isLt e)).trans ?_
  exact congrArg (Nat.cast (R := EReal)) (sofar_add m c hf t e 512 le_rfl).symm

end Cert.RouteIdeal.Points
-- ==== Proof.RouteEquation.lean ====
/- The router: the four arrays the kernel ends with are the reference's, at the ideal floats, for finite rows
   and weights and no bias of minus infinity. -/
module

public import proofs.«01_k».proof.Defs
public import proofs.«01_k».proof.Proof.RoutePoints
public import proofs.«01_k».proof.Proof.Gen.RouteRefIdeal.Run
public import proofs.«01_k».proof.Proof.Gen.Pre_finite_arguments
public import Idealize.ShloMosaic.Lib.ReduceAll

@[expose] public section

set_option maxRecDepth 16384

noncomputable section

namespace Cert.RouteIdeal.Equation

open Cert.RouteIdeal Cert.RouteIdeal.Gen Cert.RouteIdeal.Value Cert.RouteIdeal.Spec Cert.RouteIdeal.Rounds Cert.RouteIdeal.Points
open Idealize.ShloMosaic Idealize.ShloMosaic.TcCoe Idealize.SL.Sem Idealize.ShloMosaic.ValueIdx
open scoped BigOperators

/-! ## The precondition -/

theorem finite_of_less (a : EReal)
    (h : FloatOps.cmpf (F := Ideal) (φ := .f32) .olt (FloatOps.absf (F := Ideal) (φ := .f32) a) (FloatOps.ofBits (F := Ideal) .f32 0x7F800000#32) = 1#1) :
    Finite a := by
  have ht : (FloatOps.ofBits (F := Ideal) .f32 0x7F800000#32 : EReal) = ⊤ := by
    show Ideal.ofBits .f32 0x7F800000#32 = ⊤
    simp [Ideal.ofBits, Ideal.ieee]
  have h' : Ideal.cmp .olt (max a (-a)) (FloatOps.ofBits (F := Ideal) .f32 0x7F800000#32 : EReal) = 1#1 := h
  rw [ht] at h'
  refine ⟨fun e => ?_, fun e => ?_⟩
  · subst e; simp [Ideal.cmp] at h'
  · subst e; simp [Ideal.cmp] at h'

theorem ne_bot_of_more (a : EReal)
    (h : FloatOps.cmpf (F := Ideal) (φ := .f32) .ogt a (FloatOps.ofBits (F := Ideal) .f32 0xFF800000#32) = 1#1) : a ≠ ⊥ := by
  have h' : Ideal.cmp .ogt a (FloatOps.ofBits (F := Ideal) .f32 0xFF800000#32 : EReal) = 1#1 := h
  rw [show (FloatOps.ofBits (F := Ideal) .f32 0xFF800000#32 : EReal) = ⊥ from ofBits_bot] at h'
  intro e
  subst e
  simp [Ideal.cmp] at h'

variable (m : (ℓ : Loc nD τ sig) → Buf (Elt Ideal) ℓ)

theorem finite_of_pre (h : Cert.Pre_RouteIdeal_finite_arguments (hPre_finite_arguments := Cert.Pre_finite_arguments.Gen.facts) m) (c : Dev nD) :
    FiniteAt m c := by
  have h0 := congrFun (h c) (fun a => a.elim0)
  unfold Cert.Pre_finite_arguments.fn at h0
  have h1 := IntOp.andi_eq_one.1 h0
  have h2 := IntOp.andi_eq_one.1 h1.1
  haveI : Subsingleton (Cert.Pre_finite_arguments.S_.Idx) := ⟨fun x y => funext fun a => a.elim0⟩
  exact ⟨fun x => finite_of_less _ (Host.reduce_andi_all _ _ _ _ _ h2.1 x), fun x => finite_of_less _ (Host.reduce_andi_all _ _ _ _ _ h2.2 x),
    fun x => ne_bot_of_more _ (Host.reduce_andi_all _ _ _ _ _ h1.2 x)⟩

/-! ## The kernel's four arrays -/

/-- The point and the row of a token. -/
def point (T : Fin 34816) : Fin cfg0.N := ⟨T.val / 512, lt_of_lt_of_eq (b := 68) (by have := T.isLt; omega) N_0.symm⟩
def place (T : Fin 34816) : Fin 512 := ⟨T.val % 512, Nat.mod_lt _ (by decide)⟩
theorem token_place (T : Fin 34816) : token (point T) (place T) = T := Fin.ext (Nat.div_add_mod T.val 512)

variable (c : Dev nD) (hf : FiniteAt m c)

theorem at3 (T : Fin 34816) (j : Fin 8) : G3 m c (ix2 T j) = (outsAt0 m c (point T).val (point T).isLt).1 (ix2 (place T) j) := by
  have hp : pt3Of (ix2 T j) = (point T).val := by
    show 1 * (T.val / 512 - 0) + 1 * (j.val / 8 - 0) = T.val / 512
    omega
  have hl : loc3Of (ix2 T j) = ix2 (place T) j := by
    funext a
    match a with
    | ⟨0, _⟩ => rfl
    | ⟨1, _⟩ => exact Fin.ext (Nat.mod_eq_of_lt j.isLt)
  refine (dif_pos (lt_of_eq_of_lt hp (point T).isLt)).trans ?_
  rw [outsAt0_sweep, hl]
  exact congrArg (fun p : Vec Ideal S512x8 .i32 × Vec Ideal S512x8 .i32 × Vec Ideal S512x8 .f32 × Vec Ideal S1x64 .f32 × Vec Ideal S1x64 .f32 => p.1 (ix2 (place T) j)) (fold0_congr m c _ _ _ _ hp)

theorem at4 (T : Fin 34816) (j : Fin 8) : G4 m c (ix2 T j) = (outsAt0 m c (point T).val (point T).isLt).2.1 (ix2 (place T) j) := by
  have hp : pt4Of (ix2 T j) = (point T).val := by
    show 1 * (T.val / 512 - 0) + 1 * (j.val / 8 - 0) = T.val / 512
    omega
  have hl : loc4Of (ix2 T j) = ix2 (place T) j := by
    funext a
    match a with
    | ⟨0, _⟩ => rfl
    | ⟨1, _⟩ => exact Fin.ext (Nat.mod_eq_of_lt j.isLt)
  refine (dif_pos (lt_of_eq_of_lt hp (point T).isLt)).trans ?_
  rw [outsAt0_sweep, hl]
  exact congrArg (fun p : Vec Ideal S512x8 .i32 × Vec Ideal S512x8 .i32 × Vec Ideal S512x8 .f32 × Vec Ideal S1x64 .f32 × Vec Ideal S1x64 .f32 => p.2.1 (ix2 (place T) j)) (fold0_congr m c _ _ _ _ hp)

theorem at5 (T : Fin 34816) (j : Fin 8) : G5 m c (ix2 T j) = (outsAt0 m c (point T).val (point T).isLt).2.2.1 (ix2 (place T) j) := by
  have hp : pt5Of (ix2 T j) = (point T).val := by
    show 1 * (T.val / 512 - 0) + 1 * (j.val / 8 - 0) = T.val / 512
    omega
  have hl : loc5Of (ix2 T j) = ix2 (place T) j := by
    funext a
    match a with
    | ⟨0, _⟩ => rfl
    | ⟨1, _⟩ => exact Fin.ext (Nat.mod_eq_of_lt j.isLt)
  refine (dif_pos (lt_of_eq_of_lt hp (point T).isLt)).trans ?_
  rw [outsAt0_sweep, hl]
  exact congrArg (fun p : Vec Ideal S512x8 .i32 × Vec Ideal S512x8 .i32 × Vec Ideal S512x8 .f32 × Vec Ideal S1x64 .f32 × Vec Ideal S1x64 .f32 => p.2.2.1 (ix2 (place T) j)) (fold0_congr m c _ _ _ _ hp)

theorem at6 (e : Fin 64) (n : ℕ) (h : n < cfg0.N) (hn : n = 67) :
    G6 m c (ix2 (0 : Fin 1) e) = (outsAt0 m c n h).2.2.2.1 (ix2 (0 : Fin 1) e) := by
  rw [outsAt0_sweep]
  refine (congrFun (G6_last m c) (ix2 (0 : Fin 1) e)).trans ?_
  exact congrArg (fun p : Vec Ideal S512x8 .i32 × Vec Ideal S512x8 .i32 × Vec Ideal S512x8 .f32 × Vec Ideal S1x64 .f32 × Vec Ideal S1x64 .f32 =>
    p.2.2.2.1 (ix2 (0 : Fin 1) e)) (fold0_congr m c _ _ _ _ hn.symm)

include hf

theorem kernel_experts (T : Fin 34816) (j : Fin 8) : G3 m c (ix2 T j) = BitVec.ofNat 32 (choice (tilted m c T) j).val := by
  rw [at3]
  refine (experts_stored m c hf (point T) (place T) j).trans ?_
  rw [token_place]

theorem kernel_ranks (T : Fin 34816) (j : Fin 8) :
    G4 m c (ix2 T j) = BitVec.ofNat 32 (earlier (tilted m c) T (choice (tilted m c T) j)) := by
  rw [at4]
  refine (ranks_stored m c hf (point T) (place T) j).trans ?_
  rw [token_place]

theorem kernel_gates (T : Fin 34816) (j : Fin 8) : (G5 m c (ix2 T j) : EReal) = gate (tilted m c T) (plain m c T) j := by
  rw [at5]
  refine (gates_stored m c hf (point T) (place T) j).trans ?_
  rw [token_place]

theorem kernel_counts (e : Fin 64) : (G6 m c (ix2 (0 : Fin 1) e) : EReal) = (((total (tilted m c) e : ℕ) : ℝ) : EReal) := by
  have h : 67 < cfg0.N := lt_of_lt_of_eq (by decide) N_0.symm
  obtain ⟨n, hn⟩ : ∃ n : ℕ, n = 67 := ⟨67, rfl⟩
  have hN : n < cfg0.N := lt_of_eq_of_lt hn h
  refine (at6 m c e n hN hn).trans ((counts_stored m c hf ⟨n, hN⟩ e).trans ?_)
  rw [total_eq]
  unfold sofar
  rw [show 512 * (n + 1) = 34816 by omega]
  rfl

end Cert.RouteIdeal.Equation

namespace Cert.RouteIdeal.Equation

open Cert.RouteIdeal Cert.RouteIdeal.Gen Cert.RouteIdeal.Value Cert.RouteIdeal.Points
open Idealize.ShloMosaic Idealize.ShloMosaic.TcCoe Idealize.SL.Sem Idealize.ShloMosaic.ValueIdx
open Cert.RouteRefIdeal.Read Cert.RouteRefIdeal.Counts

variable (m : (ℓ : Loc nD τ sig) → Buf (Elt Ideal) ℓ) (c : Dev nD) (hf : FiniteAt m c)

include hf

theorem experts_equal : (val_main_indices (F := Ideal) (tokens m c) (weight m c) (bias m c) : S34816x8.Idx → BitVec 32) = G3 m c := by
  funext i
  rw [show i = ix2 (i 0) (i 1) from eq_ix2 i]
  exact (indices_apply (tokens m c) (weight m c) (bias m c) (i 0) (i 1)).trans (kernel_experts m c hf (i 0) (i 1)).symm

theorem ranks_equal : (val_main_v21 (F := Ideal) (tokens m c) (weight m c) (bias m c) : S34816x8.Idx → BitVec 32) = G4 m c := by
  funext i
  rw [show i = ix2 (i 0) (i 1) from eq_ix2 i]
  exact (ranks_apply (tokens m c) (weight m c) (bias m c) (i 0) (i 1)).trans (kernel_ranks m c hf (i 0) (i 1)).symm

theorem gates_equal : (val_main_v16 (F := Ideal) (tokens m c) (weight m c) (bias m c) : S34816x8.Idx → EReal) = G5 m c := by
  funext i
  rw [show i = ix2 (i 0) (i 1) from eq_ix2 i]
  exact (gates_apply (tokens m c) (weight m c) (bias m c) (i 0) (i 1)).trans (kernel_gates m c hf (i 0) (i 1)).symm

theorem counts_equal : (val_main_v24 (F := Ideal) (tokens m c) (weight m c) (bias m c) : S1x64.Idx → EReal) = G6 m c := by
  funext i
  have h0 : i = ix2 (0 : Fin 1) (i 1) := by
    funext a
    match a with
    | ⟨0, _⟩ => exact Subsingleton.elim (α := Fin 1) _ _
    | ⟨1, _⟩ => rfl
  rw [h0]
  exact (counts_apply (tokens m c) (weight m c) (bias m c) (i 1)).trans (kernel_counts m c hf (i 1)).symm

omit hf

/-- The kernel and the reference end with the same four arrays. -/
theorem algebraic : Cert.algebraic_RouteIdeal_RouteRefIdeal_pre_finite_arguments (hRouteIdeal := Cert.RouteIdeal.Gen.facts)
    (hRouteRefIdeal := Cert.RouteRefIdeal.Gen.facts) (hPre_finite_arguments := Cert.Pre_finite_arguments.Gen.facts) := by
  intro m g m' g' hpre hargs
  refine ⟨G3 m, G4 m, G5 m, G6 m, Cert.RouteIdeal.Value.run m g, ?_⟩
  refine (θ_run _ _ _).mono (fun r h c => ⟨((h c).1).trans ?_, ((h c).2.1).trans ?_, ((h c).2.2.1).trans ?_, ((h c).2.2.2.1).trans ?_, (h c).2.2.2.2⟩)
    (Cert.RouteRefIdeal.Value.run m' g')
  · refine (val_main_indices_eq _ _ _).trans ?_
    rw [(hargs c).1, (hargs c).2.1, (hargs c).2.2]
    exact experts_equal m c (finite_of_pre m hpre c)
  · refine (val_main_v21_eq m' c).trans ?_
    rw [(hargs c).1, (hargs c).2.1, (hargs c).2.2]
    exact ranks_equal m c (finite_of_pre m hpre c)
  · refine (val_main_v16_eq m' c).trans ?_
    rw [(hargs c).1, (hargs c).2.1, (hargs c).2.2]
    exact gates_equal m c (finite_of_pre m hpre c)
  · refine (val_main_v24_eq _ _ _).trans ?_
    rw [(hargs c).1, (hargs c).2.1, (hargs c).2.2]
    exact counts_equal m c (finite_of_pre m hpre c)

end Cert.RouteIdeal.Equation
-- ==== Proof.CombineBlock.lean ====
/- What one step of the combine call computes: for each of its 256 tokens, the shared network's row plus the eight
   gathered rows, each times its gate. -/
module

public import proofs.«01_k».proof.Proof.ExpertsBlock
public import proofs.«01_k».proof.Proof.Gen.CombineIdeal.Value
public import Idealize.ShloMosaic.Lib.MatmulPlain
public import Idealize.ShloMosaic.Lib.KernelVsHost
public import Idealize.ShloMosaic.Lib.Pipeline.ValueKit.Tiles
public import Idealize.ShloMosaic.Lib.ValueIdx

@[expose] public section

set_option maxRecDepth 16384

noncomputable section

namespace Cert.CombineIdeal.Sum

open Cert.CombineIdeal Cert.CombineIdeal.Gen
open Cert.KernelIdeal.Experts (project hidden network zero_word hz2)
open Idealize.ShloMosaic Idealize.ShloMosaic.TcCoe Idealize.SL.Sem Idealize.ShloMosaic.ValueIdx
open scoped BigOperators

/-- A token's eight rows, each times its gate, added. -/
def gated (g : Fin 8 → EReal) (y : Fin 8 → Fin 1024 → EReal) (d : Fin 1024) : EReal := ∑ k : Fin 8, g k * y k d

/-- The eight terms added one after another to a start. -/
theorem added_in_order (s : EReal) (t : Fin 8 → EReal) :
    s + t 0 + t 1 + t 2 + t 3 + t 4 + t 5 + t 6 + t 7 = (∑ k : Fin 8, t k) + s := by
  rw [Fin.sum_univ_eight]
  simp only [add_assoc]
  rw [add_comm s]
  simp only [add_assoc]

/-- A gate column spread over the columns of a block. -/
theorem gate_apply (g : Vec Ideal S256x8 .f32) (k : Fin 8) (hs : S256x8.Slices ![0, k.val] S256x1) (r : Fin 256) (d : Fin 1024) :
    broadcastTo S256x1024 (extractStridedSlice S256x1 ![0, k.val] g hs) broadcasts_S256x1_S256x1024 (ix2 r d) = g (ix2 r k) := by
  refine (broadcastTo_apply _ _ (ix2 r d) (ix2 r (0 : Fin 1)) fun a => ?_).trans ?_
  · match a with
    | ⟨0, _⟩ => rfl
    | ⟨1, _⟩ => rfl
  · refine extractStridedSlice_apply _ _ _ _ (ix2 r k) fun a => ?_
    match a with
    | ⟨0, _⟩ => show r.val = 0 + r.val; omega
    | ⟨1, _⟩ => rfl

/-- One of the eight slabs, read as a block. -/
theorem slab_apply (y : Vec Ideal S8x256x1024 .f32) (k : Fin 8) (inb : ∀ a, (![k.val, 0, 0] : Fin 3 → Nat) a + S1x256x1024.size a ≤ S8x256x1024.size a)
    (hc : S1x256x1024.ShapeCasts S256x1024) (r : Fin 256) (d : Fin 1024) :
    shapeCast S256x1024 (View.ld (Val := Elt Ideal) (e' := .f32) y (Rect.unit (s := S8x256x1024) ![k.val, 0, 0] S1x256x1024.size inb)) hc (ix2 r d) = y (ix3 k r d) := by
  refine (shapeCast_dropUnit_apply ![256, 1024] _ _ (ix2 r d)).trans ?_
  refine View.ld_unit_apply_of y _ _ inb _ (ix3 k r d) fun a => ?_
  match a with
  | ⟨0, _⟩ => rfl
  | ⟨1, _⟩ => show r.val = 0 + r.val; omega
  | ⟨2, _⟩ => show d.val = 0 + d.val; omega

/-- A matrix product into zeros. -/
theorem first_apply (x : Vec Ideal S256x1024 .f32) (w : Vec Ideal S1024x256 .bf16) (r : Fin 256) (f : Fin 256) :
    FloatOps.matmul (F := Ideal) (φ₁ := .bf16) (φ₂ := .bf16) (DotDims.plain 256 1024 256) none (truncf (F := Ideal) .bf16 x bitsLt_bf16_f32)
        w (constant (F := Ideal) S256x256 .f32 0x00000000#32) (ix2 r f)
      = project (fun k => x (ix2 r k)) (fun k f => w (ix2 k f)) f := by
  refine (Ideal.matmul_plain_apply none _ _ _ r f).trans ?_
  rw [show constant (F := Ideal) S256x256 .f32 0x00000000#32 (ix2 r f) = 0 from zero_word, zero_add]
  rfl

/-- The step's shared part. -/
def shared (x : Vec Ideal S256x1024 .f32) (w1 w3 : Vec Ideal S1024x256 .bf16) (w2 : Vec Ideal S256x1024 .bf16) (r : Fin 256) (d : Fin 1024) : EReal :=
  network (fun k => x (ix2 r k)) (fun k f => w1 (ix2 k f)) (fun k f => w3 (ix2 k f)) (fun f d => w2 (ix2 f d)) d

/-- What the step leaves in its result block. -/
theorem block_value (y : Vec Ideal S8x256x1024 .f32) (x : Vec Ideal S256x1024 .f32) (g : Vec Ideal S256x8 .f32) (w1 w3 : Vec Ideal S1024x256 .bf16)
    (w2 : Vec Ideal S256x1024 .bf16) (r : Fin 256) (d : Fin 1024) :
    (out0_6 (F := Ideal) y x g w1 w3 w2 (ix2 r d) : EReal)
      = gated (fun k => g (ix2 r k)) (fun k d => y (ix3 k r d)) d + shared x w1 w3 w2 r d := by
  unfold out0_6
  rw [View.canon_unit_zero hz2]
  rw [show View.ld x r0_0 = x from View.ld_unit_zero hz2 _ x, show View.ld g r0_2 = g from View.ld_unit_zero hz2 _ g,
    show View.ld w1 r0_1 = w1 from View.ld_unit_zero hz2 _ w1, show View.ld w3 r0_1 = w3 from View.ld_unit_zero hz2 _ w3,
    show View.ld w2 r0_0 = w2 from View.ld_unit_zero hz2 _ w2]
  refine Eq.trans ?_ (added_in_order (shared x w1 w3 w2 r d) (fun k => g (ix2 r k) * y (ix3 k r d)))
  have both : ∀ {a b a' b' s s' : EReal}, s = s' → a = a' → b = b' → s + a * b = s' + a' * b' := fun h1 h2 h3 => by rw [h1, h2, h3]
  refine both (both (both (both (both (both (both (both ?_ ?_ ?_) ?_ ?_) ?_ ?_) ?_ ?_) ?_ ?_) ?_ ?_) ?_ ?_) ?_ ?_
  · refine (Ideal.matmul_plain_apply none _ _ _ r d).trans ?_
    rw [show constant (F := Ideal) S256x1024 .f32 0x00000000#32 (ix2 r d) = 0 from zero_word, zero_add]
    refine Finset.sum_congr rfl fun f _ => congrArg (fun p : EReal => p * w2 (ix2 f d)) ?_
    exact congrArg₂ (fun p q : EReal => p * Ideal.logistic p * q) (first_apply x w1 r f) (first_apply x w3 r f)
  · exact gate_apply g 0 slices_S256x8_o0_0_S256x1 r d
  · exact slab_apply y 0 _ _ r d
  · exact gate_apply g 1 slices_S256x8_o0_1_S256x1 r d
  · exact slab_apply y 1 _ _ r d
  · exact gate_apply g 2 slices_S256x8_o0_2_S256x1 r d
  · exact slab_apply y 2 _ _ r d
  · exact gate_apply g 3 slices_S256x8_o0_3_S256x1 r d
  · exact slab_apply y 3 _ _ r d
  · exact gate_apply g 4 slices_S256x8_o0_4_S256x1 r d
  · exact slab_apply y 4 _ _ r d
  · exact gate_apply g 5 slices_S256x8_o0_5_S256x1 r d
  · exact slab_apply y 5 _ _ r d
  · exact gate_apply g 6 slices_S256x8_o0_6_S256x1 r d
  · exact slab_apply y 6 _ _ r d
  · exact gate_apply g 7 slices_S256x8_o0_7_S256x1 r d
  · exact slab_apply y 7 _ _ r d

end Cert.CombineIdeal.Sum

end
-- ==== Proof.CombineReference.lean ====
/- What the reference of the combine call computes, element by element: the sum over a token's eight experts of the gate times
   the gathered row, plus the shared network's row. -/
module

public import proofs.«01_k».proof.Proof.CombineBlock
public import proofs.«01_k».proof.Proof.Gen.CombineRefIdeal.Run
public import proofs.«01_k».proof.Proof.Gen.CombineRefIdeal.Read

@[expose] public section

set_option maxRecDepth 16384

noncomputable section

namespace Cert.CombineRefIdeal.Sum

open Cert.CombineRefIdeal Cert.CombineRefIdeal.Gen Cert.CombineRefIdeal.Read
open Cert.KernelIdeal.Experts (project hidden network zero_word one_word)
open Cert.CombineIdeal.Sum (gated)
open Idealize.ShloMosaic Idealize.ShloMosaic.TcCoe Idealize.SL.Sem Idealize.ShloMosaic.ValueIdx
open scoped BigOperators

variable (x0 : (⟨S34816x8, .i32⟩ : BufTy).Contents (Elt Ideal)) (x1 : (⟨S311296x1024, .f32⟩ : BufTy).Contents (Elt Ideal))
  (x2 : (⟨S34816x1024, .f32⟩ : BufTy).Contents (Elt Ideal)) (x3 : (⟨S34816x8, .f32⟩ : BufTy).Contents (Elt Ideal))
  (x4 x5 : (⟨S1024x256, .bf16⟩ : BufTy).Contents (Elt Ideal)) (x6 : (⟨S256x1024, .bf16⟩ : BufTy).Contents (Elt Ideal))

theorem first_projection (t : Fin 34816) (f : Fin 256) :
    val_main_v3 (F := Ideal) x2 x4 (ix2 t f) = project (fun k => x2 (ix2 t k)) (fun k f => x4 (ix2 k f)) f := by
  rw [val_main_v3_apply]
  refine Finset.sum_congr rfl fun k _ => congrArg₂ (fun p q : EReal => p * q) (congrArg x2 ?_) ?_
  · funext a; match a with
    | ⟨0, _⟩ => rfl
    | ⟨1, _⟩ => rfl
  · rw [val_main_v0_apply]
    refine congrArg x4 ?_
    funext a; match a with
    | ⟨0, _⟩ => rfl
    | ⟨1, _⟩ => rfl

theorem second_projection (t : Fin 34816) (f : Fin 256) :
    val_main_v5 (F := Ideal) x2 x5 (ix2 t f) = project (fun k => x2 (ix2 t k)) (fun k f => x5 (ix2 k f)) f := by
  rw [val_main_v5_apply]
  refine Finset.sum_congr rfl fun k _ => congrArg₂ (fun p q : EReal => p * q) (congrArg x2 ?_) ?_
  · funext a; match a with
    | ⟨0, _⟩ => rfl
    | ⟨1, _⟩ => rfl
  · rw [val_main_v1_apply]
    refine congrArg x5 ?_
    funext a; match a with
    | ⟨0, _⟩ => rfl
    | ⟨1, _⟩ => rfl

theorem hidden_value (t : Fin 34816) (f : Fin 256) :
    val_main_v6 (F := Ideal) x2 x4 x5 (ix2 t f)
      = hidden (fun k => x2 (ix2 t k)) (fun k f => x4 (ix2 k f)) (fun k f => x5 (ix2 k f)) f := by
  rw [val_main_v6_apply, val_main_v4_apply, val_main_call0_v5_apply, val_main_call0_v4_apply, val_main_call0_cst_0_apply,
    val_main_call0_v3_apply, val_main_call0_v2_apply, val_main_call0_cst_apply, val_main_call0_v1_apply, val_main_call0_v0_apply,
    first_projection x2 x4, second_projection x2 x5]
  unfold Cert.KernelIdeal.Experts.hidden Ideal.logistic
  rw [← one_word]
  rfl

theorem shared_value (t : Fin 34816) (d : Fin 1024) :
    val_main_v7 (F := Ideal) x2 x4 x5 x6 (ix2 t d)
      = network (fun k => x2 (ix2 t k)) (fun k f => x4 (ix2 k f)) (fun k f => x5 (ix2 k f)) (fun f d => x6 (ix2 f d)) d := by
  rw [val_main_v7_apply]
  refine Finset.sum_congr rfl fun f _ => congrArg₂ (fun p q : EReal => p * q) ?_ ?_
  · refine Eq.trans (congrArg (val_main_v6 (F := Ideal) x2 x4 x5) ?_) (hidden_value x2 x4 x5 t f)
    funext a; match a with
    | ⟨0, _⟩ => rfl
    | ⟨1, _⟩ => rfl
  · rw [val_main_v2_apply]
    refine congrArg x6 ?_
    funext a; match a with
    | ⟨0, _⟩ => rfl
    | ⟨1, _⟩ => rfl

/-- The gates, transposed and spread over the columns. -/
theorem gate_value (k : Fin 8) (t : Fin 34816) (d : Fin 1024) : val_main_v18 (F := Ideal) x3 (ix3 k t d) = x3 (ix2 t k) := by
  rw [val_main_v18_apply, val_main_v9_apply, val_main_v8_apply]
  refine congrArg x3 ?_
  funext a; match a with
  | ⟨0, _⟩ => rfl
  | ⟨1, _⟩ => rfl

theorem gated_value (t : Fin 34816) (d : Fin 1024) :
    val_main_v20 (F := Ideal) x0 x1 x3 (ix2 t d)
      = gated (fun k => x3 (ix2 t k)) (fun k d => val_main_v17 (F := Ideal) x0 x1 (ix3 k t d)) d := by
  rw [val_main_v20_apply]
  rw [show (val_main_cst (F := Ideal)) (Shape.Idx.first h_S_) = 0 from zero_word, zero_add]
  refine Finset.sum_congr rfl fun k _ => ?_
  rw [show idx_main_v20 (ix2 t d) k = ix3 k t d from by
    funext a; match a with
    | ⟨0, _⟩ => rfl
    | ⟨1, _⟩ => rfl
    | ⟨2, _⟩ => rfl]
  rw [val_main_v19_apply]
  exact congrArg (fun p : EReal => p * val_main_v17 (F := Ideal) x0 x1 (ix3 k t d)) (gate_value x3 k t d)

/-- The reference's result. -/
theorem result_value (t : Fin 34816) (d : Fin 1024) :
    val_main_v21 (F := Ideal) x0 x1 x2 x3 x4 x5 x6 (ix2 t d)
      = gated (fun k => x3 (ix2 t k)) (fun k d => val_main_v17 (F := Ideal) x0 x1 (ix3 k t d)) d
        + network (fun k => x2 (ix2 t k)) (fun k f => x4 (ix2 k f)) (fun k f => x5 (ix2 k f)) (fun f d => x6 (ix2 f d)) d := by
  rw [val_main_v21_apply]
  exact congrArg₂ (fun p q : EReal => p + q) (gated_value x0 x1 x3 t d) (shared_value x2 x4 x5 x6 t d)

end Cert.CombineRefIdeal.Sum

end
-- ==== Proof.CombineEquation.lean ====
/- The combine call's blocks put together: point `t` reads and writes tokens `256 t` to `256 t + 255`, and after the grid the
   result array is what the reference computes. -/
module

public import proofs.«01_k».proof.Proof.CombineReference
public import Idealize.ShloMosaic.Lib.MatmulPlain
public import Idealize.ShloMosaic.Lib.Pipeline.Covers

@[expose] public section

set_option maxRecDepth 16384

noncomputable section

namespace Cert.CombineIdeal.Sum

open Cert.CombineIdeal Cert.CombineIdeal.Gen
open Cert.KernelIdeal.Experts (network)
open Idealize.ShloMosaic Idealize.ShloMosaic.TcCoe Idealize.SL.Sem Idealize.ShloMosaic.ValueIdx
open scoped BigOperators

variable (m : (ℓ : Loc nD τ sig) → Buf (Elt Ideal) ℓ)

/-- A launch's argument arrays: where each token's eight rows are, the experts' rows, the tokens, the gates and the
    shared network's weights. -/
def positions (c : Dev nD) : S34816x8.Idx → Elt Ideal .i32 := m ((c : Thread nD τ).loc main_arg0)
def expertRows (c : Dev nD) : S311296x1024.Idx → EReal := m ((c : Thread nD τ).loc main_arg1)
def tokens (c : Dev nD) : S34816x1024.Idx → EReal := m ((c : Thread nD τ).loc main_arg2)
def gates (c : Dev nD) : S34816x8.Idx → EReal := m ((c : Thread nD τ).loc main_arg3)
def first (c : Dev nD) : S1024x256.Idx → EReal := m ((c : Thread nD τ).loc main_arg4)
def second (c : Dev nD) : S1024x256.Idx → EReal := m ((c : Thread nD τ).loc main_arg5)
def output (c : Dev nD) : S256x1024.Idx → EReal := m ((c : Thread nD τ).loc main_arg6)

/-- The rows the launch gathers before the grid. -/
def gathered (c : Dev nD) : S8x34816x1024.Idx → EReal := V m c main_v7

/-- The token of a point's row. -/
def token (t : Fin cfg0.N) (r : Fin 256) : Fin 34816 :=
  ⟨256 * t.val + r.val, by have h := lt_of_lt_of_eq (b := 136) t.isLt N_0; have := r.isLt; omega⟩

theorem coord_val : ∀ t : Fin grid0.N, (grid0.coords t 0).val = t.val := by decide

theorem row_word (i : grid0.Coords) : (BitVec.ofNat 32 (i 0).val).toNat = (i 0).val := by
  have : (i 0).val < 136 := (i 0).isLt
  rw [BitVec.toNat_ofNat]; omega

/-! ## What a point reads -/

theorem gathered_read (c : Dev nD) (t : Fin cfg0.N) (k : Fin 8) (r : Fin 256) (d : Fin 1024) :
    (iblk m c 0 t : S8x256x1024.Idx → EReal) (ix3 k r d) = gathered m c (ix3 k (token t r) d) := by
  refine congrArg (gathered m c) (funext fun a => Fin.ext ?_)
  match a with
  | ⟨0, _⟩ =>
    refine ((cfg0.win 0).rect_emb_val t (ix3 k r d) (0 : Fin 3)).trans ?_
    show 0 * 8 + k.val = k.val
    omega
  | ⟨1, _⟩ =>
    refine ((cfg0.win 0).rect_emb_val t (ix3 k r d) (1 : Fin 3)).trans ?_
    refine (congrArg (fun n => n * 256 + r.val) ((row_word (grid0.coords t)).trans (coord_val t))).trans ?_
    exact congrArg (· + r.val) (Nat.mul_comm t.val 256)
  | ⟨2, _⟩ =>
    refine ((cfg0.win 0).rect_emb_val t (ix3 k r d) (2 : Fin 3)).trans ?_
    show 0 * 1024 + d.val = d.val
    omega

theorem tokens_read (c : Dev nD) (t : Fin cfg0.N) (r : Fin 256) (k : Fin 1024) :
    (iblk m c 1 t : S256x1024.Idx → EReal) (ix2 r k) = tokens m c (ix2 (token t r) k) := by
  have hV : (iblk m c 1 t : S256x1024.Idx → EReal) (ix2 r k)
      = (((cfg0.win 1).blk t).view.read (Elt Ideal) (m ((c : Thread nD τ).loc main_arg2)) : S256x1024.Idx → EReal) (ix2 r k) :=
    congrArg (fun B : Buf (Elt Ideal) ((c : Thread nD τ).loc main_arg2) =>
      (((cfg0.win 1).blk t).view.read (Elt Ideal) B : S256x1024.Idx → EReal) (ix2 r k)) (V_main_arg2 m c)
  refine hV.trans (congrArg (tokens m c) (funext fun a => Fin.ext ?_))
  match a with
  | ⟨0, _⟩ =>
    refine ((cfg0.win 1).rect_emb_val t (ix2 r k) (0 : Fin 2)).trans ?_
    refine (congrArg (fun n => n * 256 + r.val) ((row_word (grid0.coords t)).trans (coord_val t))).trans ?_
    exact congrArg (· + r.val) (Nat.mul_comm t.val 256)
  | ⟨1, _⟩ =>
    refine ((cfg0.win 1).rect_emb_val t (ix2 r k) (1 : Fin 2)).trans ?_
    show 0 * 1024 + k.val = k.val
    omega

theorem gates_read (c : Dev nD) (t : Fin cfg0.N) (r : Fin 256) (k : Fin 8) :
    (iblk m c 2 t : S256x8.Idx → EReal) (ix2 r k) = gates m c (ix2 (token t r) k) := by
  have hV : (iblk m c 2 t : S256x8.Idx → EReal) (ix2 r k)
      = (((cfg0.win 2).blk t).view.read (Elt Ideal) (m ((c : Thread nD τ).loc main_arg3)) : S256x8.Idx → EReal) (ix2 r k) :=
    congrArg (fun B : Buf (Elt Ideal) ((c : Thread nD τ).loc main_arg3) =>
      (((cfg0.win 2).blk t).view.read (Elt Ideal) B : S256x8.Idx → EReal) (ix2 r k)) (V_main_arg3 m c)
  refine hV.trans (congrArg (gates m c) (funext fun a => Fin.ext ?_))
  match a with
  | ⟨0, _⟩ =>
    refine ((cfg0.win 2).rect_emb_val t (ix2 r k) (0 : Fin 2)).trans ?_
    refine (congrArg (fun n => n * 256 + r.val) ((row_word (grid0.coords t)).trans (coord_val t))).trans ?_
    exact congrArg (· + r.val) (Nat.mul_comm t.val 256)
  | ⟨1, _⟩ =>
    refine ((cfg0.win 2).rect_emb_val t (ix2 r k) (1 : Fin 2)).trans ?_
    show 0 * 8 + k.val = k.val
    omega

theorem first_read (c : Dev nD) (t : Fin cfg0.N) (r : Fin 1024) (k : Fin 256) :
    (iblk m c 3 t : S1024x256.Idx → EReal) (ix2 r k) = first m c (ix2 r k) := by
  have hV : (iblk m c 3 t : S1024x256.Idx → EReal) (ix2 r k)
      = (((cfg0.win 3).blk t).view.read (Elt Ideal) (m ((c : Thread nD τ).loc main_arg4)) : S1024x256.Idx → EReal) (ix2 r k) :=
    congrArg (fun B : Buf (Elt Ideal) ((c : Thread nD τ).loc main_arg4) =>
      (((cfg0.win 3).blk t).view.read (Elt Ideal) B : S1024x256.Idx → EReal) (ix2 r k)) (V_main_arg4 m c)
  refine hV.trans (congrArg (first m c) (funext fun a => Fin.ext ?_))
  match a with
  | ⟨0, _⟩ =>
    refine ((cfg0.win 3).rect_emb_val t (ix2 r k) (0 : Fin 2)).trans ?_
    show 0 * 1024 + r.val = r.val
    omega
  | ⟨1, _⟩ =>
    refine ((cfg0.win 3).rect_emb_val t (ix2 r k) (1 : Fin 2)).trans ?_
    show 0 * 256 + k.val = k.val
    omega

theorem second_read (c : Dev nD) (t : Fin cfg0.N) (r : Fin 1024) (k : Fin 256) :
    (iblk m c 4 t : S1024x256.Idx → EReal) (ix2 r k) = second m c (ix2 r k) := by
  have hV : (iblk m c 4 t : S1024x256.Idx → EReal) (ix2 r k)
      = (((cfg0.win 4).blk t).view.read (Elt Ideal) (m ((c : Thread nD τ).loc main_arg5)) : S1024x256.Idx → EReal) (ix2 r k) :=
    congrArg (fun B : Buf (Elt Ideal) ((c : Thread nD τ).loc main_arg5) =>
      (((cfg0.win 4).blk t).view.read (Elt Ideal) B : S1024x256.Idx → EReal) (ix2 r k)) (V_main_arg5 m c)
  refine hV.trans (congrArg (second m c) (funext fun a => Fin.ext ?_))
  match a with
  | ⟨0, _⟩ =>
    refine ((cfg0.win 4).rect_emb_val t (ix2 r k) (0 : Fin 2)).trans ?_
    show 0 * 1024 + r.val = r.val
    omega
  | ⟨1, _⟩ =>
    refine ((cfg0.win 4).rect_emb_val t (ix2 r k) (1 : Fin 2)).trans ?_
    show 0 * 256 + k.val = k.val
    omega

theorem output_read (c : Dev nD) (t : Fin cfg0.N) (r : Fin 256) (k : Fin 1024) :
    (iblk m c 5 t : S256x1024.Idx → EReal) (ix2 r k) = output m c (ix2 r k) := by
  have hV : (iblk m c 5 t : S256x1024.Idx → EReal) (ix2 r k)
      = (((cfg0.win 5).blk t).view.read (Elt Ideal) (m ((c : Thread nD τ).loc main_arg6)) : S256x1024.Idx → EReal) (ix2 r k) :=
    congrArg (fun B : Buf (Elt Ideal) ((c : Thread nD τ).loc main_arg6) =>
      (((cfg0.win 5).blk t).view.read (Elt Ideal) B : S256x1024.Idx → EReal) (ix2 r k)) (V_main_arg6 m c)
  refine hV.trans (congrArg (output m c) (funext fun a => Fin.ext ?_))
  match a with
  | ⟨0, _⟩ =>
    refine ((cfg0.win 5).rect_emb_val t (ix2 r k) (0 : Fin 2)).trans ?_
    show 0 * 256 + r.val = r.val
    omega
  | ⟨1, _⟩ =>
    refine ((cfg0.win 5).rect_emb_val t (ix2 r k) (1 : Fin 2)).trans ?_
    show 0 * 1024 + k.val = k.val
    omega

/-! ## The result -/

/-- The combined rows. -/
def entry (c : Dev nD) (t : Fin 34816) (d : Fin 1024) : EReal :=
  gated (fun k => gates m c (ix2 t k)) (fun k d => gathered m c (ix3 k t d)) d
    + network (fun k => tokens m c (ix2 t k)) (fun k f => first m c (ix2 k f)) (fun k f => second m c (ix2 k f)) (fun f d => output m c (ix2 f d)) d

def combined (c : Dev nD) : S34816x1024.Idx → EReal := fun i => entry m c (i 0) (i 1)

/-- What a point leaves in its result block. -/
theorem block_apply (c : Dev nD) (t : Fin cfg0.N) (r : Fin 256) (d : Fin 1024) :
    (out0_6 (F := Ideal) (iblk m c 0 t) (iblk m c 1 t) (iblk m c 2 t) (iblk m c 3 t) (iblk m c 4 t) (iblk m c 5 t) (ix2 r d) : EReal)
      = combined m c (ix2 (token t r) d) := by
  refine (block_value (iblk m c 0 t) (iblk m c 1 t) (iblk m c 2 t) (iblk m c 3 t) (iblk m c 4 t) (iblk m c 5 t) r d).trans ?_
  refine congrArg₂ (fun p q : EReal => p + q) ?_ ?_
  · exact Finset.sum_congr rfl fun k _ => congrArg₂ (fun p q : EReal => p * q) (gates_read m c t r k) (gathered_read m c t k r d)
  · unfold shared
    rw [show (fun k => (iblk m c 1 t : S256x1024.Idx → EReal) (ix2 r k)) = fun k => tokens m c (ix2 (token t r) k) from
        funext fun k => tokens_read m c t r k,
      show (fun k f => (iblk m c 3 t : S1024x256.Idx → EReal) (ix2 k f)) = fun k f => first m c (ix2 k f) from
        funext fun k => funext fun f => first_read m c t k f,
      show (fun k f => (iblk m c 4 t : S1024x256.Idx → EReal) (ix2 k f)) = fun k f => second m c (ix2 k f) from
        funext fun k => funext fun f => second_read m c t k f,
      show (fun f d => (iblk m c 5 t : S256x1024.Idx → EReal) (ix2 f d)) = fun f d => output m c (ix2 f d) from
        funext fun f => funext fun d => output_read m c t f d]

/-- The blocks cover the result. -/
theorem covers : (cfg0.win 6).Covers :=
  (cfg0.win 6).covers_of_indexMap_surj rfl
    (fun a => by
      match a with
      | ⟨0, _⟩ => show 0 < 256; omega
      | ⟨1, _⟩ => show 0 < 1024; omega)
    fun β =>
    have b0 : (β (0 : Fin 2)).val < 136 := lt_of_lt_of_eq (β (0 : Fin 2)).isLt (show (34816 + (256 - 1)) / 256 = 136 by omega)
    have b1 : (β (1 : Fin 2)).val < 1 := lt_of_lt_of_eq (β (1 : Fin 2)).isLt (show (1024 + (1024 - 1)) / 1024 = 1 by omega)
    let i : grid0.Coords := fun a => match a with
      | ⟨0, _⟩ => ⟨(β (0 : Fin 2)).val, b0⟩
    ⟨i, fun a => by
      match a with
      | ⟨0, _⟩ => exact row_word i
      | ⟨1, _⟩ => show 0 = (β (1 : Fin 2)).val; omega⟩

/-- After the grid the result array is the combined rows. -/
theorem final (c : Dev nD) : (dats m 0 c).arrAt 6 cfg0.N = combined m c := by
  refine (dats m 0 c).arrAt_eq_of_covers 6 _ covers fun t _ y => ?_
  have hy : y = ix2 (y (0 : Fin 2)) (y (1 : Fin 2)) := eq_ix2 (n0 := 256) (n1 := 1024) y
  refine (congrFun (after0_6 m c t) _).trans ?_
  refine ((congrArg (out0_6 (F := Ideal) (iblk m c 0 t) (iblk m c 1 t) (iblk m c 2 t) (iblk m c 3 t) (iblk m c 4 t) (iblk m c 5 t)) hy).trans
    (block_apply m c t _ _)).trans (congrArg (combined m c) ?_)
  funext a; apply Fin.ext
  match a with
  | ⟨0, _⟩ =>
    refine Eq.symm (((cfg0.win 6).rect_emb_val t y (0 : Fin 2)).trans ?_)
    refine (congrArg (fun n => n * 256 + (y (0 : Fin 2)).val) ((row_word (grid0.coords t)).trans (coord_val t))).trans ?_
    exact congrArg (· + (y (0 : Fin 2)).val) (Nat.mul_comm t.val 256)
  | ⟨1, _⟩ =>
    refine Eq.symm (((cfg0.win 6).rect_emb_val t y (1 : Fin 2)).trans ?_)
    show 0 * 1024 + (y (1 : Fin 2)).val = (y (1 : Fin 2)).val
    omega

/-- The rows gathered before the grid are the rows the reference gathers. -/
theorem gathered_eq (c : Dev nD) : gathered m c = Cert.CombineRefIdeal.Read.val_main_v17 (F := Ideal) (positions m c) (expertRows m c) := by
  show (StableHlo.after hostOps0 (fun b => m (c, b)) (Proc.devRef .tc main_v7) : S8x34816x1024.Idx → EReal) = _
  simp only [hostOps0, StableHlo.TRef.binary, StableHlo.TRef.unary, StableHlo.TRef.toBuf, StableHlo.TRef.ofBuf, cast_eq]
  after_results_simp <;> rfl

/-- The kernel and the reference end with the same array. -/
theorem algebraic : Cert.algebraic_CombineIdeal_CombineRefIdeal (hCombineIdeal := Cert.CombineIdeal.Gen.facts) (hCombineRefIdeal := Cert.CombineRefIdeal.Gen.facts) := by
  intro m g m' g' _ hargs
  refine ⟨fun c => combined m c, ?_, ?_⟩
  · exact (θ_run _ _ _).mono (fun r h c => ⟨((h c).1).trans (final m c), (h c).2⟩) (Cert.CombineIdeal.Value.run_blocks m g)
  · refine (θ_run _ _ _).mono (fun r h c => ⟨((h c).1).trans ?_, (h c).2⟩) (Cert.CombineRefIdeal.Value.run m' g')
    refine (Cert.CombineRefIdeal.Read.val_main_v21_eq _ _ _ _ _ _ _).trans ?_
    obtain ⟨h0, h1, h2, h3, h4, h5, h6⟩ := hargs c
    rw [h0, h1, h2, h3, h4, h5, h6]
    funext i
    rw [show i = ix2 (i 0) (i 1) from eq_ix2 (n0 := 34816) (n1 := 1024) i]
    refine (Cert.CombineRefIdeal.Sum.result_value (positions m c) (expertRows m c) (tokens m c) (gates m c) (first m c) (second m c) (output m c) (i 0) (i 1)).trans ?_
    rw [← gathered_eq m c]
    rfl

end Cert.CombineIdeal.Sum

end
-- ==== Proof.FinishBlock.lean ====
/- What one step of the combine call computes in the last layer: for each of its 256 tokens, the shared network's row plus the
   eight gathered rows, each times its gate. -/
module

public import proofs.«01_k».proof.Proof.CombineBlock
public import proofs.«01_k».proof.Proof.Gen.FinishIdeal.Frame

@[expose] public section

set_option maxRecDepth 16384

noncomputable section

namespace Cert.FinishIdeal.Last

open Cert.FinishIdeal Cert.FinishIdeal.Gen
open Cert.CombineIdeal.Sum (gated added_in_order gate_apply slab_apply first_apply shared)
open Cert.KernelIdeal.Experts (project hidden network zero_word hz2)
open Idealize.ShloMosaic Idealize.ShloMosaic.TcCoe Idealize.SL.Sem Idealize.ShloMosaic.ValueIdx
open scoped BigOperators

/-- What the step leaves in its result block. -/
theorem block_value (y : Vec Ideal S8x256x1024 .f32) (x : Vec Ideal S256x1024 .f32) (g : Vec Ideal S256x8 .f32) (w1 w3 : Vec Ideal S1024x256 .bf16)
    (w2 : Vec Ideal S256x1024 .bf16) (r : Fin 256) (d : Fin 1024) :
    (out0_6 (F := Ideal) y x g w1 w3 w2 (ix2 r d) : EReal)
      = gated (fun k => g (ix2 r k)) (fun k d => y (ix3 k r d)) d + shared x w1 w3 w2 r d := by
  have hx : shapeCast S256x1024 x shapeCasts_S256x1024_S256x1024 = x := shapeCast_self x _
  unfold out0_6
  rw [View.canon_unit_zero hz2]
  rw [show View.ld x r0_0 = x from View.ld_unit_zero hz2 _ x, show View.ld g r0_2 = g from View.ld_unit_zero hz2 _ g,
    show View.ld w1 r0_1 = w1 from View.ld_unit_zero hz2 _ w1, show View.ld w3 r0_1 = w3 from View.ld_unit_zero hz2 _ w3,
    show View.ld w2 r0_0 = w2 from View.ld_unit_zero hz2 _ w2]
  refine Eq.trans ?_ (added_in_order (shared x w1 w3 w2 r d) (fun k => g (ix2 r k) * y (ix3 k r d)))
  have both : ∀ {a b a' b' s s' : EReal}, s = s' → a = a' → b = b' → s + a * b = s' + a' * b' := fun h1 h2 h3 => by rw [h1, h2, h3]
  refine both (both (both (both (both (both (both (both ?_ ?_ ?_) ?_ ?_) ?_ ?_) ?_ ?_) ?_ ?_) ?_ ?_) ?_ ?_) ?_ ?_
  · refine (Ideal.matmul_plain_apply none _ _ _ r d).trans ?_
    rw [show constant (F := Ideal) S256x1024 .f32 0x00000000#32 (ix2 r d) = 0 from zero_word, zero_add]
    refine Finset.sum_congr rfl fun f _ => congrArg (fun p : EReal => p * w2 (ix2 f d)) ?_
    exact congrArg₂ (fun p q : EReal => p * Ideal.logistic p * q)
      ((first_apply _ w1 r f).trans (by rw [hx])) ((first_apply _ w3 r f).trans (by rw [hx]))
  · exact gate_apply g 0 slices_S256x8_o0_0_S256x1 r d
  · exact slab_apply y 0 _ _ r d
  · exact gate_apply g 1 slices_S256x8_o0_1_S256x1 r d
  · exact slab_apply y 1 _ _ r d
  · exact gate_apply g 2 slices_S256x8_o0_2_S256x1 r d
  · exact slab_apply y 2 _ _ r d
  · exact gate_apply g 3 slices_S256x8_o0_3_S256x1 r d
  · exact slab_apply y 3 _ _ r d
  · exact gate_apply g 4 slices_S256x8_o0_4_S256x1 r d
  · exact slab_apply y 4 _ _ r d
  · exact gate_apply g 5 slices_S256x8_o0_5_S256x1 r d
  · exact slab_apply y 5 _ _ r d
  · exact gate_apply g 6 slices_S256x8_o0_6_S256x1 r d
  · exact slab_apply y 6 _ _ r d
  · exact gate_apply g 7 slices_S256x8_o0_7_S256x1 r d
  · exact slab_apply y 7 _ _ r d

end Cert.FinishIdeal.Last

end
-- ==== Proof.FinishReference.lean ====
/- What the reference of the last layer's end computes as the feed-forward rows, element by element: the sum over a token's eight
   experts of the gate times the gathered row, plus the shared network's row. -/
module

public import proofs.«01_k».proof.Proof.FinishBlock
public import proofs.«01_k».proof.Proof.Gen.FinishRefIdeal.Run
public import proofs.«01_k».proof.Proof.Gen.FinishRefIdeal.Read

@[expose] public section

set_option maxRecDepth 16384

noncomputable section

namespace Cert.FinishRefIdeal.Last

open Cert.FinishRefIdeal Cert.FinishRefIdeal.Gen Cert.FinishRefIdeal.Read
open Cert.KernelIdeal.Experts (project hidden network zero_word one_word)
open Cert.CombineIdeal.Sum (gated)
open Idealize.ShloMosaic Idealize.ShloMosaic.TcCoe Idealize.SL.Sem Idealize.ShloMosaic.ValueIdx
open scoped BigOperators

variable (x0 : (⟨S8x4096x1024, .f32⟩ : BufTy).Contents (Elt Ideal)) (x1 x2 : (⟨S8x1x1024, .f32⟩ : BufTy).Contents (Elt Ideal))
  (x4 : (⟨S32768x8, .i32⟩ : BufTy).Contents (Elt Ideal)) (x5 : (⟨S294912x1024, .f32⟩ : BufTy).Contents (Elt Ideal))
  (x6 : (⟨S32768x8, .f32⟩ : BufTy).Contents (Elt Ideal))
  (x7 x8 : (⟨S1024x256, .bf16⟩ : BufTy).Contents (Elt Ideal)) (x9 : (⟨S256x1024, .bf16⟩ : BufTy).Contents (Elt Ideal))

/-- The feed-forward block's input rows. -/
abbrev input := val_main_v9 (F := Ideal) x0 x1 x2

theorem first_projection (t : Fin 32768) (f : Fin 256) :
    val_main_v10 (F := Ideal) x0 x1 x2 x7 (ix2 t f) = project (fun k => input x0 x1 x2 (ix2 t k)) (fun k f => x7 (ix2 k f)) f := by
  rw [val_main_v10_apply]
  refine Finset.sum_congr rfl fun k _ => congrArg₂ (fun p q : EReal => p * q) (congrArg (input x0 x1 x2) ?_) ?_
  · funext a; match a with
    | ⟨0, _⟩ => rfl
    | ⟨1, _⟩ => rfl
  · rw [val_main_v0_apply]
    refine congrArg x7 ?_
    funext a; match a with
    | ⟨0, _⟩ => rfl
    | ⟨1, _⟩ => rfl

theorem second_projection (t : Fin 32768) (f : Fin 256) :
    val_main_v12 (F := Ideal) x0 x1 x2 x8 (ix2 t f) = project (fun k => input x0 x1 x2 (ix2 t k)) (fun k f => x8 (ix2 k f)) f := by
  rw [val_main_v12_apply]
  refine Finset.sum_congr rfl fun k _ => congrArg₂ (fun p q : EReal => p * q) (congrArg (input x0 x1 x2) ?_) ?_
  · funext a; match a with
    | ⟨0, _⟩ => rfl
    | ⟨1, _⟩ => rfl
  · rw [val_main_v1_apply]
    refine congrArg x8 ?_
    funext a; match a with
    | ⟨0, _⟩ => rfl
    | ⟨1, _⟩ => rfl

theorem hidden_value (t : Fin 32768) (f : Fin 256) :
    val_main_v13 (F := Ideal) x0 x1 x2 x7 x8 (ix2 t f)
      = hidden (fun k => input x0 x1 x2 (ix2 t k)) (fun k f => x7 (ix2 k f)) (fun k f => x8 (ix2 k f)) f := by
  rw [val_main_v13_apply, val_main_v11_apply, val_main_call0_v5_apply, val_main_call0_v4_apply, val_main_call0_cst_0_apply,
    val_main_call0_v3_apply, val_main_call0_v2_apply, val_main_call0_cst_apply, val_main_call0_v1_apply, val_main_call0_v0_apply,
    first_projection x0 x1 x2 x7, second_projection x0 x1 x2 x8]
  unfold Cert.KernelIdeal.Experts.hidden Ideal.logistic
  rw [← one_word]
  rfl

theorem shared_value (t : Fin 32768) (d : Fin 1024) :
    val_main_v14 (F := Ideal) x0 x1 x2 x7 x8 x9 (ix2 t d)
      = network (fun k => input x0 x1 x2 (ix2 t k)) (fun k f => x7 (ix2 k f)) (fun k f => x8 (ix2 k f)) (fun f d => x9 (ix2 f d)) d := by
  rw [val_main_v14_apply]
  refine Finset.sum_congr rfl fun f _ => congrArg₂ (fun p q : EReal => p * q) ?_ ?_
  · refine Eq.trans (congrArg (val_main_v13 (F := Ideal) x0 x1 x2 x7 x8) ?_) (hidden_value x0 x1 x2 x7 x8 t f)
    funext a; match a with
    | ⟨0, _⟩ => rfl
    | ⟨1, _⟩ => rfl
  · rw [val_main_v2_apply]
    refine congrArg x9 ?_
    funext a; match a with
    | ⟨0, _⟩ => rfl
    | ⟨1, _⟩ => rfl

/-- The gates, transposed and spread over the columns. -/
theorem gate_value (k : Fin 8) (t : Fin 32768) (d : Fin 1024) : val_main_v25 (F := Ideal) x6 (ix3 k t d) = x6 (ix2 t k) := by
  rw [val_main_v25_apply, val_main_v16_apply, val_main_v15_apply]
  refine congrArg x6 ?_
  funext a; match a with
  | ⟨0, _⟩ => rfl
  | ⟨1, _⟩ => rfl

theorem gated_value (t : Fin 32768) (d : Fin 1024) :
    val_main_v27 (F := Ideal) x4 x5 x6 (ix2 t d)
      = gated (fun k => x6 (ix2 t k)) (fun k d => val_main_v24 (F := Ideal) x4 x5 (ix3 k t d)) d := by
  rw [val_main_v27_apply]
  rw [show (val_main_cst_1 (F := Ideal)) (Shape.Idx.first h_S_) = 0 from zero_word, zero_add]
  refine Finset.sum_congr rfl fun k _ => ?_
  rw [show idx_main_v27 (ix2 t d) k = ix3 k t d from by
    funext a; match a with
    | ⟨0, _⟩ => rfl
    | ⟨1, _⟩ => rfl
    | ⟨2, _⟩ => rfl]
  rw [val_main_v26_apply]
  exact congrArg (fun p : EReal => p * val_main_v24 (F := Ideal) x4 x5 (ix3 k t d)) (gate_value x6 k t d)

/-- The feed-forward rows. -/
theorem result_value (t : Fin 32768) (d : Fin 1024) :
    val_main_v28 (F := Ideal) x0 x1 x2 x4 x5 x6 x7 x8 x9 (ix2 t d)
      = gated (fun k => x6 (ix2 t k)) (fun k d => val_main_v24 (F := Ideal) x4 x5 (ix3 k t d)) d
        + network (fun k => input x0 x1 x2 (ix2 t k)) (fun k f => x7 (ix2 k f)) (fun k f => x8 (ix2 k f)) (fun f d => x9 (ix2 f d)) d := by
  rw [val_main_v28_apply]
  exact congrArg₂ (fun p q : EReal => p + q) (gated_value x4 x5 x6 t d) (shared_value x0 x1 x2 x7 x8 x9 t d)

end Cert.FinishRefIdeal.Last

end
-- ==== Proof.FinishEquation.lean ====
/- The end of the last layer: the combine call's blocks put together, and the residual and norm after it. Point `t` reads and
   writes tokens `256 t` to `256 t + 255`; the layer's result is what the reference computes. -/
module

public import proofs.«01_k».proof.Proof.FinishReference
public import Idealize.ShloMosaic.Lib.MatmulPlain
public import Idealize.ShloMosaic.Lib.Pipeline.Covers

@[expose] public section

set_option maxRecDepth 16384

noncomputable section

namespace Cert.FinishIdeal.Last

open Cert.FinishIdeal Cert.FinishIdeal.Gen
open Cert.KernelIdeal.Experts (network)
open Cert.CombineIdeal.Sum (gated shared)
open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg)

/-- A launch's argument arrays: the latent rows, their shift, scale and modulation, where each token's eight rows are, the
    experts' rows, the gates, the shared network's weights and the norm's weight and bias. -/
def hiddenRows (c : Dev nD) : S8x4096x1024.Idx → EReal := m ((c : Thread nD τ).loc main_arg0)
def shift (c : Dev nD) : S8x1x1024.Idx → EReal := m ((c : Thread nD τ).loc main_arg1)
def scale (c : Dev nD) : S8x1x1024.Idx → EReal := m ((c : Thread nD τ).loc main_arg2)
def modulation (c : Dev nD) : S8x1x1024.Idx → EReal := m ((c : Thread nD τ).loc main_arg3)
def positions (c : Dev nD) : S32768x8.Idx → Elt Ideal .i32 := m ((c : Thread nD τ).loc main_arg4)
def expertRows (c : Dev nD) : S294912x1024.Idx → EReal := m ((c : Thread nD τ).loc main_arg5)
def gates (c : Dev nD) : S32768x8.Idx → EReal := m ((c : Thread nD τ).loc main_arg6)
def first (c : Dev nD) : S1024x256.Idx → EReal := m ((c : Thread nD τ).loc main_arg7)
def second (c : Dev nD) : S1024x256.Idx → EReal := m ((c : Thread nD τ).loc main_arg8)
def output (c : Dev nD) : S256x1024.Idx → EReal := m ((c : Thread nD τ).loc main_arg9)
def normWeight (c : Dev nD) : S1024.Idx → EReal := m ((c : Thread nD τ).loc main_arg10)
def normBias (c : Dev nD) : S1024.Idx → EReal := m ((c : Thread nD τ).loc main_arg11)

/-- The rows the launch gathers, and the input rows it makes, before the grid. -/
def gathered (c : Dev nD) : S8x32768x1024.Idx → EReal := V m c main_v14
def tokens (c : Dev nD) : S32768x1024.Idx → EReal := V m c main_v6

/-- The token of a point's row. -/
def token (t : Fin cfg0.N) (r : Fin 256) : Fin 32768 :=
  ⟨256 * t.val + r.val, by have h := lt_of_lt_of_eq (b := 128) t.isLt N_0; have := r.isLt; omega⟩

theorem coord_val : ∀ t : Fin grid0.N, (grid0.coords t 0).val = t.val := by decide

theorem row_word (i : grid0.Coords) : (BitVec.ofNat 32 (i 0).val).toNat = (i 0).val := by
  have : (i 0).val < 128 := (i 0).isLt
  rw [BitVec.toNat_ofNat]; omega

/-! ## What a point reads -/

theorem gathered_read (c : Dev nD) (t : Fin cfg0.N) (k : Fin 8) (r : Fin 256) (d : Fin 1024) :
    (iblk m c 0 t : S8x256x1024.Idx → EReal) (ix3 k r d) = gathered m c (ix3 k (token t r) d) := by
  refine congrArg (gathered m c) (funext fun a => Fin.ext ?_)
  match a with
  | ⟨0, _⟩ =>
    refine ((cfg0.win 0).rect_emb_val t (ix3 k r d) (0 : Fin 3)).trans ?_
    show 0 * 8 + k.val = k.val
    omega
  | ⟨1, _⟩ =>
    refine ((cfg0.win 0).rect_emb_val t (ix3 k r d) (1 : Fin 3)).trans ?_
    refine (congrArg (fun n => n * 256 + r.val) ((row_word (grid0.coords t)).trans (coord_val t))).trans ?_
    exact congrArg (· + r.val) (Nat.mul_comm t.val 256)
  | ⟨2, _⟩ =>
    refine ((cfg0.win 0).rect_emb_val t (ix3 k r d) (2 : Fin 3)).trans ?_
    show 0 * 1024 + d.val = d.val
    omega

theorem tokens_read (c : Dev nD) (t : Fin cfg0.N) (r : Fin 256) (k : Fin 1024) :
    (iblk m c 1 t : S256x1024.Idx → EReal) (ix2 r k) = tokens m c (ix2 (token t r) k) := by
  refine congrArg (tokens m c) (funext fun a => Fin.ext ?_)
  match a with
  | ⟨0, _⟩ =>
    refine ((cfg0.win 1).rect_emb_val t (ix2 r k) (0 : Fin 2)).trans ?_
    refine (congrArg (fun n => n * 256 + r.val) ((row_word (grid0.coords t)).trans (coord_val t))).trans ?_
    exact congrArg (· + r.val) (Nat.mul_comm t.val 256)
  | ⟨1, _⟩ =>
    refine ((cfg0.win 1).rect_emb_val t (ix2 r k) (1 : Fin 2)).trans ?_
    show 0 * 1024 + k.val = k.val
    omega

theorem gates_read (c : Dev nD) (t : Fin cfg0.N) (r : Fin 256) (k : Fin 8) :
    (iblk m c 2 t : S256x8.Idx → EReal) (ix2 r k) = gates m c (ix2 (token t r) k) := by
  have hV : (iblk m c 2 t : S256x8.Idx → EReal) (ix2 r k)
      = (((cfg0.win 2).blk t).view.read (Elt Ideal) (m ((c : Thread nD τ).loc main_arg6)) : S256x8.Idx → EReal) (ix2 r k) :=
    congrArg (fun B : Buf (Elt Ideal) ((c : Thread nD τ).loc main_arg6) =>
      (((cfg0.win 2).blk t).view.read (Elt Ideal) B : S256x8.Idx → EReal) (ix2 r k)) (V_main_arg6 m c)
  refine hV.trans (congrArg (gates m c) (funext fun a => Fin.ext ?_))
  match a with
  | ⟨0, _⟩ =>
    refine ((cfg0.win 2).rect_emb_val t (ix2 r k) (0 : Fin 2)).trans ?_
    refine (congrArg (fun n => n * 256 + r.val) ((row_word (grid0.coords t)).trans (coord_val t))).trans ?_
    exact congrArg (· + r.val) (Nat.mul_comm t.val 256)
  | ⟨1, _⟩ =>
    refine ((cfg0.win 2).rect_emb_val t (ix2 r k) (1 : Fin 2)).trans ?_
    show 0 * 8 + k.val = k.val
    omega

theorem first_read (c : Dev nD) (t : Fin cfg0.N) (r : Fin 1024) (k : Fin 256) :
    (iblk m c 3 t : S1024x256.Idx → EReal) (ix2 r k) = first m c (ix2 r k) := by
  have hV : (iblk m c 3 t : S1024x256.Idx → EReal) (ix2 r k)
      = (((cfg0.win 3).blk t).view.read (Elt Ideal) (m ((c : Thread nD τ).loc main_arg7)) : S1024x256.Idx → EReal) (ix2 r k) :=
    congrArg (fun B : Buf (Elt Ideal) ((c : Thread nD τ).loc main_arg7) =>
      (((cfg0.win 3).blk t).view.read (Elt Ideal) B : S1024x256.Idx → EReal) (ix2 r k)) (V_main_arg7 m c)
  refine hV.trans (congrArg (first m c) (funext fun a => Fin.ext ?_))
  match a with
  | ⟨0, _⟩ =>
    refine ((cfg0.win 3).rect_emb_val t (ix2 r k) (0 : Fin 2)).trans ?_
    show 0 * 1024 + r.val = r.val
    omega
  | ⟨1, _⟩ =>
    refine ((cfg0.win 3).rect_emb_val t (ix2 r k) (1 : Fin 2)).trans ?_
    show 0 * 256 + k.val = k.val
    omega

theorem second_read (c : Dev nD) (t : Fin cfg0.N) (r : Fin 1024) (k : Fin 256) :
    (iblk m c 4 t : S1024x256.Idx → EReal) (ix2 r k) = second m c (ix2 r k) := by
  have hV : (iblk m c 4 t : S1024x256.Idx → EReal) (ix2 r k)
      = (((cfg0.win 4).blk t).view.read (Elt Ideal) (m ((c : Thread nD τ).loc main_arg8)) : S1024x256.Idx → EReal) (ix2 r k) :=
    congrArg (fun B : Buf (Elt Ideal) ((c : Thread nD τ).loc main_arg8) =>
      (((cfg0.win 4).blk t).view.read (Elt Ideal) B : S1024x256.Idx → EReal) (ix2 r k)) (V_main_arg8 m c)
  refine hV.trans (congrArg (second m c) (funext fun a => Fin.ext ?_))
  match a with
  | ⟨0, _⟩ =>
    refine ((cfg0.win 4).rect_emb_val t (ix2 r k) (0 : Fin 2)).trans ?_
    show 0 * 1024 + r.val = r.val
    omega
  | ⟨1, _⟩ =>
    refine ((cfg0.win 4).rect_emb_val t (ix2 r k) (1 : Fin 2)).trans ?_
    show 0 * 256 + k.val = k.val
    omega

theorem output_read (c : Dev nD) (t : Fin cfg0.N) (r : Fin 256) (k : Fin 1024) :
    (iblk m c 5 t : S256x1024.Idx → EReal) (ix2 r k) = output m c (ix2 r k) := by
  have hV : (iblk m c 5 t : S256x1024.Idx → EReal) (ix2 r k)
      = (((cfg0.win 5).blk t).view.read (Elt Ideal) (m ((c : Thread nD τ).loc main_arg9)) : S256x1024.Idx → EReal) (ix2 r k) :=
    congrArg (fun B : Buf (Elt Ideal) ((c : Thread nD τ).loc main_arg9) =>
      (((cfg0.win 5).blk t).view.read (Elt Ideal) B : S256x1024.Idx → EReal) (ix2 r k)) (V_main_arg9 m c)
  refine hV.trans (congrArg (output m c) (funext fun a => Fin.ext ?_))
  match a with
  | ⟨0, _⟩ =>
    refine ((cfg0.win 5).rect_emb_val t (ix2 r k) (0 : Fin 2)).trans ?_
    show 0 * 256 + r.val = r.val
    omega
  | ⟨1, _⟩ =>
    refine ((cfg0.win 5).rect_emb_val t (ix2 r k) (1 : Fin 2)).trans ?_
    show 0 * 1024 + k.val = k.val
    omega

/-! ## The result -/

/-- The combined rows. -/
def entry (c : Dev nD) (t : Fin 32768) (d : Fin 1024) : EReal :=
  gated (fun k => gates m c (ix2 t k)) (fun k d => gathered m c (ix3 k t d)) d
    + network (fun k => tokens m c (ix2 t k)) (fun k f => first m c (ix2 k f)) (fun k f => second m c (ix2 k f)) (fun f d => output m c (ix2 f d)) d

def combined (c : Dev nD) : S32768x1024.Idx → EReal := fun i => entry m c (i 0) (i 1)

/-- What a point leaves in its result block. -/
theorem block_apply (c : Dev nD) (t : Fin cfg0.N) (r : Fin 256) (d : Fin 1024) :
    (out0_6 (F := Ideal) (iblk m c 0 t) (iblk m c 1 t) (iblk m c 2 t) (iblk m c 3 t) (iblk m c 4 t) (iblk m c 5 t) (ix2 r d) : EReal)
      = combined m c (ix2 (token t r) d) := by
  refine (block_value (iblk m c 0 t) (iblk m c 1 t) (iblk m c 2 t) (iblk m c 3 t) (iblk m c 4 t) (iblk m c 5 t) r d).trans ?_
  refine congrArg₂ (fun p q : EReal => p + q) ?_ ?_
  · exact Finset.sum_congr rfl fun k _ => congrArg₂ (fun p q : EReal => p * q) (gates_read m c t r k) (gathered_read m c t k r d)
  · unfold shared
    rw [show (fun k => (iblk m c 1 t : S256x1024.Idx → EReal) (ix2 r k)) = fun k => tokens m c (ix2 (token t r) k) from
        funext fun k => tokens_read m c t r k,
      show (fun k f => (iblk m c 3 t : S1024x256.Idx → EReal) (ix2 k f)) = fun k f => first m c (ix2 k f) from
        funext fun k => funext fun f => first_read m c t k f,
      show (fun k f => (iblk m c 4 t : S1024x256.Idx → EReal) (ix2 k f)) = fun k f => second m c (ix2 k f) from
        funext fun k => funext fun f => second_read m c t k f,
      show (fun f d => (iblk m c 5 t : S256x1024.Idx → EReal) (ix2 f d)) = fun f d => output m c (ix2 f d) from
        funext fun f => funext fun d => output_read m c t f d]

/-- The blocks cover the result. -/
theorem covers : (cfg0.win 6).Covers :=
  (cfg0.win 6).covers_of_indexMap_surj rfl
    (fun a => by
      match a with
      | ⟨0, _⟩ => show 0 < 256; omega
      | ⟨1, _⟩ => show 0 < 1024; omega)
    fun β =>
    have b0 : (β (0 : Fin 2)).val < 128 := lt_of_lt_of_eq (β (0 : Fin 2)).isLt (show (32768 + (256 - 1)) / 256 = 128 by omega)
    have b1 : (β (1 : Fin 2)).val < 1 := lt_of_lt_of_eq (β (1 : Fin 2)).isLt (show (1024 + (1024 - 1)) / 1024 = 1 by omega)
    let i : grid0.Coords := fun a => match a with
      | ⟨0, _⟩ => ⟨(β (0 : Fin 2)).val, b0⟩
    ⟨i, fun a => by
      match a with
      | ⟨0, _⟩ => exact row_word i
      | ⟨1, _⟩ => show 0 = (β (1 : Fin 2)).val; omega⟩

/-- After the grid the result array is the combined rows. -/
theorem final (c : Dev nD) : (dats m 0 c).arrAt 6 cfg0.N = combined m c := by
  refine (dats m 0 c).arrAt_eq_of_covers 6 _ covers fun t _ y => ?_
  have hy : y = ix2 (y (0 : Fin 2)) (y (1 : Fin 2)) := eq_ix2 (n0 := 256) (n1 := 1024) y
  refine (congrFun (after0_6 m c t) _).trans ?_
  refine ((congrArg (out0_6 (F := Ideal) (iblk m c 0 t) (iblk m c 1 t) (iblk m c 2 t) (iblk m c 3 t) (iblk m c 4 t) (iblk m c 5 t)) hy).trans
    (block_apply m c t _ _)).trans (congrArg (combined m c) ?_)
  funext a; apply Fin.ext
  match a with
  | ⟨0, _⟩ =>
    refine Eq.symm (((cfg0.win 6).rect_emb_val t y (0 : Fin 2)).trans ?_)
    refine (congrArg (fun n => n * 256 + (y (0 : Fin 2)).val) ((row_word (grid0.coords t)).trans (coord_val t))).trans ?_
    exact congrArg (· + (y (0 : Fin 2)).val) (Nat.mul_comm t.val 256)
  | ⟨1, _⟩ =>
    refine Eq.symm (((cfg0.win 6).rect_emb_val t y (1 : Fin 2)).trans ?_)
    show 0 * 1024 + (y (1 : Fin 2)).val = (y (1 : Fin 2)).val
    omega

/-! ## Before and after the grid -/

/-- The rows gathered before the grid are the rows the reference gathers. -/
theorem gathered_eq (c : Dev nD) : gathered m c = Cert.FinishRefIdeal.Read.val_main_v24 (F := Ideal) (positions m c) (expertRows m c) := by
  show (StableHlo.after hostOps0 (fun b => m (c, b)) (Proc.devRef .tc main_v14) : S8x32768x1024.Idx → EReal) = _
  simp only [hostOps0, StableHlo.TRef.binary, StableHlo.TRef.unary, StableHlo.TRef.toBuf, StableHlo.TRef.ofBuf, cast_eq]
  after_results_simp <;> rfl

/-- The input rows made before the grid are the reference's. -/
theorem tokens_eq (c : Dev nD) :
    tokens m c = Cert.FinishRefIdeal.Read.val_main_v9 (F := Ideal) (hiddenRows m c) (shift m c) (scale m c) := by
  show (StableHlo.after hostOps0 (fun b => m (c, b)) (Proc.devRef .tc main_v6) : S32768x1024.Idx → EReal) = _
  simp only [hostOps0, StableHlo.TRef.binary, StableHlo.TRef.unary, StableHlo.TRef.toBuf, StableHlo.TRef.ofBuf, cast_eq]
  after_results_simp <;> rfl

/-- The feed-forward rows are the reference's. -/
theorem combined_eq (c : Dev nD) :
    combined m c = Cert.FinishRefIdeal.Read.val_main_v28 (F := Ideal) (hiddenRows m c) (shift m c) (scale m c) (positions m c) (expertRows m c)
      (gates m c) (first m c) (second m c) (output m c) := by
  funext i
  rw [show i = ix2 (i 0) (i 1) from eq_ix2 (n0 := 32768) (n1 := 1024) i]
  refine Eq.trans ?_ (Cert.FinishRefIdeal.Last.result_value (hiddenRows m c) (shift m c) (scale m c) (positions m c) (expertRows m c)
    (gates m c) (first m c) (second m c) (output m c) (i 0) (i 1)).symm
  unfold Cert.FinishRefIdeal.Last.input
  rw [← gathered_eq m c, ← tokens_eq m c]
  rfl

/-- The scaled rows plus the modulated feed-forward rows. -/
def residual (f : FVec Ideal S32768x1024 .f32) (h : FVec Ideal S8x4096x1024 .f32) (g : FVec Ideal S8x1x1024 .f32) : FVec Ideal S8x4096x1024 .f32 :=
  addf (mulf (broadcastInDim S8x4096x1024 ![] bcast_S_S8x4096x1024 (constant S_ .f32 0x3FD744FD#32)) h)
    (mulf (broadcastInDim S8x4096x1024 ![0, 1, 2] bcast_S8x1x1024_S8x4096x1024_0_1_2 g) (shapeCast S8x4096x1024 f shapeCasts_S32768x1024_S8x4096x1024))

/-- A row's mean, as a column. -/
def mean (z : FVec Ideal S8x4096x1024 .f32) : FVec Ideal S8x4096x1 .f32 :=
  Host.divf (broadcastInDim S8x4096x1 ![0, 1] bcast_S8x4096_S8x4096x1_0_1
      (Host.reduceAdd z (constant S_ .f32 0x00000000#32) reducesTo_S8x4096x1024_S8x4096_d2 h_S_))
    (broadcastInDim S8x4096x1 ![] bcast_S_S8x4096x1 (constant S_ .f32 0x44800000#32))

/-- The rows less their mean. -/
def centred (z : FVec Ideal S8x4096x1024 .f32) : FVec Ideal S8x4096x1024 .f32 :=
  subf z (broadcastInDim S8x4096x1024 ![0, 1, 2] bcast_S8x4096x1_S8x4096x1024_0_1_2 (mean z))

/-- The layer norm of the rows. -/
def normed (z : FVec Ideal S8x4096x1024 .f32) (w b : FVec Ideal S1024 .f32) : FVec Ideal S8x4096x1024 .f32 :=
  addf (mulf (mulf (centred z) (broadcastInDim S8x4096x1024 ![0, 1, 2] bcast_S8x4096x1_S8x4096x1024_0_1_2
        (Host.rsqrt (addf (mean (mulf (centred z) (centred z))) (broadcastInDim S8x4096x1 ![] bcast_S_S8x4096x1 (constant S_ .f32 0x3727C5AC#32))))))
      (broadcastInDim S8x4096x1024 ![0, 1, 2] bcast_S1x1x1024_S8x4096x1024_0_1_2 (broadcastInDim S1x1x1024 ![2] bcast_S1024_S1x1x1024_2 w)))
    (broadcastInDim S8x4096x1024 ![0, 1, 2] bcast_S1x1x1024_S8x4096x1024_0_1_2 (broadcastInDim S1x1x1024 ![2] bcast_S1024_S1x1x1024_2 b))

/-- The operations after the region, from any contents before them. -/
theorem tail_of (W : Valuation τ sig (Elt Ideal)) : StableHlo.after hostOps1 W (Proc.devRef .tc main_v45)
    = normed (residual (W (Proc.devRef .tc main_v15)) (W (Proc.devRef .tc main_arg0)) (W (Proc.devRef .tc main_arg3)))
        (W (Proc.devRef .tc main_arg10)) (W (Proc.devRef .tc main_arg11)) := by
  simp only [hostOps1, StableHlo.TRef.binary, StableHlo.TRef.unary, StableHlo.TRef.toBuf, StableHlo.TRef.ofBuf, cast_eq]
  after_results_simp <;> rfl

/-- The layer's result. -/
def result (c : Dev nD) : FVec Ideal S8x4096x1024 .f32 :=
  normed (residual (combined m c) (hiddenRows m c) (modulation m c)) (normWeight m c) (normBias m c)

/-- It is the reference's. -/
theorem result_eq (c : Dev nD) :
    result m c = Cert.FinishRefIdeal.Read.val_main_v58 (F := Ideal) (hiddenRows m c) (shift m c) (scale m c) (modulation m c) (positions m c)
      (expertRows m c) (gates m c) (first m c) (second m c) (output m c) (normWeight m c) (normBias m c) := by
  refine (congrArg (fun f => normed (residual f (hiddenRows m c) (modulation m c)) (normWeight m c) (normBias m c)) (combined_eq m c)).trans ?_
  rfl

theorem tail_eq (c : Dev nD) : Pipeline.afterTail₀ cfgs (dats m) 0 (V0 m) [hostOps1] c main_v45 = result m c := by
  unfold Pipeline.afterTail₀
  rw [show List.flatten [hostOps1] = (hostOps1 : List (HloOp τ sig (Elt Ideal))) from rfl]
  refine (tail_of _).trans ?_
  have hf := (Pipeline.withArrays_arr spec0 launch0.win.arr_inj c (V0 m c) (fun w => (dats m 0 c).arrAt w cfg0.N) 6).trans (final m c)
  have h0 : Pipeline.withArrays spec0 c (V0 m c) (fun w => (dats m 0 c).arrAt w cfg0.N) (Proc.devRef .tc main_arg0) = m ((c : Thread nD τ).loc main_arg0) :=
    (Pipeline.withArrays_of_ne spec0 c (V0 m c) _ main_arg0 (by exact (by decide : ∀ w, Pipeline.arrRef spec0 w ≠ main_arg0))).trans (V_main_arg0 m c)
  have h3 : Pipeline.withArrays spec0 c (V0 m c) (fun w => (dats m 0 c).arrAt w cfg0.N) (Proc.devRef .tc main_arg3) = m ((c : Thread nD τ).loc main_arg3) :=
    (Pipeline.withArrays_of_ne spec0 c (V0 m c) _ main_arg3 (by exact (by decide : ∀ w, Pipeline.arrRef spec0 w ≠ main_arg3))).trans (V_main_arg3 m c)
  have h10 : Pipeline.withArrays spec0 c (V0 m c) (fun w => (dats m 0 c).arrAt w cfg0.N) (Proc.devRef .tc main_arg10) = m ((c : Thread nD τ).loc main_arg10) :=
    (Pipeline.withArrays_of_ne spec0 c (V0 m c) _ main_arg10 (by exact (by decide : ∀ w, Pipeline.arrRef spec0 w ≠ main_arg10))).trans (V_main_arg10 m c)
  have h11 : Pipeline.withArrays spec0 c (V0 m c) (fun w => (dats m 0 c).arrAt w cfg0.N) (Proc.devRef .tc main_arg11) = m ((c : Thread nD τ).loc main_arg11) :=
    (Pipeline.withArrays_of_ne spec0 c (V0 m c) _ main_arg11 (by exact (by decide : ∀ w, Pipeline.arrRef spec0 w ≠ main_arg11))).trans (V_main_arg11 m c)
  unfold result
  have all : ∀ {f f' : FVec Ideal S32768x1024 .f32} {h h' : FVec Ideal S8x4096x1024 .f32} {g g' : FVec Ideal S8x1x1024 .f32} {w w' b b' : FVec Ideal S1024 .f32},
      f = f' → h = h' → g = g' → w = w' → b = b' → normed (residual f h g) w b = normed (residual f' h' g') w' b' :=
    fun e1 e2 e3 e4 e5 => by rw [e1, e2, e3, e4, e5]
  exact all hf h0 h3 h10 h11

theorem run_result : θ_run (defs (F := Ideal)) (onTc (τ := τ) (main (F := Ideal))) ⟨m, fun _ => 0, ρ⟩ (fun r => ∀ c : Dev nD,
    r.2.mem ((c : Thread nD τ).loc main_v45) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)) :=
  (θ_run defs _ _).mono (fun _ h c =>
    ⟨((h c).2 main_v45 (Pipeline.mem_restRefs_of main_v45 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 2).trans (((dats m 0 c).arrAt_in 2 rfl _).trans ((A_eq m c 2).trans (V_main_arg6 m c))),
      ((h c).1 3).trans (((dats m 0 c).arrAt_in 3 rfl _).trans ((A_eq m c 3).trans (V_main_arg7 m c))),
      ((h c).1 4).trans (((dats m 0 c).arrAt_in 4 rfl _).trans ((A_eq m c 4).trans (V_main_arg8 m c))),
      ((h c).1 5).trans (((dats m 0 c).arrAt_in 5 rfl _).trans ((A_eq m c 5).trans (V_main_arg9 m c))),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

/-- The kernel and the reference end with the same array. -/
theorem algebraic : Cert.algebraic_FinishIdeal_FinishRefIdeal (hFinishIdeal := Cert.FinishIdeal.Gen.facts) (hFinishRefIdeal := Cert.FinishRefIdeal.Gen.facts) := by
  intro m g m' g' _ hargs
  refine ⟨fun c => result m c, ?_, ?_⟩
  · exact run_result m g
  · refine (θ_run _ _ _).mono (fun r h c => ⟨((h c).1).trans ?_, (h c).2⟩) (Cert.FinishRefIdeal.Value.run m' g')
    refine (Cert.FinishRefIdeal.Read.val_main_v58_eq m' c).trans ?_
    obtain ⟨h0, h1, h2, h3, h4, h5, h6, h7, h8, h9, h10, h11⟩ := hargs c
    rw [h0, h1, h2, h3, h4, h5, h6, h7, h8, h9, h10, h11]
    exact (result_eq m c).symm

end Cert.FinishIdeal.Last

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInRefIdeal
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.EvenInCtx
public import proofs.«01_k».proof.Proof.Gen.EvenInCtx.Skeleton
public import proofs.«01_k».proof.Proof.Gen.EvenInCtx.Launch
public import proofs.«01_k».proof.Proof.Gen.EvenInCtx.Points
public import proofs.«01_k».proof.Proof.Gen.EvenInCtx.Frame
public import proofs.«01_k».proof.Proof.Gen.EvenInCtxIdeal
public import proofs.«01_k».proof.Proof.Gen.EvenInCtxIdeal.Skeleton
public import proofs.«01_k».proof.Proof.Gen.EvenInCtxIdeal.Launch
public import proofs.«01_k».proof.Proof.Gen.EvenInCtxIdeal.Points
public import proofs.«01_k».proof.Proof.Gen.EvenInCtxIdeal.Frame
public import proofs.«01_k».proof.Proof.Gen.EvenInCtxRefIdeal
public import proofs.«01_k».proof.Proof.Gen.OddInCtx
public import proofs.«01_k».proof.Proof.Gen.OddInCtx.Skeleton
public import proofs.«01_k».proof.Proof.Gen.OddInCtx.Launch
public import proofs.«01_k».proof.Proof.Gen.OddInCtx.Points
public import proofs.«01_k».proof.Proof.Gen.OddInCtx.Frame
public import proofs.«01_k».proof.Proof.Gen.OddInCtxIdeal
public import proofs.«01_k».proof.Proof.Gen.OddInCtxIdeal.Skeleton
public import proofs.«01_k».proof.Proof.Gen.OddInCtxIdeal.Launch
public import proofs.«01_k».proof.Proof.Gen.OddInCtxIdeal.Points
public import proofs.«01_k».proof.Proof.Gen.OddInCtxIdeal.Frame
public import proofs.«01_k».proof.Proof.Gen.OddInCtxRefIdeal
public import proofs.«01_k».proof.Proof.Gen.OutProjCtx
public import proofs.«01_k».proof.Proof.Gen.OutProjCtx.Skeleton
public import proofs.«01_k».proof.Proof.Gen.OutProjCtx.Launch
public import proofs.«01_k».proof.Proof.Gen.OutProjCtx.Points
public import proofs.«01_k».proof.Proof.Gen.OutProjCtx.Frame
public import proofs.«01_k».proof.Proof.Gen.OutProjCtxIdeal
public import proofs.«01_k».proof.Proof.Gen.OutProjCtxIdeal.Skeleton
public import proofs.«01_k».proof.Proof.Gen.OutProjCtxIdeal.Launch
public import proofs.«01_k».proof.Proof.Gen.OutProjCtxIdeal.Points
public import proofs.«01_k».proof.Proof.Gen.OutProjCtxIdeal.Frame
public import proofs.«01_k».proof.Proof.Gen.OutProjCtxRefIdeal
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteRefIdeal
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.Pre_blocks_of_experts
public import proofs.«01_k».proof.Proof.Gen.Pre_finite_arguments
public import proofs.«01_k».proof.Proof.Gen.OutProjIdeal.Value
public import proofs.«01_k».proof.Proof.Gen.OddInIdeal.Value
public import proofs.«01_k».proof.Proof.Gen.OutProjCtxIdeal.Value
public import proofs.«01_k».proof.Proof.Gen.OddInCtxIdeal.Value
public import proofs.«01_k».proof.Proof.Gen.RouteIdeal.Value
public import proofs.«01_k».proof.Proof.Gen.EvenInRefIdeal.Run
public import proofs.«01_k».proof.Proof.Gen.EvenInRefIdeal.Read
public import proofs.«01_k».proof.Proof.Gen.OddInRefIdeal.Run
public import proofs.«01_k».proof.Proof.Gen.OddInRefIdeal.Read
public import proofs.«01_k».proof.Proof.Gen.OutProjRefIdeal.Run
public import proofs.«01_k».proof.Proof.Gen.OutProjRefIdeal.Read
public import proofs.«01_k».proof.Proof.Gen.EvenInCtxRefIdeal.Run
public import proofs.«01_k».proof.Proof.Gen.EvenInCtxRefIdeal.Read
public import proofs.«01_k».proof.Proof.Gen.OddInCtxRefIdeal.Run
public import proofs.«01_k».proof.Proof.Gen.OddInCtxRefIdeal.Read
public import proofs.«01_k».proof.Proof.Gen.OutProjCtxRefIdeal.Run
public import proofs.«01_k».proof.Proof.Gen.OutProjCtxRefIdeal.Read
public import proofs.«01_k».proof.Proof.Gen.RouteRefIdeal.Run
public import proofs.«01_k».proof.Proof.Gen.RouteRefIdeal.Read
public import proofs.«01_k».proof.Proof.Gen.CombineIdeal.Value
public import proofs.«01_k».proof.Proof.Gen.CombineRefIdeal.Run
public import proofs.«01_k».proof.Proof.Gen.CombineRefIdeal.Read
public import proofs.«01_k».proof.Proof.Gen.Finish
public import proofs.«01_k».proof.Proof.Gen.Finish.Skeleton
public import proofs.«01_k».proof.Proof.Gen.Finish.Launch
public import proofs.«01_k».proof.Proof.Gen.Finish.Points
public import proofs.«01_k».proof.Proof.Gen.Finish.Frame
public import proofs.«01_k».proof.Proof.Gen.FinishIdeal
public import proofs.«01_k».proof.Proof.Gen.FinishIdeal.Skeleton
public import proofs.«01_k».proof.Proof.Gen.FinishIdeal.Launch
public import proofs.«01_k».proof.Proof.Gen.FinishIdeal.Points
public import proofs.«01_k».proof.Proof.Gen.FinishIdeal.Frame
public import proofs.«01_k».proof.Proof.Gen.FinishRefIdeal
public import proofs.«01_k».proof.Proof.Gen.FinishRefIdeal.Run
public import proofs.«01_k».proof.Proof.Gen.FinishRefIdeal.Read
public import proofs.«01_k».proof.Proof.ExpertsTables
public import proofs.«01_k».proof.Proof.ExpertsEquation
public import proofs.«01_k».proof.Proof.EvenInProduct
public import proofs.«01_k».proof.Proof.OddInProduct
public import proofs.«01_k».proof.Proof.OutProjProduct
public import proofs.«01_k».proof.Proof.EvenInCtxProduct
public import proofs.«01_k».proof.Proof.OddInCtxProduct
public import proofs.«01_k».proof.Proof.OutProjCtxProduct
public import proofs.«01_k».proof.Proof.RouteEquation
public import proofs.«01_k».proof.Proof.CombineEquation
public import proofs.«01_k».proof.Proof.FinishEquation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.EvenIn.Gen.facts, Cert.EvenInIdeal.Gen.facts, Cert.EvenInRefIdeal.Gen.facts, Cert.OddIn.Gen.facts, Cert.OddInIdeal.Gen.facts, Cert.OddInRefIdeal.Gen.facts, Cert.OutProj.Gen.facts, Cert.OutProjIdeal.Gen.facts, Cert.OutProjRefIdeal.Gen.facts, Cert.EvenInCtx.Gen.facts, Cert.EvenInCtxIdeal.Gen.facts, Cert.EvenInCtxRefIdeal.Gen.facts, Cert.OddInCtx.Gen.facts, Cert.OddInCtxIdeal.Gen.facts, Cert.OddInCtxRefIdeal.Gen.facts, Cert.OutProjCtx.Gen.facts, Cert.OutProjCtxIdeal.Gen.facts, Cert.OutProjCtxRefIdeal.Gen.facts, Cert.Route.Gen.facts, Cert.RouteIdeal.Gen.facts, Cert.RouteRefIdeal.Gen.facts, Cert.Combine.Gen.facts, Cert.CombineIdeal.Gen.facts, Cert.CombineRefIdeal.Gen.facts, Cert.Finish.Gen.facts, Cert.FinishIdeal.Gen.facts, Cert.FinishRefIdeal.Gen.facts, Cert.Pre_blocks_of_experts.Gen.facts, Cert.Pre_finite_arguments.Gen.facts,
  (fun m g h => Cert.Kernel.Experts.frame_of_pre m g h),
  (fun m g h => Cert.KernelIdeal.Experts.frame_of_pre m g h),
  (fun m g _ => (θ_run _ _ _).mono (fun r h => ⟨fun c => (h c).2, Idealize.ShloMosaic.sem_eq_zero_of_no_sems (by decide) r.2⟩)
    (Cert.ReferenceIdeal.Value.run m g)),
  (fun m g _ => Cert.EvenIn.Gen.frame m g),
  (fun m g _ => Cert.EvenInIdeal.Gen.frame m g),
  (fun m g _ => (θ_run _ _ _).mono (fun r h => ⟨fun c => (h c).2, Idealize.ShloMosaic.sem_eq_zero_of_no_sems (by decide) r.2⟩)
    (Cert.EvenInRefIdeal.Value.run m g)),
  (fun m g _ => Cert.OddIn.Gen.frame m g),
  (fun m g _ => Cert.OddInIdeal.Gen.frame m g),
  (fun m g _ => (θ_run _ _ _).mono (fun r h => ⟨fun c => (h c).2, Idealize.ShloMosaic.sem_eq_zero_of_no_sems (by decide) r.2⟩)
    (Cert.OddInRefIdeal.Value.run m g)),
  (fun m g _ => Cert.OutProj.Gen.frame m g),
  (fun m g _ => Cert.OutProjIdeal.Gen.frame m g),
  (fun m g _ => (θ_run _ _ _).mono (fun r h => ⟨fun c => (h c).2, Idealize.ShloMosaic.sem_eq_zero_of_no_sems (by decide) r.2⟩)
    (Cert.OutProjRefIdeal.Value.run m g)),
  (fun m g _ => Cert.EvenInCtx.Gen.frame m g),
  (fun m g _ => Cert.EvenInCtxIdeal.Gen.frame m g),
  (fun m g _ => (θ_run _ _ _).mono (fun r h => ⟨fun c => (h c).2, Idealize.ShloMosaic.sem_eq_zero_of_no_sems (by decide) r.2⟩)
    (Cert.EvenInCtxRefIdeal.Value.run m g)),
  (fun m g _ => Cert.OddInCtx.Gen.frame m g),
  (fun m g _ => Cert.OddInCtxIdeal.Gen.frame m g),
  (fun m g _ => (θ_run _ _ _).mono (fun r h => ⟨fun c => (h c).2, Idealize.ShloMosaic.sem_eq_zero_of_no_sems (by decide) r.2⟩)
    (Cert.OddInCtxRefIdeal.Value.run m g)),
  (fun m g _ => Cert.OutProjCtx.Gen.frame m g),
  (fun m g _ => Cert.OutProjCtxIdeal.Gen.frame m g),
  (fun m g _ => (θ_run _ _ _).mono (fun r h => ⟨fun c => (h c).2, Idealize.ShloMosaic.sem_eq_zero_of_no_sems (by decide) r.2⟩)
    (Cert.OutProjCtxRefIdeal.Value.run m g)),
  (fun m g _ => Cert.Route.Gen.frame m g),
  (fun m g _ => Cert.RouteIdeal.Gen.frame m g),
  (fun m g _ => Cert.RouteIdeal.Gen.frame m g),
  (fun m g _ => (θ_run _ _ _).mono (fun r h => ⟨fun c => (h c).2.2.2.2, Idealize.ShloMosaic.sem_eq_zero_of_no_sems (by decide) r.2⟩)
    (Cert.RouteRefIdeal.Value.run m g)),
  (fun m g _ => (θ_run _ _ _).mono (fun r h => ⟨fun c => (h c).2.2.2.2, Idealize.ShloMosaic.sem_eq_zero_of_no_sems (by decide) r.2⟩)
    (Cert.RouteRefIdeal.Value.run m g)),
  (fun m g _ => Cert.Combine.Gen.frame m g),
  (fun m g _ => Cert.CombineIdeal.Gen.frame m g),
  (fun m g _ => (θ_run _ _ _).mono (fun r h => ⟨fun c => (h c).2, Idealize.ShloMosaic.sem_eq_zero_of_no_sems (by decide) r.2⟩)
    (Cert.CombineRefIdeal.Value.run m g)),
  (fun m g _ => Cert.Finish.Gen.frame m g),
  (fun m g _ => Cert.FinishIdeal.Gen.frame m g),
  (fun m g _ => (θ_run _ _ _).mono (fun r h => ⟨fun c => (h c).2, Idealize.ShloMosaic.sem_eq_zero_of_no_sems (by decide) r.2⟩)
    (Cert.FinishRefIdeal.Value.run m g)),
  trivial,
  Cert.KernelIdeal.Experts.algebraic,
  trivial,
  Cert.EvenInIdeal.Product.algebraic,
  trivial,
  Cert.OddInIdeal.Product.algebraic,
  trivial,
  Cert.OutProjIdeal.Product.algebraic,
  trivial,
  Cert.EvenInCtxIdeal.Product.algebraic,
  trivial,
  Cert.OddInCtxIdeal.Product.algebraic,
  trivial,
  Cert.OutProjCtxIdeal.Product.algebraic,
  trivial,
  Cert.RouteIdeal.Equation.algebraic,
  trivial,
  Cert.CombineIdeal.Sum.algebraic,
  trivial,
  Cert.FinishIdeal.Last.algebraic⟩

end Cert.Proof

end
